-- ==== Defs.lean ====
def Pre_Attention [hPre_chunks_in_range : Cert.Pre_chunks_in_range.Facts] (m : (ℓ : Loc Cert.Attention.nD Cert.Attention.τ Cert.Attention.sig) → Buf (Elt Bits) ℓ) : Prop :=
  ∀ c : Dev Cert.Attention.nD,
    (Cert.Pre_chunks_in_range.fn (F := Bits) (m ((c.tc : Thread Cert.Attention.nD Cert.Attention.τ).loc Cert.Attention.main_arg0)) (m ((c.tc : Thread Cert.Attention.nD Cert.Attention.τ).loc Cert.Attention.main_arg1)) (m ((c.tc : Thread Cert.Attention.nD Cert.Attention.τ).loc Cert.Attention.main_arg2)) (m ((c.tc : Thread Cert.Attention.nD Cert.Attention.τ).loc Cert.Attention.main_arg3)) (m ((c.tc : Thread Cert.Attention.nD Cert.Attention.τ).loc Cert.Attention.main_arg4)) (m ((c.tc : Thread Cert.Attention.nD Cert.Attention.τ).loc Cert.Attention.main_arg5)) (m ((c.tc : Thread Cert.Attention.nD Cert.Attention.τ).loc Cert.Attention.main_arg6)) (m ((c.tc : Thread Cert.Attention.nD Cert.Attention.τ).loc Cert.Attention.main_arg7))) = (fun _ => 1#1)

def Pre_AttentionIdeal [hPre_chunks_in_range : Cert.Pre_chunks_in_range.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_chunks_in_range.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4)) (m ((c.tc : Thread Cert.AttentionIdeal.nD Cert.AttentionIdeal.τ).loc Cert.AttentionIdeal.main_arg5)) (m ((c.tc : Thread Cert.AttentionIdeal.nD Cert.AttentionIdeal.τ).loc Cert.AttentionIdeal.main_arg6)) (m ((c.tc : Thread Cert.AttentionIdeal.nD Cert.AttentionIdeal.τ).loc Cert.AttentionIdeal.main_arg7))) = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_chunks_in_range [hPre_chunks_in_range : Cert.Pre_chunks_in_range.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_chunks_in_range.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2)) (m ((c.tc : Thread Cert.AttentionRefIdeal.nD Cert.AttentionRefIdeal.τ).loc Cert.AttentionRefIdeal.main_arg3)) (m ((c.tc : Thread Cert.AttentionRefIdeal.nD Cert.AttentionRefIdeal.τ).loc Cert.AttentionRefIdeal.main_arg4)) (m ((c.tc : Thread Cert.AttentionRefIdeal.nD Cert.AttentionRefIdeal.τ).loc Cert.AttentionRefIdeal.main_arg5)) (m ((c.tc : Thread Cert.AttentionRefIdeal.nD Cert.AttentionRefIdeal.τ).loc Cert.AttentionRefIdeal.main_arg6)) (m ((c.tc : Thread Cert.AttentionRefIdeal.nD Cert.AttentionRefIdeal.τ).loc Cert.AttentionRefIdeal.main_arg7))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def quiescent_Attention [hAttention : Cert.Attention.Facts] [hPre_chunks_in_range : Cert.Pre_chunks_in_range.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5)
      ∧ r.2.mem ((c.tc : Thread Cert.Attention.nD Cert.Attention.τ).loc Cert.Attention.main_arg6) = m ((c.tc : Thread Cert.Attention.nD Cert.Attention.τ).loc Cert.Attention.main_arg6)
      ∧ r.2.mem ((c.tc : Thread Cert.Attention.nD Cert.Attention.τ).loc Cert.Attention.main_arg7) = m ((c.tc : Thread Cert.Attention.nD Cert.Attention.τ).loc Cert.Attention.main_arg7))
      ∧ r.2.sem = fun _ => 0)

def quiescent_AttentionIdeal [hAttentionIdeal : Cert.AttentionIdeal.Facts] [hPre_chunks_in_range : Cert.Pre_chunks_in_range.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3)
      ∧ r.2.mem ((c.tc : Thread Cert.AttentionRefIdeal.nD Cert.AttentionRefIdeal.τ).loc Cert.AttentionRefIdeal.main_arg4) = m ((c.tc : Thread Cert.AttentionRefIdeal.nD Cert.AttentionRefIdeal.τ).loc Cert.AttentionRefIdeal.main_arg4)
      ∧ r.2.mem ((c.tc : Thread Cert.AttentionRefIdeal.nD Cert.AttentionRefIdeal.τ).loc Cert.AttentionRefIdeal.main_arg5) = m ((c.tc : Thread Cert.AttentionRefIdeal.nD Cert.AttentionRefIdeal.τ).loc Cert.AttentionRefIdeal.main_arg5)
      ∧ r.2.mem ((c.tc : Thread Cert.AttentionRefIdeal.nD Cert.AttentionRefIdeal.τ).loc Cert.AttentionRefIdeal.main_arg6) = m ((c.tc : Thread Cert.AttentionRefIdeal.nD Cert.AttentionRefIdeal.τ).loc Cert.AttentionRefIdeal.main_arg6)
      ∧ r.2.mem ((c.tc : Thread Cert.AttentionRefIdeal.nD Cert.AttentionRefIdeal.τ).loc Cert.AttentionRefIdeal.main_arg7) = m ((c.tc : Thread Cert.AttentionRefIdeal.nD Cert.AttentionRefIdeal.τ).loc Cert.AttentionRefIdeal.main_arg7))
      ∧ r.2.sem = fun _ => 0)

def quiescent_AttentionRefIdeal_pre_chunks_in_range [hAttentionRefIdeal : Cert.AttentionRefIdeal.Facts] [hPre_chunks_in_range : Cert.Pre_chunks_in_range.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_chunks_in_range m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3)
      ∧ r.2.mem ((c.tc : Thread Cert.AttentionRefIdeal.nD Cert.AttentionRefIdeal.τ).loc Cert.AttentionRefIdeal.main_arg4) = m ((c.tc : Thread Cert.AttentionRefIdeal.nD Cert.AttentionRefIdeal.τ).loc Cert.AttentionRefIdeal.main_arg4)
      ∧ r.2.mem ((c.tc : Thread Cert.AttentionRefIdeal.nD Cert.AttentionRefIdeal.τ).loc Cert.AttentionRefIdeal.main_arg5) = m ((c.tc : Thread Cert.AttentionRefIdeal.nD Cert.AttentionRefIdeal.τ).loc Cert.AttentionRefIdeal.main_arg5)
      ∧ r.2.mem ((c.tc : Thread Cert.AttentionRefIdeal.nD Cert.AttentionRefIdeal.τ).loc Cert.AttentionRefIdeal.main_arg6) = m ((c.tc : Thread Cert.AttentionRefIdeal.nD Cert.AttentionRefIdeal.τ).loc Cert.AttentionRefIdeal.main_arg6)
      ∧ r.2.mem ((c.tc : Thread Cert.AttentionRefIdeal.nD Cert.AttentionRefIdeal.τ).loc Cert.AttentionRefIdeal.main_arg7) = m ((c.tc : Thread Cert.AttentionRefIdeal.nD Cert.AttentionRefIdeal.τ).loc Cert.AttentionRefIdeal.main_arg7))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7))
      ∧ r.2.sem = fun _ => 0)

def preserves_Attention_AttentionIdeal : Prop :=
  True

def algebraic_AttentionIdeal_AttentionRefIdeal [hAttentionIdeal : Cert.AttentionIdeal.Facts] [hAttentionRefIdeal : Cert.AttentionRefIdeal.Facts] [hPre_chunks_in_range : Cert.Pre_chunks_in_range.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)
      ∧ m' ((c.tc : Thread Cert.AttentionRefIdeal.nD Cert.AttentionRefIdeal.τ).loc Cert.AttentionRefIdeal.main_arg3) = m ((c.tc : Thread Cert.AttentionIdeal.nD Cert.AttentionIdeal.τ).loc Cert.AttentionIdeal.main_arg3)
      ∧ m' ((c.tc : Thread Cert.AttentionRefIdeal.nD Cert.AttentionRefIdeal.τ).loc Cert.AttentionRefIdeal.main_arg4) = m ((c.tc : Thread Cert.AttentionIdeal.nD Cert.AttentionIdeal.τ).loc Cert.AttentionIdeal.main_arg4)
      ∧ m' ((c.tc : Thread Cert.AttentionRefIdeal.nD Cert.AttentionRefIdeal.τ).loc Cert.AttentionRefIdeal.main_arg5) = m ((c.tc : Thread Cert.AttentionIdeal.nD Cert.AttentionIdeal.τ).loc Cert.AttentionIdeal.main_arg5)
      ∧ m' ((c.tc : Thread Cert.AttentionRefIdeal.nD Cert.AttentionRefIdeal.τ).loc Cert.AttentionRefIdeal.main_arg6) = m ((c.tc : Thread Cert.AttentionIdeal.nD Cert.AttentionIdeal.τ).loc Cert.AttentionIdeal.main_arg6)
      ∧ m' ((c.tc : Thread Cert.AttentionRefIdeal.nD Cert.AttentionRefIdeal.τ).loc Cert.AttentionRefIdeal.main_arg7) = m ((c.tc : Thread Cert.AttentionIdeal.nD Cert.AttentionIdeal.τ).loc Cert.AttentionIdeal.main_arg7)) →
    ∃ (v0 : (c : Dev Cert.AttentionIdeal.nD) → Buf (Elt Ideal) ((c.tc : Thread Cert.AttentionIdeal.nD Cert.AttentionIdeal.τ).loc Cert.AttentionIdeal.main_v0_0)) (v1 : (c : Dev Cert.AttentionIdeal.nD) → Buf (Elt Ideal) ((c.tc : Thread Cert.AttentionIdeal.nD Cert.AttentionIdeal.τ).loc Cert.AttentionIdeal.main_v0_1)) (v2 : (c : Dev Cert.AttentionIdeal.nD) → Buf (Elt Ideal) ((c.tc : Thread Cert.AttentionIdeal.nD Cert.AttentionIdeal.τ).loc Cert.AttentionIdeal.main_v0_2)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0_0) = v0 c
          ∧ r.2.mem ((c.tc : Thread Cert.AttentionIdeal.nD Cert.AttentionIdeal.τ).loc Cert.AttentionIdeal.main_v0_1) = v1 c
          ∧ r.2.mem ((c.tc : Thread Cert.AttentionIdeal.nD Cert.AttentionIdeal.τ).loc Cert.AttentionIdeal.main_v0_2) = v2 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
          ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
          ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
          ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v56) = v0 c
          ∧ r.2.mem ((c.tc : Thread Cert.AttentionRefIdeal.nD Cert.AttentionRefIdeal.τ).loc Cert.AttentionRefIdeal.main_v41) = v1 c
          ∧ r.2.mem ((c.tc : Thread Cert.AttentionRefIdeal.nD Cert.AttentionRefIdeal.τ).loc Cert.AttentionRefIdeal.main_v57) = v2 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2)
          ∧ r.2.mem ((c.tc : Thread Cert.AttentionRefIdeal.nD Cert.AttentionRefIdeal.τ).loc Cert.AttentionRefIdeal.main_arg3) = m' ((c.tc : Thread Cert.AttentionRefIdeal.nD Cert.AttentionRefIdeal.τ).loc Cert.AttentionRefIdeal.main_arg3)
          ∧ r.2.mem ((c.tc : Thread Cert.AttentionRefIdeal.nD Cert.AttentionRefIdeal.τ).loc Cert.AttentionRefIdeal.main_arg4) = m' ((c.tc : Thread Cert.AttentionRefIdeal.nD Cert.AttentionRefIdeal.τ).loc Cert.AttentionRefIdeal.main_arg4)
          ∧ r.2.mem ((c.tc : Thread Cert.AttentionRefIdeal.nD Cert.AttentionRefIdeal.τ).loc Cert.AttentionRefIdeal.main_arg5) = m' ((c.tc : Thread Cert.AttentionRefIdeal.nD Cert.AttentionRefIdeal.τ).loc Cert.AttentionRefIdeal.main_arg5)
          ∧ r.2.mem ((c.tc : Thread Cert.AttentionRefIdeal.nD Cert.AttentionRefIdeal.τ).loc Cert.AttentionRefIdeal.main_arg6) = m' ((c.tc : Thread Cert.AttentionRefIdeal.nD Cert.AttentionRefIdeal.τ).loc Cert.AttentionRefIdeal.main_arg6)
          ∧ r.2.mem ((c.tc : Thread Cert.AttentionRefIdeal.nD Cert.AttentionRefIdeal.τ).loc Cert.AttentionRefIdeal.main_arg7) = m' ((c.tc : Thread Cert.AttentionRefIdeal.nD Cert.AttentionRefIdeal.τ).loc Cert.AttentionRefIdeal.main_arg7))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)) (v2 : (c : Dev Cert.OutProjIdeal.nD) → Buf (Elt Ideal) ((c.tc : Thread Cert.OutProjIdeal.nD Cert.OutProjIdeal.τ).loc Cert.OutProjIdeal.main_v0_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_v0_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v30) = v0 c
          ∧ r.2.mem ((c.tc : Thread Cert.OutProjRefIdeal.nD Cert.OutProjRefIdeal.τ).loc Cert.OutProjRefIdeal.main_v12_0) = v1 c
          ∧ r.2.mem ((c.tc : Thread Cert.OutProjRefIdeal.nD Cert.OutProjRefIdeal.τ).loc Cert.OutProjRefIdeal.main_v11) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7))

def Claim : Prop :=
  ∃ (hAttention : Cert.Attention.Facts) (hAttentionIdeal : Cert.AttentionIdeal.Facts) (hAttentionRefIdeal : Cert.AttentionRefIdeal.Facts) (hOutProj : Cert.OutProj.Facts) (hOutProjIdeal : Cert.OutProjIdeal.Facts) (hOutProjRefIdeal : Cert.OutProjRefIdeal.Facts) (hPre_chunks_in_range : Cert.Pre_chunks_in_range.Facts),
    quiescent_Attention (hAttention := hAttention) (hPre_chunks_in_range := hPre_chunks_in_range)
    ∧ quiescent_AttentionIdeal (hAttentionIdeal := hAttentionIdeal) (hPre_chunks_in_range := hPre_chunks_in_range)
    ∧ quiescent_AttentionRefIdeal (hAttentionRefIdeal := hAttentionRefIdeal)
    ∧ quiescent_AttentionRefIdeal_pre_chunks_in_range (hAttentionRefIdeal := hAttentionRefIdeal) (hPre_chunks_in_range := hPre_chunks_in_range)
    ∧ quiescent_OutProj (hOutProj := hOutProj)
    ∧ quiescent_OutProjIdeal (hOutProjIdeal := hOutProjIdeal)
    ∧ quiescent_OutProjRefIdeal (hOutProjRefIdeal := hOutProjRefIdeal)
    ∧ preserves_Attention_AttentionIdeal
    ∧ algebraic_AttentionIdeal_AttentionRefIdeal (hAttentionIdeal := hAttentionIdeal) (hAttentionRefIdeal := hAttentionRefIdeal) (hPre_chunks_in_range := hPre_chunks_in_range)
    ∧ preserves_OutProj_OutProjIdeal
    ∧ algebraic_OutProjIdeal_OutProjRefIdeal (hOutProjIdeal := hOutProjIdeal) (hOutProjRefIdeal := hOutProjRefIdeal)
-- ==== Pre_chunks_in_range.lean ====
abbrev S2 : Shape := ⟨1, ![2]⟩
abbrev S2x24x7680x128 : Shape := ⟨4, ![2, 24, 7680, 128]⟩
abbrev S2x24x3x7680x128 : Shape := ⟨5, ![2, 24, 3, 7680, 128]⟩
abbrev S2x24x960x128 : Shape := ⟨4, ![2, 24, 960, 128]⟩
abbrev S2x24x7680x256 : Shape := ⟨4, ![2, 24, 7680, 256]⟩
abbrev S2x1536x7680 : Shape := ⟨3, ![2, 1536, 7680]⟩
abbrev S2x24x64x1 : Shape := ⟨4, ![2, 24, 64, 1]⟩
abbrev S2x24x1x7680 : Shape := ⟨4, ![2, 24, 1, 7680]⟩
abbrev S_ : Shape := ⟨0, ![]⟩

class Facts : Prop where
  bcast_S_S2 : S_.BroadcastsInDim S2 (![] : Fin 0 → Fin S2.rank)

variable [Facts]

def fn {F : FTy → Type} [FloatOps F] (main_arg0 : IVec S2 32) (main_arg1 : FVec F S2x24x7680x128 .bf16) (main_arg2 : FVec F S2x24x3x7680x128 .bf16) (main_arg3 : FVec F S2x24x960x128 .f32) (main_arg4 : FVec F S2x24x7680x256 .bf16) (main_arg5 : FVec F S2x1536x7680 .fp8e4m3) (main_arg6 : FVec F S2x24x64x1 .f32) (main_arg7 : FVec F S2x24x1x7680 .f32) : IVec S2 1 :=
  let main_c : IVec S_ 32 := constantI S_ 32 5#32
  let main_v0 : IVec S2 32 := broadcastInDim S2 ![] bcast_S_S2 main_c
  let main_v1 : IVec S2 1 := cmpi .sle main_arg0 main_v0
  main_v1
-- ==== Attention.lean ====
abbrev S2 : Shape := ⟨1, ![2]⟩
abbrev S2x24x7680x128 : Shape := ⟨4, ![2, 24, 7680, 128]⟩
abbrev S2x24x3x7680x128 : Shape := ⟨5, ![2, 24, 3, 7680, 128]⟩
abbrev S2x24x960x128 : Shape := ⟨4, ![2, 24, 960, 128]⟩
abbrev S2x24x7680x256 : Shape := ⟨4, ![2, 24, 7680, 256]⟩
abbrev S2x1536x7680 : Shape := ⟨3, ![2, 1536, 7680]⟩
abbrev S2x24x64x1 : Shape := ⟨4, ![2, 24, 64, 1]⟩
abbrev S2x24x1x7680 : Shape := ⟨4, ![2, 24, 1, 7680]⟩
abbrev S2x24x7680x64 : Shape := ⟨4, ![2, 24, 7680, 64]⟩
abbrev S1x1x7680x128 : Shape := ⟨4, ![1, 1, 7680, 128]⟩
abbrev S1x1x1x7680x128 : Shape := ⟨5, ![1, 1, 1, 7680, 128]⟩
abbrev S1x1x960x128 : Shape := ⟨4, ![1, 1, 960, 128]⟩
abbrev S1x1x512x256 : Shape := ⟨4, ![1, 1, 512, 256]⟩
abbrev S1x64x7680 : Shape := ⟨3, ![1, 64, 7680]⟩
abbrev S1x1x64x1 : Shape := ⟨4, ![1, 1, 64, 1]⟩
abbrev S1x1x1x512 : Shape := ⟨4, ![1, 1, 1, 512]⟩
abbrev S1x1x512x64 : Shape := ⟨4, ![1, 1, 512, 64]⟩
abbrev S7680x512 : Shape := ⟨2, ![7680, 512]⟩
abbrev S1 : Shape := ⟨1, ![1]⟩
abbrev S8x512 : Shape := ⟨2, ![8, 512]⟩
abbrev S1x1x1536x128 : Shape := ⟨4, ![1, 1, 1536, 128]⟩
abbrev S1536x128 : Shape := ⟨2, ![1536, 128]⟩
abbrev S1x1x1x1536x128 : Shape := ⟨5, ![1, 1, 1, 1536, 128]⟩
abbrev S1536x256 : Shape := ⟨2, ![1536, 256]⟩
abbrev S512x256 : Shape := ⟨2, ![512, 256]⟩
abbrev S1536x512 : Shape := ⟨2, ![1536, 512]⟩
abbrev S1x1x192x128 : Shape := ⟨4, ![1, 1, 192, 128]⟩
abbrev S192x128 : Shape := ⟨2, ![192, 128]⟩
abbrev S8x128 : Shape := ⟨2, ![8, 128]⟩
abbrev S64x512 : Shape := ⟨2, ![64, 512]⟩
abbrev S8x8x512 : Shape := ⟨3, ![8, 8, 512]⟩
abbrev S1x8x512 : Shape := ⟨3, ![1, 8, 512]⟩
abbrev S512 : Shape := ⟨1, ![512]⟩
abbrev S1x512 : Shape := ⟨2, ![1, 512]⟩
abbrev S32x512 : Shape := ⟨2, ![32, 512]⟩
abbrev S4x8x512 : Shape := ⟨3, ![4, 8, 512]⟩
abbrev S1x64x1536 : Shape := ⟨3, ![1, 64, 1536]⟩
abbrev S64x1536 : Shape := ⟨2, ![64, 1536]⟩
abbrev S64x1 : Shape := ⟨2, ![64, 1]⟩
abbrev S512x64 : Shape := ⟨2, ![512, 64]⟩

abbrev nBuf : Space → Nat
  | .hbm => 10
  | .vmem => 21
  | .smem => 1
  | _ => 0

abbrev bufTy : (tb : Table) → Fin (tcTables nBuf tb) → BufTy
  | .hbm, ⟨0, _⟩ => ⟨S2x24x7680x128, .bf16⟩
  | .hbm, ⟨1, _⟩ => ⟨S2x24x3x7680x128, .bf16⟩
  | .hbm, ⟨2, _⟩ => ⟨S2x24x960x128, .f32⟩
  | .hbm, ⟨3, _⟩ => ⟨S2x24x7680x256, .bf16⟩
  | .hbm, ⟨4, _⟩ => ⟨S2x1536x7680, .fp8e4m3⟩
  | .hbm, ⟨5, _⟩ => ⟨S2x24x64x1, .f32⟩
  | .hbm, ⟨6, _⟩ => ⟨S2x24x1x7680, .f32⟩
  | .hbm, ⟨7, _⟩ => ⟨S2x24x7680x64, .bf16⟩
  | .hbm, ⟨8, _⟩ => ⟨S2x24x7680x64, .f32⟩
  | .hbm, ⟨9, _⟩ => ⟨S2x24x1x7680, .f32⟩
  | .local _ .vmem, ⟨0, _⟩ => ⟨S1x1x7680x128, .bf16⟩
  | .local _ .vmem, ⟨1, _⟩ => ⟨S1x1x7680x128, .bf16⟩
  | .local _ .vmem, ⟨2, _⟩ => ⟨S1x1x1x7680x128, .bf16⟩
  | .local _ .vmem, ⟨3, _⟩ => ⟨S1x1x1x7680x128, .bf16⟩
  | .local _ .vmem, ⟨4, _⟩ => ⟨S1x1x960x128, .f32⟩
  | .local _ .vmem, ⟨5, _⟩ => ⟨S1x1x960x128, .f32⟩
  | .local _ .vmem, ⟨6, _⟩ => ⟨S1x1x512x256, .bf16⟩
  | .local _ .vmem, ⟨7, _⟩ => ⟨S1x1x512x256, .bf16⟩
  | .local _ .vmem, ⟨8, _⟩ => ⟨S1x64x7680, .fp8e4m3⟩
  | .local _ .vmem, ⟨9, _⟩ => ⟨S1x64x7680, .fp8e4m3⟩
  | .local _ .vmem, ⟨10, _⟩ => ⟨S1x1x64x1, .f32⟩
  | .local _ .vmem, ⟨11, _⟩ => ⟨S1x1x64x1, .f32⟩
  | .local _ .vmem, ⟨12, _⟩ => ⟨S1x1x1x512, .f32⟩
  | .local _ .vmem, ⟨13, _⟩ => ⟨S1x1x1x512, .f32⟩
  | .local _ .vmem, ⟨14, _⟩ => ⟨S1x1x512x64, .bf16⟩
  | .local _ .vmem, ⟨15, _⟩ => ⟨S1x1x512x64, .bf16⟩
  | .local _ .vmem, ⟨16, _⟩ => ⟨S1x1x512x64, .f32⟩
  | .local _ .vmem, ⟨17, _⟩ => ⟨S1x1x512x64, .f32⟩
  | .local _ .vmem, ⟨18, _⟩ => ⟨S1x1x1x512, .f32⟩
  | .local _ .vmem, ⟨19, _⟩ => ⟨S1x1x1x512, .f32⟩
  | .local _ .vmem, ⟨20, _⟩ => ⟨S7680x512, .f32⟩
  | .local _ .smem, ⟨0, _⟩ => ⟨S2, .i32⟩
  | _, _ => ⟨S2x24x7680x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 24, 15], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_0 : BitVec 32 := 1#32
  ⟨c0_i32, v7, c1_i32_0⟩

def k0_mult1 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  v57
def k0_off2 (v1 : BitVec 32) (k0_t1 : Fin (k0_t1_loop v1).trips) : Fin 4 → Nat :=
  let c0_34 : Index := 0#32
  let c0_35 : Index := 0#32
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let v59 : Index := Scalar.indexCast v58
  let c0_36 : Index := 0#32
  ![0, 0, v59.toNat, 0]
def k0_off3 (v1 : BitVec 32) (k0_t1 : Fin (k0_t1_loop v1).trips) : Fin 5 → Nat :=
  let c0_37 : Index := 0#32
  let c0_38 : Index := 0#32
  let c0_39 : Index := 0#32
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let v62 : Index := Scalar.indexCast v58
  let c0_40 : Index := 0#32
  ![0, 0, 0, v62.toNat, 0]
def k0_mult2 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c0_i32_46 : BitVec 32 := 0#32
  let v70 : BitVec 1 := Scalar.cmpi .sgt v58 c0_i32_46
  let v71 : BitVec 32 := Scalar.extui v70
  let c0_i32_47 : BitVec 32 := 0#32
  let v72 : BitVec 1 := Scalar.cmpi .slt v58 c0_i32_47
  let v73 : BitVec 32 := Scalar.extui v72
  let v74 : BitVec 32 := Scalar.subi v71 v73
  let c8_i32 : BitVec 32 := 8#32
  let c0_i32_48 : BitVec 32 := 0#32
  let v75 : BitVec 1 := Scalar.cmpi .sgt c8_i32 c0_i32_48
  let v76 : BitVec 32 := Scalar.extui v75
  let c0_i32_49 : BitVec 32 := 0#32
  let v77 : BitVec 1 := Scalar.cmpi .slt c8_i32 c0_i32_49
  let v78 : BitVec 32 := Scalar.extui v77
  let v79 : BitVec 32 := Scalar.subi v76 v78
  let v80 : BitVec 1 := Scalar.cmpi .ne v74 v79
  let v81 : BitVec 32 := Scalar.remsi v58 c8_i32
  let c0_i32_50 : BitVec 32 := 0#32
  let v82 : BitVec 1 := Scalar.cmpi .ne v81 c0_i32_50
  let v83 : BitVec 1 := Scalar.andi v80 v82
  let v69 : BitVec 32 := Scalar.divsi v58 c8_i32
  let c1_i32_51 : BitVec 32 := 1#32
  let v84 : BitVec 32 := Scalar.subi v69 c1_i32_51
  let v85 : BitVec 32 := Scalar.select v83 v84 v69
  v85
def k0_off4 (v1 : BitVec 32) (k0_t1 : Fin (k0_t1_loop v1).trips) : Fin 4 → Nat :=
  let c0_52 : Index := 0#32
  let c0_53 : Index := 0#32
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c0_i32_46 : BitVec 32 := 0#32
  let v70 : BitVec 1 := Scalar.cmpi .sgt v58 c0_i32_46
  let v71 : BitVec 32 := Scalar.extui v70
  let c0_i32_47 : BitVec 32 := 0#32
  let v72 : BitVec 1 := Scalar.cmpi .slt v58 c0_i32_47
  let v73 : BitVec 32 := Scalar.extui v72
  let v74 : BitVec 32 := Scalar.subi v71 v73
  let c8_i32 : BitVec 32 := 8#32
  let c0_i32_48 : BitVec 32 := 0#32
  let v75 : BitVec 1 := Scalar.cmpi .sgt c8_i32 c0_i32_48
  let v76 : BitVec 32 := Scalar.extui v75
  let c0_i32_49 : BitVec 32 := 0#32
  let v77 : BitVec 1 := Scalar.cmpi .slt c8_i32 c0_i32_49
  let v78 : BitVec 32 := Scalar.extui v77
  let v79 : BitVec 32 := Scalar.subi v76 v78
  let v80 : BitVec 1 := Scalar.cmpi .ne v74 v79
  let v81 : BitVec 32 := Scalar.remsi v58 c8_i32
  let c0_i32_50 : BitVec 32 := 0#32
  let v82 : BitVec 1 := Scalar.cmpi .ne v81 c0_i32_50
  let v83 : BitVec 1 := Scalar.andi v80 v82
  let v69 : BitVec 32 := Scalar.divsi v58 c8_i32
  let c1_i32_51 : BitVec 32 := 1#32
  let v84 : BitVec 32 := Scalar.subi v69 c1_i32_51
  let v85 : BitVec 32 := Scalar.select v83 v84 v69
  let v86 : BitVec 32 := v85
  let v87 : Index := Scalar.indexCast v86
  let c0_54 : Index := 0#32
  ![0, 0, v87.toNat, 0]
def k0_mult3 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c0_i32_56 : BitVec 32 := 0#32
  let v100 : BitVec 32 := Scalar.addi v58 c0_i32_56
  v100
def k0_off5 (v1 : BitVec 32) (k0_t1 : Fin (k0_t1_loop v1).trips) (c0_i32_56 : BitVec 32) : Fin 2 → Nat :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let v100 : BitVec 32 := Scalar.addi v58 c0_i32_56
  let v101 : BitVec 32 := v100
  let v102 : Index := Scalar.indexCast v101
  let c0_57 : Index := 0#32
  ![v102.toNat, 0]
def k0_mult4 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c64_i32 : BitVec 32 := 64#32
  let v116 : BitVec 32 := Scalar.addi v58 c64_i32
  v116
def k0_mult5 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c128_i32 : BitVec 32 := 128#32
  let v132 : BitVec 32 := Scalar.addi v58 c128_i32
  v132
def k0_mult6 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c192_i32 : BitVec 32 := 192#32
  let v148 : BitVec 32 := Scalar.addi v58 c192_i32
  v148
def k0_mult7 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c256_i32 : BitVec 32 := 256#32
  let v164 : BitVec 32 := Scalar.addi v58 c256_i32
  v164
def k0_mult8 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c320_i32 : BitVec 32 := 320#32
  let v180 : BitVec 32 := Scalar.addi v58 c320_i32
  v180
def k0_mult9 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c384_i32 : BitVec 32 := 384#32
  let v196 : BitVec 32 := Scalar.addi v58 c384_i32
  v196
def k0_mult10 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c448_i32 : BitVec 32 := 448#32
  let v212 : BitVec 32 := Scalar.addi v58 c448_i32
  v212
def k0_mult11 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c512_i32 : BitVec 32 := 512#32
  let v228 : BitVec 32 := Scalar.addi v58 c512_i32
  v228
def k0_mult12 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c576_i32 : BitVec 32 := 576#32
  let v244 : BitVec 32 := Scalar.addi v58 c576_i32
  v244
def k0_mult13 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c640_i32 : BitVec 32 := 640#32
  let v260 : BitVec 32 := Scalar.addi v58 c640_i32
  v260
def k0_mult14 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c704_i32 : BitVec 32 := 704#32
  let v276 : BitVec 32 := Scalar.addi v58 c704_i32
  v276
def k0_mult15 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c768_i32 : BitVec 32 := 768#32
  let v292 : BitVec 32 := Scalar.addi v58 c768_i32
  v292
def k0_mult16 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c832_i32 : BitVec 32 := 832#32
  let v308 : BitVec 32 := Scalar.addi v58 c832_i32
  v308
def k0_mult17 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c896_i32 : BitVec 32 := 896#32
  let v324 : BitVec 32 := Scalar.addi v58 c896_i32
  v324
def k0_mult18 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c960_i32 : BitVec 32 := 960#32
  let v340 : BitVec 32 := Scalar.addi v58 c960_i32
  v340
def k0_mult19 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c1024_i32 : BitVec 32 := 1024#32
  let v356 : BitVec 32 := Scalar.addi v58 c1024_i32
  v356
def k0_mult20 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c1088_i32 : BitVec 32 := 1088#32
  let v372 : BitVec 32 := Scalar.addi v58 c1088_i32
  v372
def k0_mult21 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c1152_i32 : BitVec 32 := 1152#32
  let v388 : BitVec 32 := Scalar.addi v58 c1152_i32
  v388
def k0_mult22 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c1216_i32 : BitVec 32 := 1216#32
  let v404 : BitVec 32 := Scalar.addi v58 c1216_i32
  v404
def k0_mult23 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c1280_i32 : BitVec 32 := 1280#32
  let v420 : BitVec 32 := Scalar.addi v58 c1280_i32
  v420
def k0_mult24 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c1344_i32 : BitVec 32 := 1344#32
  let v436 : BitVec 32 := Scalar.addi v58 c1344_i32
  v436
def k0_mult25 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c1408_i32 : BitVec 32 := 1408#32
  let v452 : BitVec 32 := Scalar.addi v58 c1408_i32
  v452
def k0_mult26 (v1 : BitVec 32) (k0_t1 : Fin (k0_t1_loop v1).trips) : BitVec 32 :=
  let c0_i32 : BitVec 32 := 0#32
  let c1_i32_0 : BitVec 32 := 1#32
  let arg15 : BitVec 32 := Scf.iv c0_i32 c1_i32_0 k0_t1
  let c1536_i32 : BitVec 32 := 1536#32
  let v57 : BitVec 32 := Scalar.muli arg15 c1536_i32
  let v58 : BitVec 32 := v57
  let c1472_i32 : BitVec 32 := 1472#32
  let v468 : BitVec 32 := Scalar.addi v58 c1472_i32
  v468
@[reducible] def k0_t2_loop (v1 : BitVec 32) : Scf.Loop 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let v4 : BitVec 32 := Scalar.addi c0_i32 v3
  let c1_i32_1 : BitVec 32 := 1#32
  ⟨v7, v4, c1_i32_1⟩
def k0_mult27 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  v57
def k0_off6 (v1 : BitVec 32) (k0_t2 : Fin (k0_t2_loop v1).trips) : Fin 4 → Nat :=
  let c0_34 : Index := 0#32
  let c0_35 : Index := 0#32
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let v59 : Index := Scalar.indexCast v58
  let c0_36 : Index := 0#32
  ![0, 0, v59.toNat, 0]
def k0_off7 (v1 : BitVec 32) (k0_t2 : Fin (k0_t2_loop v1).trips) : Fin 5 → Nat :=
  let c0_37 : Index := 0#32
  let c0_38 : Index := 0#32
  let c0_39 : Index := 0#32
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let v62 : Index := Scalar.indexCast v58
  let c0_40 : Index := 0#32
  ![0, 0, 0, v62.toNat, 0]
def k0_mult28 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c0_i32_46 : BitVec 32 := 0#32
  let v70 : BitVec 1 := Scalar.cmpi .sgt v58 c0_i32_46
  let v71 : BitVec 32 := Scalar.extui v70
  let c0_i32_47 : BitVec 32 := 0#32
  let v72 : BitVec 1 := Scalar.cmpi .slt v58 c0_i32_47
  let v73 : BitVec 32 := Scalar.extui v72
  let v74 : BitVec 32 := Scalar.subi v71 v73
  let c8_i32 : BitVec 32 := 8#32
  let c0_i32_48 : BitVec 32 := 0#32
  let v75 : BitVec 1 := Scalar.cmpi .sgt c8_i32 c0_i32_48
  let v76 : BitVec 32 := Scalar.extui v75
  let c0_i32_49 : BitVec 32 := 0#32
  let v77 : BitVec 1 := Scalar.cmpi .slt c8_i32 c0_i32_49
  let v78 : BitVec 32 := Scalar.extui v77
  let v79 : BitVec 32 := Scalar.subi v76 v78
  let v80 : BitVec 1 := Scalar.cmpi .ne v74 v79
  let v81 : BitVec 32 := Scalar.remsi v58 c8_i32
  let c0_i32_50 : BitVec 32 := 0#32
  let v82 : BitVec 1 := Scalar.cmpi .ne v81 c0_i32_50
  let v83 : BitVec 1 := Scalar.andi v80 v82
  let v69 : BitVec 32 := Scalar.divsi v58 c8_i32
  let c1_i32_51 : BitVec 32 := 1#32
  let v84 : BitVec 32 := Scalar.subi v69 c1_i32_51
  let v85 : BitVec 32 := Scalar.select v83 v84 v69
  v85
def k0_off8 (v1 : BitVec 32) (k0_t2 : Fin (k0_t2_loop v1).trips) : Fin 4 → Nat :=
  let c0_52 : Index := 0#32
  let c0_53 : Index := 0#32
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c0_i32_46 : BitVec 32 := 0#32
  let v70 : BitVec 1 := Scalar.cmpi .sgt v58 c0_i32_46
  let v71 : BitVec 32 := Scalar.extui v70
  let c0_i32_47 : BitVec 32 := 0#32
  let v72 : BitVec 1 := Scalar.cmpi .slt v58 c0_i32_47
  let v73 : BitVec 32 := Scalar.extui v72
  let v74 : BitVec 32 := Scalar.subi v71 v73
  let c8_i32 : BitVec 32 := 8#32
  let c0_i32_48 : BitVec 32 := 0#32
  let v75 : BitVec 1 := Scalar.cmpi .sgt c8_i32 c0_i32_48
  let v76 : BitVec 32 := Scalar.extui v75
  let c0_i32_49 : BitVec 32 := 0#32
  let v77 : BitVec 1 := Scalar.cmpi .slt c8_i32 c0_i32_49
  let v78 : BitVec 32 := Scalar.extui v77
  let v79 : BitVec 32 := Scalar.subi v76 v78
  let v80 : BitVec 1 := Scalar.cmpi .ne v74 v79
  let v81 : BitVec 32 := Scalar.remsi v58 c8_i32
  let c0_i32_50 : BitVec 32 := 0#32
  let v82 : BitVec 1 := Scalar.cmpi .ne v81 c0_i32_50
  let v83 : BitVec 1 := Scalar.andi v80 v82
  let v69 : BitVec 32 := Scalar.divsi v58 c8_i32
  let c1_i32_51 : BitVec 32 := 1#32
  let v84 : BitVec 32 := Scalar.subi v69 c1_i32_51
  let v85 : BitVec 32 := Scalar.select v83 v84 v69
  let v86 : BitVec 32 := v85
  let v87 : Index := Scalar.indexCast v86
  let c0_54 : Index := 0#32
  ![0, 0, v87.toNat, 0]
def k0_mult29 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c0_i32_56 : BitVec 32 := 0#32
  let v100 : BitVec 32 := Scalar.addi v58 c0_i32_56
  v100
def k0_off9 (v1 : BitVec 32) (k0_t2 : Fin (k0_t2_loop v1).trips) (c0_i32_56 : BitVec 32) : Fin 2 → Nat :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let v100 : BitVec 32 := Scalar.addi v58 c0_i32_56
  let v101 : BitVec 32 := v100
  let v102 : Index := Scalar.indexCast v101
  let c0_57 : Index := 0#32
  ![v102.toNat, 0]
def k0_mult30 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c64_i32 : BitVec 32 := 64#32
  let v116 : BitVec 32 := Scalar.addi v58 c64_i32
  v116
def k0_mult31 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c128_i32 : BitVec 32 := 128#32
  let v132 : BitVec 32 := Scalar.addi v58 c128_i32
  v132
def k0_mult32 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c192_i32 : BitVec 32 := 192#32
  let v148 : BitVec 32 := Scalar.addi v58 c192_i32
  v148
def k0_mult33 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c256_i32 : BitVec 32 := 256#32
  let v164 : BitVec 32 := Scalar.addi v58 c256_i32
  v164
def k0_mult34 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c320_i32 : BitVec 32 := 320#32
  let v180 : BitVec 32 := Scalar.addi v58 c320_i32
  v180
def k0_mult35 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c384_i32 : BitVec 32 := 384#32
  let v196 : BitVec 32 := Scalar.addi v58 c384_i32
  v196
def k0_mult36 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c448_i32 : BitVec 32 := 448#32
  let v212 : BitVec 32 := Scalar.addi v58 c448_i32
  v212
def k0_mult37 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c512_i32 : BitVec 32 := 512#32
  let v228 : BitVec 32 := Scalar.addi v58 c512_i32
  v228
def k0_mult38 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c576_i32 : BitVec 32 := 576#32
  let v244 : BitVec 32 := Scalar.addi v58 c576_i32
  v244
def k0_mult39 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c640_i32 : BitVec 32 := 640#32
  let v260 : BitVec 32 := Scalar.addi v58 c640_i32
  v260
def k0_mult40 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c704_i32 : BitVec 32 := 704#32
  let v276 : BitVec 32 := Scalar.addi v58 c704_i32
  v276
def k0_mult41 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c768_i32 : BitVec 32 := 768#32
  let v292 : BitVec 32 := Scalar.addi v58 c768_i32
  v292
def k0_mult42 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c832_i32 : BitVec 32 := 832#32
  let v308 : BitVec 32 := Scalar.addi v58 c832_i32
  v308
def k0_mult43 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c896_i32 : BitVec 32 := 896#32
  let v324 : BitVec 32 := Scalar.addi v58 c896_i32
  v324
def k0_mult44 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c960_i32 : BitVec 32 := 960#32
  let v340 : BitVec 32 := Scalar.addi v58 c960_i32
  v340
def k0_mult45 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c1024_i32 : BitVec 32 := 1024#32
  let v356 : BitVec 32 := Scalar.addi v58 c1024_i32
  v356
def k0_mult46 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c1088_i32 : BitVec 32 := 1088#32
  let v372 : BitVec 32 := Scalar.addi v58 c1088_i32
  v372
def k0_mult47 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c1152_i32 : BitVec 32 := 1152#32
  let v388 : BitVec 32 := Scalar.addi v58 c1152_i32
  v388
def k0_mult48 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c1216_i32 : BitVec 32 := 1216#32
  let v404 : BitVec 32 := Scalar.addi v58 c1216_i32
  v404
def k0_mult49 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c1280_i32 : BitVec 32 := 1280#32
  let v420 : BitVec 32 := Scalar.addi v58 c1280_i32
  v420
def k0_mult50 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c1344_i32 : BitVec 32 := 1344#32
  let v436 : BitVec 32 := Scalar.addi v58 c1344_i32
  v436
def k0_mult51 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c1408_i32 : BitVec 32 := 1408#32
  let v452 : BitVec 32 := Scalar.addi v58 c1408_i32
  v452
def k0_mult52 (v1 : BitVec 32) (k0_t2 : Fin (k0_t2_loop v1).trips) : BitVec 32 :=
  let c0_i32 : BitVec 32 := 0#32
  let v3 : BitVec 32 := Scalar.subi v1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  let arg15 : BitVec 32 := Scf.iv v7 c1_i32_1 k0_t2
  let c1536_i32 : BitVec 32 := 1536#32
  let v57 : BitVec 32 := Scalar.muli arg15 c1536_i32
  let v58 : BitVec 32 := v57
  let c1472_i32 : BitVec 32 := 1472#32
  let v468 : BitVec 32 := Scalar.addi v58 c1472_i32
  v468
@[reducible] def k0_t3_loop (v1 : BitVec 32) : Scf.Loop 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_8 : BitVec 32 := 1#32
  ⟨c0_i32_6, v21, c1_i32_8⟩
def k0_mult53 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  v57
def k0_mult54 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c0_i32_34 : BitVec 32 := 0#32
  let v59 : BitVec 32 := Scalar.addi v58 c0_i32_34
  v59
def k0_off10 (v1 : BitVec 32) (k0_t3 : Fin (k0_t3_loop v1).trips) (c0_i32_34 : BitVec 32) : Fin 2 → Nat :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let v59 : BitVec 32 := Scalar.addi v58 c0_i32_34
  let v60 : BitVec 32 := v59
  let v61 : Index := Scalar.indexCast v60
  let c0_35 : Index := 0#32
  ![v61.toNat, 0]
def k0_mult55 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c32_i32 : BitVec 32 := 32#32
  let v74 : BitVec 32 := Scalar.addi v58 c32_i32
  v74
def k0_mult56 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c64_i32 : BitVec 32 := 64#32
  let v89 : BitVec 32 := Scalar.addi v58 c64_i32
  v89
def k0_mult57 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c96_i32 : BitVec 32 := 96#32
  let v104 : BitVec 32 := Scalar.addi v58 c96_i32
  v104
def k0_mult58 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c128_i32 : BitVec 32 := 128#32
  let v119 : BitVec 32 := Scalar.addi v58 c128_i32
  v119
def k0_mult59 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c160_i32 : BitVec 32 := 160#32
  let v134 : BitVec 32 := Scalar.addi v58 c160_i32
  v134
def k0_mult60 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c192_i32 : BitVec 32 := 192#32
  let v149 : BitVec 32 := Scalar.addi v58 c192_i32
  v149
def k0_mult61 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c224_i32 : BitVec 32 := 224#32
  let v164 : BitVec 32 := Scalar.addi v58 c224_i32
  v164
def k0_mult62 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c256_i32 : BitVec 32 := 256#32
  let v179 : BitVec 32 := Scalar.addi v58 c256_i32
  v179
def k0_mult63 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c288_i32 : BitVec 32 := 288#32
  let v194 : BitVec 32 := Scalar.addi v58 c288_i32
  v194
def k0_mult64 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c320_i32 : BitVec 32 := 320#32
  let v209 : BitVec 32 := Scalar.addi v58 c320_i32
  v209
def k0_mult65 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c352_i32 : BitVec 32 := 352#32
  let v224 : BitVec 32 := Scalar.addi v58 c352_i32
  v224
def k0_mult66 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c384_i32 : BitVec 32 := 384#32
  let v239 : BitVec 32 := Scalar.addi v58 c384_i32
  v239
def k0_mult67 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c416_i32 : BitVec 32 := 416#32
  let v254 : BitVec 32 := Scalar.addi v58 c416_i32
  v254
def k0_mult68 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c448_i32 : BitVec 32 := 448#32
  let v269 : BitVec 32 := Scalar.addi v58 c448_i32
  v269
def k0_mult69 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c480_i32 : BitVec 32 := 480#32
  let v284 : BitVec 32 := Scalar.addi v58 c480_i32
  v284
def k0_mult70 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c512_i32 : BitVec 32 := 512#32
  let v299 : BitVec 32 := Scalar.addi v58 c512_i32
  v299
def k0_mult71 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c544_i32 : BitVec 32 := 544#32
  let v314 : BitVec 32 := Scalar.addi v58 c544_i32
  v314
def k0_mult72 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c576_i32 : BitVec 32 := 576#32
  let v329 : BitVec 32 := Scalar.addi v58 c576_i32
  v329
def k0_mult73 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c608_i32 : BitVec 32 := 608#32
  let v344 : BitVec 32 := Scalar.addi v58 c608_i32
  v344
def k0_mult74 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c640_i32 : BitVec 32 := 640#32
  let v359 : BitVec 32 := Scalar.addi v58 c640_i32
  v359
def k0_mult75 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c672_i32 : BitVec 32 := 672#32
  let v374 : BitVec 32 := Scalar.addi v58 c672_i32
  v374
def k0_mult76 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c704_i32 : BitVec 32 := 704#32
  let v389 : BitVec 32 := Scalar.addi v58 c704_i32
  v389
def k0_mult77 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c736_i32 : BitVec 32 := 736#32
  let v404 : BitVec 32 := Scalar.addi v58 c736_i32
  v404
def k0_mult78 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c768_i32 : BitVec 32 := 768#32
  let v419 : BitVec 32 := Scalar.addi v58 c768_i32
  v419
def k0_mult79 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c800_i32 : BitVec 32 := 800#32
  let v434 : BitVec 32 := Scalar.addi v58 c800_i32
  v434
def k0_mult80 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c832_i32 : BitVec 32 := 832#32
  let v449 : BitVec 32 := Scalar.addi v58 c832_i32
  v449
def k0_mult81 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c864_i32 : BitVec 32 := 864#32
  let v464 : BitVec 32 := Scalar.addi v58 c864_i32
  v464
def k0_mult82 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c896_i32 : BitVec 32 := 896#32
  let v479 : BitVec 32 := Scalar.addi v58 c896_i32
  v479
def k0_mult83 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c928_i32 : BitVec 32 := 928#32
  let v494 : BitVec 32 := Scalar.addi v58 c928_i32
  v494
def k0_mult84 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c960_i32 : BitVec 32 := 960#32
  let v509 : BitVec 32 := Scalar.addi v58 c960_i32
  v509
def k0_mult85 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c992_i32 : BitVec 32 := 992#32
  let v524 : BitVec 32 := Scalar.addi v58 c992_i32
  v524
def k0_mult86 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c1024_i32 : BitVec 32 := 1024#32
  let v539 : BitVec 32 := Scalar.addi v58 c1024_i32
  v539
def k0_mult87 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c1056_i32 : BitVec 32 := 1056#32
  let v554 : BitVec 32 := Scalar.addi v58 c1056_i32
  v554
def k0_mult88 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c1088_i32 : BitVec 32 := 1088#32
  let v569 : BitVec 32 := Scalar.addi v58 c1088_i32
  v569
def k0_mult89 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c1120_i32 : BitVec 32 := 1120#32
  let v584 : BitVec 32 := Scalar.addi v58 c1120_i32
  v584
def k0_mult90 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c1152_i32 : BitVec 32 := 1152#32
  let v599 : BitVec 32 := Scalar.addi v58 c1152_i32
  v599
def k0_mult91 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c1184_i32 : BitVec 32 := 1184#32
  let v614 : BitVec 32 := Scalar.addi v58 c1184_i32
  v614
def k0_mult92 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c1216_i32 : BitVec 32 := 1216#32
  let v629 : BitVec 32 := Scalar.addi v58 c1216_i32
  v629
def k0_mult93 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c1248_i32 : BitVec 32 := 1248#32
  let v644 : BitVec 32 := Scalar.addi v58 c1248_i32
  v644
def k0_mult94 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c1280_i32 : BitVec 32 := 1280#32
  let v659 : BitVec 32 := Scalar.addi v58 c1280_i32
  v659
def k0_mult95 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c1312_i32 : BitVec 32 := 1312#32
  let v674 : BitVec 32 := Scalar.addi v58 c1312_i32
  v674
def k0_mult96 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c1344_i32 : BitVec 32 := 1344#32
  let v689 : BitVec 32 := Scalar.addi v58 c1344_i32
  v689
def k0_mult97 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c1376_i32 : BitVec 32 := 1376#32
  let v704 : BitVec 32 := Scalar.addi v58 c1376_i32
  v704
def k0_mult98 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c1408_i32 : BitVec 32 := 1408#32
  let v719 : BitVec 32 := Scalar.addi v58 c1408_i32
  v719
def k0_mult99 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c1440_i32 : BitVec 32 := 1440#32
  let v734 : BitVec 32 := Scalar.addi v58 c1440_i32
  v734
def k0_mult100 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c1472_i32 : BitVec 32 := 1472#32
  let v749 : BitVec 32 := Scalar.addi v58 c1472_i32
  v749
def k0_mult101 (v1 : BitVec 32) (k0_t3 : Fin (k0_t3_loop v1).trips) : BitVec 32 :=
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let c1504_i32 : BitVec 32 := 1504#32
  let v764 : BitVec 32 := Scalar.addi v58 c1504_i32
  v764
def k0_off11 (v1 : BitVec 32) (k0_t3 : Fin (k0_t3_loop v1).trips) : Fin 3 → Nat :=
  let c0_227 : Index := 0#32
  let c0_228 : Index := 0#32
  let c0_i32_6 : BitVec 32 := 0#32
  let c1_i32_8 : BitVec 32 := 1#32
  let arg15 : BitVec 32 := Scf.iv c0_i32_6 c1_i32_8 k0_t3
  let c1536_i32 : BitVec 32 := 1536#32
  let v57 : BitVec 32 := Scalar.muli arg15 c1536_i32
  let v58 : BitVec 32 := v57
  let v779 : Index := Scalar.indexCast v58
  ![0, 0, v779.toNat]
@[reducible] def k0_t4_loop (v1 : BitVec 32) : Scf.Loop 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let v18 : BitVec 32 := Scalar.addi c0_i32_6 v17
  let c1_i32_9 : BitVec 32 := 1#32
  ⟨v21, v18, c1_i32_9⟩
def k0_mult102 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  v57
def k0_mult103 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c0_i32_34 : BitVec 32 := 0#32
  let v59 : BitVec 32 := Scalar.addi v58 c0_i32_34
  v59
def k0_off12 (v1 : BitVec 32) (k0_t4 : Fin (k0_t4_loop v1).trips) (c0_i32_34 : BitVec 32) : Fin 2 → Nat :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let v59 : BitVec 32 := Scalar.addi v58 c0_i32_34
  let v60 : BitVec 32 := v59
  let v61 : Index := Scalar.indexCast v60
  let c0_35 : Index := 0#32
  ![v61.toNat, 0]
def k0_mult104 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c32_i32 : BitVec 32 := 32#32
  let v74 : BitVec 32 := Scalar.addi v58 c32_i32
  v74
def k0_mult105 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c64_i32 : BitVec 32 := 64#32
  let v89 : BitVec 32 := Scalar.addi v58 c64_i32
  v89
def k0_mult106 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c96_i32 : BitVec 32 := 96#32
  let v104 : BitVec 32 := Scalar.addi v58 c96_i32
  v104
def k0_mult107 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c128_i32 : BitVec 32 := 128#32
  let v119 : BitVec 32 := Scalar.addi v58 c128_i32
  v119
def k0_mult108 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c160_i32 : BitVec 32 := 160#32
  let v134 : BitVec 32 := Scalar.addi v58 c160_i32
  v134
def k0_mult109 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c192_i32 : BitVec 32 := 192#32
  let v149 : BitVec 32 := Scalar.addi v58 c192_i32
  v149
def k0_mult110 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c224_i32 : BitVec 32 := 224#32
  let v164 : BitVec 32 := Scalar.addi v58 c224_i32
  v164
def k0_mult111 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c256_i32 : BitVec 32 := 256#32
  let v179 : BitVec 32 := Scalar.addi v58 c256_i32
  v179
def k0_mult112 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c288_i32 : BitVec 32 := 288#32
  let v194 : BitVec 32 := Scalar.addi v58 c288_i32
  v194
def k0_mult113 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c320_i32 : BitVec 32 := 320#32
  let v209 : BitVec 32 := Scalar.addi v58 c320_i32
  v209
def k0_mult114 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c352_i32 : BitVec 32 := 352#32
  let v224 : BitVec 32 := Scalar.addi v58 c352_i32
  v224
def k0_mult115 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c384_i32 : BitVec 32 := 384#32
  let v239 : BitVec 32 := Scalar.addi v58 c384_i32
  v239
def k0_mult116 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c416_i32 : BitVec 32 := 416#32
  let v254 : BitVec 32 := Scalar.addi v58 c416_i32
  v254
def k0_mult117 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c448_i32 : BitVec 32 := 448#32
  let v269 : BitVec 32 := Scalar.addi v58 c448_i32
  v269
def k0_mult118 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c480_i32 : BitVec 32 := 480#32
  let v284 : BitVec 32 := Scalar.addi v58 c480_i32
  v284
def k0_mult119 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c512_i32 : BitVec 32 := 512#32
  let v299 : BitVec 32 := Scalar.addi v58 c512_i32
  v299
def k0_mult120 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c544_i32 : BitVec 32 := 544#32
  let v314 : BitVec 32 := Scalar.addi v58 c544_i32
  v314
def k0_mult121 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c576_i32 : BitVec 32 := 576#32
  let v329 : BitVec 32 := Scalar.addi v58 c576_i32
  v329
def k0_mult122 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c608_i32 : BitVec 32 := 608#32
  let v344 : BitVec 32 := Scalar.addi v58 c608_i32
  v344
def k0_mult123 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c640_i32 : BitVec 32 := 640#32
  let v359 : BitVec 32 := Scalar.addi v58 c640_i32
  v359
def k0_mult124 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c672_i32 : BitVec 32 := 672#32
  let v374 : BitVec 32 := Scalar.addi v58 c672_i32
  v374
def k0_mult125 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c704_i32 : BitVec 32 := 704#32
  let v389 : BitVec 32 := Scalar.addi v58 c704_i32
  v389
def k0_mult126 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c736_i32 : BitVec 32 := 736#32
  let v404 : BitVec 32 := Scalar.addi v58 c736_i32
  v404
def k0_mult127 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c768_i32 : BitVec 32 := 768#32
  let v419 : BitVec 32 := Scalar.addi v58 c768_i32
  v419
def k0_mult128 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c800_i32 : BitVec 32 := 800#32
  let v434 : BitVec 32 := Scalar.addi v58 c800_i32
  v434
def k0_mult129 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c832_i32 : BitVec 32 := 832#32
  let v449 : BitVec 32 := Scalar.addi v58 c832_i32
  v449
def k0_mult130 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c864_i32 : BitVec 32 := 864#32
  let v464 : BitVec 32 := Scalar.addi v58 c864_i32
  v464
def k0_mult131 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c896_i32 : BitVec 32 := 896#32
  let v479 : BitVec 32 := Scalar.addi v58 c896_i32
  v479
def k0_mult132 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c928_i32 : BitVec 32 := 928#32
  let v494 : BitVec 32 := Scalar.addi v58 c928_i32
  v494
def k0_mult133 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c960_i32 : BitVec 32 := 960#32
  let v509 : BitVec 32 := Scalar.addi v58 c960_i32
  v509
def k0_mult134 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c992_i32 : BitVec 32 := 992#32
  let v524 : BitVec 32 := Scalar.addi v58 c992_i32
  v524
def k0_mult135 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c1024_i32 : BitVec 32 := 1024#32
  let v539 : BitVec 32 := Scalar.addi v58 c1024_i32
  v539
def k0_mult136 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c1056_i32 : BitVec 32 := 1056#32
  let v554 : BitVec 32 := Scalar.addi v58 c1056_i32
  v554
def k0_mult137 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c1088_i32 : BitVec 32 := 1088#32
  let v569 : BitVec 32 := Scalar.addi v58 c1088_i32
  v569
def k0_mult138 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c1120_i32 : BitVec 32 := 1120#32
  let v584 : BitVec 32 := Scalar.addi v58 c1120_i32
  v584
def k0_mult139 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c1152_i32 : BitVec 32 := 1152#32
  let v599 : BitVec 32 := Scalar.addi v58 c1152_i32
  v599
def k0_mult140 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c1184_i32 : BitVec 32 := 1184#32
  let v614 : BitVec 32 := Scalar.addi v58 c1184_i32
  v614
def k0_mult141 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c1216_i32 : BitVec 32 := 1216#32
  let v629 : BitVec 32 := Scalar.addi v58 c1216_i32
  v629
def k0_mult142 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c1248_i32 : BitVec 32 := 1248#32
  let v644 : BitVec 32 := Scalar.addi v58 c1248_i32
  v644
def k0_mult143 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c1280_i32 : BitVec 32 := 1280#32
  let v659 : BitVec 32 := Scalar.addi v58 c1280_i32
  v659
def k0_mult144 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c1312_i32 : BitVec 32 := 1312#32
  let v674 : BitVec 32 := Scalar.addi v58 c1312_i32
  v674
def k0_mult145 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c1344_i32 : BitVec 32 := 1344#32
  let v689 : BitVec 32 := Scalar.addi v58 c1344_i32
  v689
def k0_mult146 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c1376_i32 : BitVec 32 := 1376#32
  let v704 : BitVec 32 := Scalar.addi v58 c1376_i32
  v704
def k0_mult147 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c1408_i32 : BitVec 32 := 1408#32
  let v719 : BitVec 32 := Scalar.addi v58 c1408_i32
  v719
def k0_mult148 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c1440_i32 : BitVec 32 := 1440#32
  let v734 : BitVec 32 := Scalar.addi v58 c1440_i32
  v734
def k0_mult149 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c1472_i32 : BitVec 32 := 1472#32
  let v749 : BitVec 32 := Scalar.addi v58 c1472_i32
  v749
def k0_mult150 (v1 : BitVec 32) (k0_t4 : Fin (k0_t4_loop v1).trips) : BitVec 32 :=
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let c1504_i32 : BitVec 32 := 1504#32
  let v764 : BitVec 32 := Scalar.addi v58 c1504_i32
  v764
def k0_off13 (v1 : BitVec 32) (k0_t4 : Fin (k0_t4_loop v1).trips) : Fin 3 → Nat :=
  let c0_227 : Index := 0#32
  let c0_228 : Index := 0#32
  let c0_i32_6 : BitVec 32 := 0#32
  let v17 : BitVec 32 := Scalar.subi v1 c0_i32_6
  let c1_i32_7 : BitVec 32 := 1#32
  let v19 : BitVec 32 := Scalar.divsi v17 c1_i32_7
  let v20 : BitVec 32 := Scalar.muli v19 c1_i32_7
  let v21 : BitVec 32 := Scalar.addi c0_i32_6 v20
  let c1_i32_9 : BitVec 32 := 1#32
  let arg15 : BitVec 32 := Scf.iv v21 c1_i32_9 k0_t4
  let c1536_i32 : BitVec 32 := 1536#32
  let v57 : BitVec 32 := Scalar.muli arg15 c1536_i32
  let v58 : BitVec 32 := v57
  let v779 : Index := Scalar.indexCast v58
  ![0, 0, v779.toNat]

def k0_chk1_0 (v1 : BitVec 32) : Prop :=
  ((k0_t1_loop v1).OK) ∧
  (∀ k0_t1 : Fin (k0_t1_loop v1).trips, 1536 ∣ (k0_mult1 v1 k0_t1).toNat) ∧
  (∀ k0_t1 : Fin (k0_t1_loop v1).trips, ∀ a, (k0_off2 v1 k0_t1) a + S1x1x1536x128.size a ≤ S1x1x7680x128.size a) ∧
  (∀ k0_t1 : Fin (k0_t1_loop v1).trips, ∀ a, (k0_off3 v1 k0_t1) a + S1x1x1x1536x128.size a ≤ S1x1x1x7680x128.size a) ∧
  (∀ k0_t1 : Fin (k0_t1_loop v1).trips, 192 ∣ (k0_mult2 v1 k0_t1).toNat) ∧
  (∀ k0_t1 : Fin (k0_t1_loop v1).trips, ∀ a, (k0_off4 v1 k0_t1) a + S1x1x192x128.size a ≤ S1x1x960x128.size a) ∧
  (∀ k0_t1 : Fin (k0_t1_loop v1).trips, 64 ∣ (k0_mult3 v1 k0_t1).toNat) ∧
  (∀ k0_t1 : Fin (k0_t1_loop v1).trips, ∀ (r : Fin 24), ∀ a, (k0_off5 v1 k0_t1 (BitVec.ofNat 32 (64 * r.val))) a + S64x512.size a ≤ S7680x512.size a) ∧
  (∀ k0_t1 : Fin (k0_t1_loop v1).trips, 64 ∣ (k0_mult4 v1 k0_t1).toNat) ∧
  (∀ k0_t1 : Fin (k0_t1_loop v1).trips, 64 ∣ (k0_mult5 v1 k0_t1).toNat) ∧
  (∀ k0_t1 : Fin (k0_t1_loop v1).trips, 64 ∣ (k0_mult6 v1 k0_t1).toNat) ∧
  (∀ k0_t1 : Fin (k0_t1_loop v1).trips, 64 ∣ (k0_mult7 v1 k0_t1).toNat) ∧
  (∀ k0_t1 : Fin (k0_t1_loop v1).trips, 64 ∣ (k0_mult8 v1 k0_t1).toNat) ∧
  (∀ k0_t1 : Fin (k0_t1_loop v1).trips, 64 ∣ (k0_mult9 v1 k0_t1).toNat) ∧
  (∀ k0_t1 : Fin (k0_t1_loop v1).trips, 64 ∣ (k0_mult10 v1 k0_t1).toNat) ∧
  (∀ k0_t1 : Fin (k0_t1_loop v1).trips, 64 ∣ (k0_mult11 v1 k0_t1).toNat) ∧
  (∀ k0_t1 : Fin (k0_t1_loop v1).trips, 64 ∣ (k0_mult12 v1 k0_t1).toNat) ∧
  (∀ k0_t1 : Fin (k0_t1_loop v1).trips, 64 ∣ (k0_mult13 v1 k0_t1).toNat) ∧
  (∀ k0_t1 : Fin (k0_t1_loop v1).trips, 64 ∣ (k0_mult14 v1 k0_t1).toNat) ∧
  (∀ k0_t1 : Fin (k0_t1_loop v1).trips, 64 ∣ (k0_mult15 v1 k0_t1).toNat) ∧
  (∀ k0_t1 : Fin (k0_t1_loop v1).trips, 64 ∣ (k0_mult16 v1 k0_t1).toNat) ∧
  (∀ k0_t1 : Fin (k0_t1_loop v1).trips, 64 ∣ (k0_mult17 v1 k0_t1).toNat) ∧
  (∀ k0_t1 : Fin (k0_t1_loop v1).trips, 64 ∣ (k0_mult18 v1 k0_t1).toNat) ∧
  (∀ k0_t1 : Fin (k0_t1_loop v1).trips, 64 ∣ (k0_mult19 v1 k0_t1).toNat) ∧
  (∀ k0_t1 : Fin (k0_t1_loop v1).trips, 64 ∣ (k0_mult20 v1 k0_t1).toNat) ∧
  (∀ k0_t1 : Fin (k0_t1_loop v1).trips, 64 ∣ (k0_mult21 v1 k0_t1).toNat) ∧
  (∀ k0_t1 : Fin (k0_t1_loop v1).trips, 64 ∣ (k0_mult22 v1 k0_t1).toNat) ∧
  (∀ k0_t1 : Fin (k0_t1_loop v1).trips, 64 ∣ (k0_mult23 v1 k0_t1).toNat) ∧
  (∀ k0_t1 : Fin (k0_t1_loop v1).trips, 64 ∣ (k0_mult24 v1 k0_t1).toNat) ∧
  (∀ k0_t1 : Fin (k0_t1_loop v1).trips, 64 ∣ (k0_mult25 v1 k0_t1).toNat) ∧
  (∀ k0_t1 : Fin (k0_t1_loop v1).trips, 64 ∣ (k0_mult26 v1 k0_t1).toNat) ∧
  ((k0_t2_loop v1).OK)
def k0_chk1_1 (v1 : BitVec 32) : Prop :=
  (∀ k0_t2 : Fin (k0_t2_loop v1).trips, 1536 ∣ (k0_mult27 v1 k0_t2).toNat) ∧
  (∀ k0_t2 : Fin (k0_t2_loop v1).trips, ∀ a, (k0_off6 v1 k0_t2) a + S1x1x1536x128.size a ≤ S1x1x7680x128.size a) ∧
  (∀ k0_t2 : Fin (k0_t2_loop v1).trips, ∀ a, (k0_off7 v1 k0_t2) a + S1x1x1x1536x128.size a ≤ S1x1x1x7680x128.size a) ∧
  (∀ k0_t2 : Fin (k0_t2_loop v1).trips, 192 ∣ (k0_mult28 v1 k0_t2).toNat) ∧
  (∀ k0_t2 : Fin (k0_t2_loop v1).trips, ∀ a, (k0_off8 v1 k0_t2) a + S1x1x192x128.size a ≤ S1x1x960x128.size a) ∧
  (∀ k0_t2 : Fin (k0_t2_loop v1).trips, 64 ∣ (k0_mult29 v1 k0_t2).toNat) ∧
  (∀ k0_t2 : Fin (k0_t2_loop v1).trips, ∀ (r : Fin 24), ∀ a, (k0_off9 v1 k0_t2 (BitVec.ofNat 32 (64 * r.val))) a + S64x512.size a ≤ S7680x512.size a) ∧
  (∀ k0_t2 : Fin (k0_t2_loop v1).trips, 64 ∣ (k0_mult30 v1 k0_t2).toNat) ∧
  (∀ k0_t2 : Fin (k0_t2_loop v1).trips, 64 ∣ (k0_mult31 v1 k0_t2).toNat) ∧
  (∀ k0_t2 : Fin (k0_t2_loop v1).trips, 64 ∣ (k0_mult32 v1 k0_t2).toNat) ∧
  (∀ k0_t2 : Fin (k0_t2_loop v1).trips, 64 ∣ (k0_mult33 v1 k0_t2).toNat) ∧
  (∀ k0_t2 : Fin (k0_t2_loop v1).trips, 64 ∣ (k0_mult34 v1 k0_t2).toNat) ∧
  (∀ k0_t2 : Fin (k0_t2_loop v1).trips, 64 ∣ (k0_mult35 v1 k0_t2).toNat) ∧
  (∀ k0_t2 : Fin (k0_t2_loop v1).trips, 64 ∣ (k0_mult36 v1 k0_t2).toNat) ∧
  (∀ k0_t2 : Fin (k0_t2_loop v1).trips, 64 ∣ (k0_mult37 v1 k0_t2).toNat) ∧
  (∀ k0_t2 : Fin (k0_t2_loop v1).trips, 64 ∣ (k0_mult38 v1 k0_t2).toNat) ∧
  (∀ k0_t2 : Fin (k0_t2_loop v1).trips, 64 ∣ (k0_mult39 v1 k0_t2).toNat) ∧
  (∀ k0_t2 : Fin (k0_t2_loop v1).trips, 64 ∣ (k0_mult40 v1 k0_t2).toNat) ∧
  (∀ k0_t2 : Fin (k0_t2_loop v1).trips, 64 ∣ (k0_mult41 v1 k0_t2).toNat) ∧
  (∀ k0_t2 : Fin (k0_t2_loop v1).trips, 64 ∣ (k0_mult42 v1 k0_t2).toNat) ∧
  (∀ k0_t2 : Fin (k0_t2_loop v1).trips, 64 ∣ (k0_mult43 v1 k0_t2).toNat) ∧
  (∀ k0_t2 : Fin (k0_t2_loop v1).trips, 64 ∣ (k0_mult44 v1 k0_t2).toNat) ∧
  (∀ k0_t2 : Fin (k0_t2_loop v1).trips, 64 ∣ (k0_mult45 v1 k0_t2).toNat) ∧
  (∀ k0_t2 : Fin (k0_t2_loop v1).trips, 64 ∣ (k0_mult46 v1 k0_t2).toNat) ∧
  (∀ k0_t2 : Fin (k0_t2_loop v1).trips, 64 ∣ (k0_mult47 v1 k0_t2).toNat) ∧
  (∀ k0_t2 : Fin (k0_t2_loop v1).trips, 64 ∣ (k0_mult48 v1 k0_t2).toNat) ∧
  (∀ k0_t2 : Fin (k0_t2_loop v1).trips, 64 ∣ (k0_mult49 v1 k0_t2).toNat) ∧
  (∀ k0_t2 : Fin (k0_t2_loop v1).trips, 64 ∣ (k0_mult50 v1 k0_t2).toNat) ∧
  (∀ k0_t2 : Fin (k0_t2_loop v1).trips, 64 ∣ (k0_mult51 v1 k0_t2).toNat) ∧
  (∀ k0_t2 : Fin (k0_t2_loop v1).trips, 64 ∣ (k0_mult52 v1 k0_t2).toNat) ∧
  ((k0_t3_loop v1).OK) ∧
  (∀ k0_t3 : Fin (k0_t3_loop v1).trips, 1536 ∣ (k0_mult53 v1 k0_t3).toNat)
def k0_chk1_2 (v1 : BitVec 32) : Prop :=
  (∀ k0_t3 : Fin (k0_t3_loop v1).trips, 32 ∣ (k0_mult54 v1 k0_t3).toNat) ∧
  (∀ k0_t3 : Fin (k0_t3_loop v1).trips, ∀ (r : Fin 48), ∀ a, (k0_off10 v1 k0_t3 (BitVec.ofNat 32 (32 * r.val))) a + S32x512.size a ≤ S7680x512.size a) ∧
  (∀ k0_t3 : Fin (k0_t3_loop v1).trips, 32 ∣ (k0_mult55 v1 k0_t3).toNat) ∧
  (∀ k0_t3 : Fin (k0_t3_loop v1).trips, 32 ∣ (k0_mult56 v1 k0_t3).toNat) ∧
  (∀ k0_t3 : Fin (k0_t3_loop v1).trips, 32 ∣ (k0_mult57 v1 k0_t3).toNat) ∧
  (∀ k0_t3 : Fin (k0_t3_loop v1).trips, 32 ∣ (k0_mult58 v1 k0_t3).toNat) ∧
  (∀ k0_t3 : Fin (k0_t3_loop v1).trips, 32 ∣ (k0_mult59 v1 k0_t3).toNat) ∧
  (∀ k0_t3 : Fin (k0_t3_loop v1).trips, 32 ∣ (k0_mult60 v1 k0_t3).toNat) ∧
  (∀ k0_t3 : Fin (k0_t3_loop v1).trips, 32 ∣ (k0_mult61 v1 k0_t3).toNat) ∧
  (∀ k0_t3 : Fin (k0_t3_loop v1).trips, 32 ∣ (k0_mult62 v1 k0_t3).toNat) ∧
  (∀ k0_t3 : Fin (k0_t3_loop v1).trips, 32 ∣ (k0_mult63 v1 k0_t3).toNat) ∧
  (∀ k0_t3 : Fin (k0_t3_loop v1).trips, 32 ∣ (k0_mult64 v1 k0_t3).toNat) ∧
  (∀ k0_t3 : Fin (k0_t3_loop v1).trips, 32 ∣ (k0_mult65 v1 k0_t3).toNat) ∧
  (∀ k0_t3 : Fin (k0_t3_loop v1).trips, 32 ∣ (k0_mult66 v1 k0_t3).toNat) ∧
  (∀ k0_t3 : Fin (k0_t3_loop v1).trips, 32 ∣ (k0_mult67 v1 k0_t3).toNat) ∧
  (∀ k0_t3 : Fin (k0_t3_loop v1).trips, 32 ∣ (k0_mult68 v1 k0_t3).toNat) ∧
  (∀ k0_t3 : Fin (k0_t3_loop v1).trips, 32 ∣ (k0_mult69 v1 k0_t3).toNat) ∧
  (∀ k0_t3 : Fin (k0_t3_loop v1).trips, 32 ∣ (k0_mult70 v1 k0_t3).toNat) ∧
  (∀ k0_t3 : Fin (k0_t3_loop v1).trips, 32 ∣ (k0_mult71 v1 k0_t3).toNat) ∧
  (∀ k0_t3 : Fin (k0_t3_loop v1).trips, 32 ∣ (k0_mult72 v1 k0_t3).toNat) ∧
  (∀ k0_t3 : Fin (k0_t3_loop v1).trips, 32 ∣ (k0_mult73 v1 k0_t3).toNat) ∧
  (∀ k0_t3 : Fin (k0_t3_loop v1).trips, 32 ∣ (k0_mult74 v1 k0_t3).toNat) ∧
  (∀ k0_t3 : Fin (k0_t3_loop v1).trips, 32 ∣ (k0_mult75 v1 k0_t3).toNat) ∧
  (∀ k0_t3 : Fin (k0_t3_loop v1).trips, 32 ∣ (k0_mult76 v1 k0_t3).toNat) ∧
  (∀ k0_t3 : Fin (k0_t3_loop v1).trips, 32 ∣ (k0_mult77 v1 k0_t3).toNat) ∧
  (∀ k0_t3 : Fin (k0_t3_loop v1).trips, 32 ∣ (k0_mult78 v1 k0_t3).toNat) ∧
  (∀ k0_t3 : Fin (k0_t3_loop v1).trips, 32 ∣ (k0_mult79 v1 k0_t3).toNat) ∧
  (∀ k0_t3 : Fin (k0_t3_loop v1).trips, 32 ∣ (k0_mult80 v1 k0_t3).toNat) ∧
  (∀ k0_t3 : Fin (k0_t3_loop v1).trips, 32 ∣ (k0_mult81 v1 k0_t3).toNat) ∧
  (∀ k0_t3 : Fin (k0_t3_loop v1).trips, 32 ∣ (k0_mult82 v1 k0_t3).toNat) ∧
  (∀ k0_t3 : Fin (k0_t3_loop v1).trips, 32 ∣ (k0_mult83 v1 k0_t3).toNat) ∧
  (∀ k0_t3 : Fin (k0_t3_loop v1).trips, 32 ∣ (k0_mult84 v1 k0_t3).toNat)
def k0_chk1_3 (v1 : BitVec 32) : Prop :=
  (∀ k0_t3 : Fin (k0_t3_loop v1).trips, 32 ∣ (k0_mult85 v1 k0_t3).toNat) ∧
  (∀ k0_t3 : Fin (k0_t3_loop v1).trips, 32 ∣ (k0_mult86 v1 k0_t3).toNat) ∧
  (∀ k0_t3 : Fin (k0_t3_loop v1).trips, 32 ∣ (k0_mult87 v1 k0_t3).toNat) ∧
  (∀ k0_t3 : Fin (k0_t3_loop v1).trips, 32 ∣ (k0_mult88 v1 k0_t3).toNat) ∧
  (∀ k0_t3 : Fin (k0_t3_loop v1).trips, 32 ∣ (k0_mult89 v1 k0_t3).toNat) ∧
  (∀ k0_t3 : Fin (k0_t3_loop v1).trips, 32 ∣ (k0_mult90 v1 k0_t3).toNat) ∧
  (∀ k0_t3 : Fin (k0_t3_loop v1).trips, 32 ∣ (k0_mult91 v1 k0_t3).toNat) ∧
  (∀ k0_t3 : Fin (k0_t3_loop v1).trips, 32 ∣ (k0_mult92 v1 k0_t3).toNat) ∧
  (∀ k0_t3 : Fin (k0_t3_loop v1).trips, 32 ∣ (k0_mult93 v1 k0_t3).toNat) ∧
  (∀ k0_t3 : Fin (k0_t3_loop v1).trips, 32 ∣ (k0_mult94 v1 k0_t3).toNat) ∧
  (∀ k0_t3 : Fin (k0_t3_loop v1).trips, 32 ∣ (k0_mult95 v1 k0_t3).toNat) ∧
  (∀ k0_t3 : Fin (k0_t3_loop v1).trips, 32 ∣ (k0_mult96 v1 k0_t3).toNat) ∧
  (∀ k0_t3 : Fin (k0_t3_loop v1).trips, 32 ∣ (k0_mult97 v1 k0_t3).toNat) ∧
  (∀ k0_t3 : Fin (k0_t3_loop v1).trips, 32 ∣ (k0_mult98 v1 k0_t3).toNat) ∧
  (∀ k0_t3 : Fin (k0_t3_loop v1).trips, 32 ∣ (k0_mult99 v1 k0_t3).toNat) ∧
  (∀ k0_t3 : Fin (k0_t3_loop v1).trips, 32 ∣ (k0_mult100 v1 k0_t3).toNat) ∧
  (∀ k0_t3 : Fin (k0_t3_loop v1).trips, 32 ∣ (k0_mult101 v1 k0_t3).toNat) ∧
  (∀ k0_t3 : Fin (k0_t3_loop v1).trips, ∀ a, (k0_off11 v1 k0_t3) a + S1x64x1536.size a ≤ S1x64x7680.size a) ∧
  ((k0_t4_loop v1).OK) ∧
  (∀ k0_t4 : Fin (k0_t4_loop v1).trips, 1536 ∣ (k0_mult102 v1 k0_t4).toNat) ∧
  (∀ k0_t4 : Fin (k0_t4_loop v1).trips, 32 ∣ (k0_mult103 v1 k0_t4).toNat) ∧
  (∀ k0_t4 : Fin (k0_t4_loop v1).trips, ∀ (r : Fin 48), ∀ a, (k0_off12 v1 k0_t4 (BitVec.ofNat 32 (32 * r.val))) a + S32x512.size a ≤ S7680x512.size a) ∧
  (∀ k0_t4 : Fin (k0_t4_loop v1).trips, 32 ∣ (k0_mult104 v1 k0_t4).toNat) ∧
  (∀ k0_t4 : Fin (k0_t4_loop v1).trips, 32 ∣ (k0_mult105 v1 k0_t4).toNat) ∧
  (∀ k0_t4 : Fin (k0_t4_loop v1).trips, 32 ∣ (k0_mult106 v1 k0_t4).toNat) ∧
  (∀ k0_t4 : Fin (k0_t4_loop v1).trips, 32 ∣ (k0_mult107 v1 k0_t4).toNat) ∧
  (∀ k0_t4 : Fin (k0_t4_loop v1).trips, 32 ∣ (k0_mult108 v1 k0_t4).toNat) ∧
  (∀ k0_t4 : Fin (k0_t4_loop v1).trips, 32 ∣ (k0_mult109 v1 k0_t4).toNat) ∧
  (∀ k0_t4 : Fin (k0_t4_loop v1).trips, 32 ∣ (k0_mult110 v1 k0_t4).toNat) ∧
  (∀ k0_t4 : Fin (k0_t4_loop v1).trips, 32 ∣ (k0_mult111 v1 k0_t4).toNat) ∧
  (∀ k0_t4 : Fin (k0_t4_loop v1).trips, 32 ∣ (k0_mult112 v1 k0_t4).toNat) ∧
  (∀ k0_t4 : Fin (k0_t4_loop v1).trips, 32 ∣ (k0_mult113 v1 k0_t4).toNat)
def k0_chk1_4 (v1 : BitVec 32) : Prop :=
  (∀ k0_t4 : Fin (k0_t4_loop v1).trips, 32 ∣ (k0_mult114 v1 k0_t4).toNat) ∧
  (∀ k0_t4 : Fin (k0_t4_loop v1).trips, 32 ∣ (k0_mult115 v1 k0_t4).toNat) ∧
  (∀ k0_t4 : Fin (k0_t4_loop v1).trips, 32 ∣ (k0_mult116 v1 k0_t4).toNat) ∧
  (∀ k0_t4 : Fin (k0_t4_loop v1).trips, 32 ∣ (k0_mult117 v1 k0_t4).toNat) ∧
  (∀ k0_t4 : Fin (k0_t4_loop v1).trips, 32 ∣ (k0_mult118 v1 k0_t4).toNat) ∧
  (∀ k0_t4 : Fin (k0_t4_loop v1).trips, 32 ∣ (k0_mult119 v1 k0_t4).toNat) ∧
  (∀ k0_t4 : Fin (k0_t4_loop v1).trips, 32 ∣ (k0_mult120 v1 k0_t4).toNat) ∧
  (∀ k0_t4 : Fin (k0_t4_loop v1).trips, 32 ∣ (k0_mult121 v1 k0_t4).toNat) ∧
  (∀ k0_t4 : Fin (k0_t4_loop v1).trips, 32 ∣ (k0_mult122 v1 k0_t4).toNat) ∧
  (∀ k0_t4 : Fin (k0_t4_loop v1).trips, 32 ∣ (k0_mult123 v1 k0_t4).toNat) ∧
  (∀ k0_t4 : Fin (k0_t4_loop v1).trips, 32 ∣ (k0_mult124 v1 k0_t4).toNat) ∧
  (∀ k0_t4 : Fin (k0_t4_loop v1).trips, 32 ∣ (k0_mult125 v1 k0_t4).toNat) ∧
  (∀ k0_t4 : Fin (k0_t4_loop v1).trips, 32 ∣ (k0_mult126 v1 k0_t4).toNat) ∧
  (∀ k0_t4 : Fin (k0_t4_loop v1).trips, 32 ∣ (k0_mult127 v1 k0_t4).toNat) ∧
  (∀ k0_t4 : Fin (k0_t4_loop v1).trips, 32 ∣ (k0_mult128 v1 k0_t4).toNat) ∧
  (∀ k0_t4 : Fin (k0_t4_loop v1).trips, 32 ∣ (k0_mult129 v1 k0_t4).toNat) ∧
  (∀ k0_t4 : Fin (k0_t4_loop v1).trips, 32 ∣ (k0_mult130 v1 k0_t4).toNat) ∧
  (∀ k0_t4 : Fin (k0_t4_loop v1).trips, 32 ∣ (k0_mult131 v1 k0_t4).toNat) ∧
  (∀ k0_t4 : Fin (k0_t4_loop v1).trips, 32 ∣ (k0_mult132 v1 k0_t4).toNat) ∧
  (∀ k0_t4 : Fin (k0_t4_loop v1).trips, 32 ∣ (k0_mult133 v1 k0_t4).toNat) ∧
  (∀ k0_t4 : Fin (k0_t4_loop v1).trips, 32 ∣ (k0_mult134 v1 k0_t4).toNat) ∧
  (∀ k0_t4 : Fin (k0_t4_loop v1).trips, 32 ∣ (k0_mult135 v1 k0_t4).toNat) ∧
  (∀ k0_t4 : Fin (k0_t4_loop v1).trips, 32 ∣ (k0_mult136 v1 k0_t4).toNat) ∧
  (∀ k0_t4 : Fin (k0_t4_loop v1).trips, 32 ∣ (k0_mult137 v1 k0_t4).toNat) ∧
  (∀ k0_t4 : Fin (k0_t4_loop v1).trips, 32 ∣ (k0_mult138 v1 k0_t4).toNat) ∧
  (∀ k0_t4 : Fin (k0_t4_loop v1).trips, 32 ∣ (k0_mult139 v1 k0_t4).toNat) ∧
  (∀ k0_t4 : Fin (k0_t4_loop v1).trips, 32 ∣ (k0_mult140 v1 k0_t4).toNat) ∧
  (∀ k0_t4 : Fin (k0_t4_loop v1).trips, 32 ∣ (k0_mult141 v1 k0_t4).toNat) ∧
  (∀ k0_t4 : Fin (k0_t4_loop v1).trips, 32 ∣ (k0_mult142 v1 k0_t4).toNat) ∧
  (∀ k0_t4 : Fin (k0_t4_loop v1).trips, 32 ∣ (k0_mult143 v1 k0_t4).toNat) ∧
  (∀ k0_t4 : Fin (k0_t4_loop v1).trips, 32 ∣ (k0_mult144 v1 k0_t4).toNat) ∧
  (∀ k0_t4 : Fin (k0_t4_loop v1).trips, 32 ∣ (k0_mult145 v1 k0_t4).toNat)
def k0_chk1_5 (v1 : BitVec 32) : Prop :=
  (∀ k0_t4 : Fin (k0_t4_loop v1).trips, 32 ∣ (k0_mult146 v1 k0_t4).toNat) ∧
  (∀ k0_t4 : Fin (k0_t4_loop v1).trips, 32 ∣ (k0_mult147 v1 k0_t4).toNat) ∧
  (∀ k0_t4 : Fin (k0_t4_loop v1).trips, 32 ∣ (k0_mult148 v1 k0_t4).toNat) ∧
  (∀ k0_t4 : Fin (k0_t4_loop v1).trips, 32 ∣ (k0_mult149 v1 k0_t4).toNat) ∧
  (∀ k0_t4 : Fin (k0_t4_loop v1).trips, 32 ∣ (k0_mult150 v1 k0_t4).toNat) ∧
  (∀ k0_t4 : Fin (k0_t4_loop v1).trips, ∀ a, (k0_off13 v1 k0_t4) a + S1x64x1536.size a ≤ S1x64x7680.size a)
def k0_chk1 (v1 : BitVec 32) : Prop :=
  k0_chk1_0 v1 ∧
  k0_chk1_1 v1 ∧
  k0_chk1_2 v1 ∧
  k0_chk1_3 v1 ∧
  k0_chk1_4 v1 ∧
  k0_chk1_5 v1
theorem k0_t1_ok : ∀ (v1 : BitVec 32) (k0_hw1 : k0_chk1 v1), (k0_t1_loop v1).OK := fun v1 k0_hw1 => k0_hw1.1.1
theorem k0_mult1_dvd : ∀ (v1 : BitVec 32) (k0_hw1 : k0_chk1 v1) (k0_t1 : Fin (k0_t1_loop v1).trips), 1536 ∣ (k0_mult1 v1 k0_t1).toNat := fun v1 k0_hw1 k0_t1 => k0_hw1.1.2.1 k0_t1
theorem k0_off2_inb : ∀ (v1 : BitVec 32) (k0_hw1 : k0_chk1 v1) (k0_t1 : Fin (k0_t1_loop v1).trips), ∀ a, (k0_off2 v1 k0_t1) a + S1x1x1536x128.size a ≤ S1x1x7680x128.size a := fun v1 k0_hw1 k0_t1 => k0_hw1.1.2.2.1 k0_t1
theorem k0_off3_inb : ∀ (v1 : BitVec 32) (k0_hw1 : k0_chk1 v1) (k0_t1 : Fin (k0_t1_loop v1).trips), ∀ a, (k0_off3 v1 k0_t1) a + S1x1x1x1536x128.size a ≤ S1x1x1x7680x128.size a := fun v1 k0_hw1 k0_t1 => k0_hw1.1.2.2.2.1 k0_t1
theorem k0_mult2_dvd : ∀ (v1 : BitVec 32) (k0_hw1 : k0_chk1 v1) (k0_t1 : Fin (k0_t1_loop v1).trips), 192 ∣ (k0_mult2 v1 k0_t1).toNat := fun v1 k0_hw1 k0_t1 => k0_hw1.1.2.2.2.2.1 k0_t1
theorem k0_off4_inb : ∀ (v1 : BitVec 32) (k0_hw1 : k0_chk1 v1) (k0_t1 : Fin (k0_t1_loop v1).trips), ∀ a, (k0_off4 v1 k0_t1) a + S1x1x192x128.size a ≤ S1x1x960x128.size a := fun v1 k0_hw1 k0_t1 => k0_hw1.1.2.2.2.2.2.1 k0_t1
theorem k0_mult3_dvd : ∀ (v1 : BitVec 32) (k0_hw1 : k0_chk1 v1) (k0_t1 : Fin (k0_t1_loop v1).trips), 64 ∣ (k0_mult3 v1 k0_t1).toNat := fun v1 k0_hw1 k0_t1 => k0_hw1.1.2.2.2.2.2.2.1 k0_t1
theorem k0_off5_inb : ∀ (v1 : BitVec 32) (k0_hw1 : k0_chk1 v1) (k0_t1 : Fin (k0_t1_loop v1).trips), ∀ (r : Fin 24), ∀ a, (k0_off5 v1 k0_t1 (BitVec.ofNat 32 (64 * r.val))) a + S64x512.size a ≤ S7680x512.size a := fun v1 k0_hw1 k0_t1 r => k0_hw1.1.2.2.2.2.2.2.2.1 k0_t1 r
theorem k0_mult4_dvd : ∀ (v1 : BitVec 32) (k0_hw1 : k0_chk1 v1) (k0_t1 : Fin (k0_t1_loop v1).trips), 64 ∣ (k0_mult4 v1 k0_t1).toNat := fun v1 k0_hw1 k0_t1 => k0_hw1.1.2.2.2.2.2.2.2.2.1 k0_t1
theorem k0_mult5_dvd : ∀ (v1 : BitVec 32) (k0_hw1 : k0_chk1 v1) (k0_t1 : Fin (k0_t1_loop v1).trips), 64 ∣ (k0_mult5 v1 k0_t1).toNat := fun v1 k0_hw1 k0_t1 => k0_hw1.1.2.2.2.2.2.2.2.2.2.1 k0_t1
theorem k0_mult6_dvd : ∀ (v1 : BitVec 32) (k0_hw1 : k0_chk1 v1) (k0_t1 : Fin (k0_t1_loop v1).trips), 64 ∣ (k0_mult6 v1 k0_t1).toNat := fun v1 k0_hw1 k0_t1 => k0_hw1.1.2.2.2.2.2.2.2.2.2.2.1 k0_t1
theorem k0_mult7_dvd : ∀ (v1 : BitVec 32) (k0_hw1 : k0_chk1 v1) (k0_t1 : Fin (k0_t1_loop v1).trips), 64 ∣ (k0_mult7 v1 k0_t1).toNat := fun v1 k0_hw1 k0_t1 => k0_hw1.1.2.2.2.2.2.2.2.2.2.2.2.1 k0_t1
theorem k0_mult8_dvd : ∀ (v1 : BitVec 32) (k0_hw1 : k0_chk1 v1) (k0_t1 : Fin (k0_t1_loop v1).trips), 64 ∣ (k0_mult8 v1 k0_t1).toNat := fun v1 k0_hw1 k0_t1 => k0_hw1.1.2.2.2.2.2.2.2.2.2.2.2.2.1 k0_t1
theorem k0_mult9_dvd : ∀ (v1 : BitVec 32) (k0_hw1 : k0_chk1 v1) (k0_t1 : Fin (k0_t1_loop v1).trips), 64 ∣ (k0_mult9 v1 k0_t1).toNat := fun v1 k0_hw1 k0_t1 => k0_hw1.1.2.2.2.2.2.2.2.2.2.2.2.2.2.1 k0_t1
theorem k0_mult10_dvd : ∀ (v1 : BitVec 32) (k0_hw1 : k0_chk1 v1) (k0_t1 : Fin (k0_t1_loop v1).trips), 64 ∣ (k0_mult10 v1 k0_t1).toNat := fun v1 k0_hw1 k0_t1 => k0_hw1.1.2.2.2.2.2.2.2.2.2.2.2.2.2.2.1 k0_t1
theorem k0_mult11_dvd : ∀ (v1 : BitVec 32) (k0_hw1 : k0_chk1 v1) (k0_t1 : Fin (k0_t1_loop v1).trips), 64 ∣ (k0_mult11 v1 k0_t1).toNat := fun v1 k0_hw1 k0_t1 => k0_hw1.1.2.2.2.2.2.2.2.2.2.2.2.2.2.2.2.1 k0_t1
theorem k0_mult12_dvd : ∀ (v1 : BitVec 32) (k0_hw1 : k0_chk1 v1) (k0_t1 : Fin (k0_t1_loop v1).trips), 64 ∣ (k0_mult12 v1 k0_t1).toNat := fun v1 k0_hw1 k0_t1 => k0_hw1.1.2.2.2.2.2.2.2.2.2.2.2.2.2.2.2.2.1 k0_t1
theorem k0_mult13_dvd : ∀ (v1 : BitVec 32) (k0_hw1 : k0_chk1 v1) (k0_t1 : Fin (k0_t1_loop v1).trips), 64 ∣ (k0_mult13 v1 k0_t1).toNat := fun v1 k0_hw1 k0_t1 => k0_hw1.1.2.2.2.2.2.2.2.2.2.2.2.2.2.2.2.2.2.1 k0_t1
theorem k0_mult14_dvd : ∀ (v1 : BitVec 32) (k0_hw1 : k0_chk1 v1) (k0_t1 : Fin (k0_t1_loop v1).trips), 64 ∣ (k0_mult14 v1 k0_t1).toNat := fun v1 k0_hw1 k0_t1 => k0_hw1.1.2.2.2.2.2.2.2.2.2.2.2.2.2.2.2.2.2.2.1 k0_t1
theorem k0_mult15_dvd : ∀ (v1 : BitVec 32) (k0_hw1 : k0_chk1 v1) (k0_t1 : Fin (k0_t1_loop v1).trips), 64 ∣ (k0_mult15 v1 k0_t1).toNat := fun v1 k0_hw1 k0_t1 => k0_hw1.1.2.2.2.2.2.2.2.2.2.2.2.2.2.2.2.2.2.2.2.1 k0_t1
theorem k0_mult16_dvd : ∀ (v1 : BitVec 32) (k0_hw1 : k0_chk1 v1) (k0_t1 : Fin (k0_t1_loop v1).trips), 64 ∣ (k0_mult16 v1 k0_t1).toNat := fun v1 k0_hw1 k0_t1 => k0_hw1.1.2.2.2.2.2.2.2.2.2.2.2.2.2.2.2.2.2.2.2.2.1 k0_t1
theorem k0_mult17_dvd : ∀ (v1 : BitVec 32) (k0_hw1 : k0_chk1 v1) (k0_t1 : Fin (k0_t1_loop v1).trips), 64 ∣ (k0_mult17 v1 k0_t1).toNat := fun v1 k0_hw1 k0_t1 => k0_hw1.1.2.2.2.2.2.2.2.2.2.2.2.2.2.2.2.2.2.2.2.2.2.1 k0_t1
theorem k0_mult18_dvd : ∀ (v1 : BitVec 32) (k0_hw1 : k0_chk1 v1) (k0_t1 : Fin (k0_t1_loop v1).trips), 64 ∣ (k0_mult18 v1 k0_t1).toNat := fun v1 k0_hw1 k0_t1 => k0_hw1.1.2.2.2.2.2.2.2.2.2.2.2.2.2.2.2.2.2.2.2.2.2.2.1 k0_t1
theorem k0_mult19_dvd : ∀ (v1 : BitVec 32) (k0_hw1 : k0_chk1 v1) (k0_t1 : Fin (k0_t1_loop v1).trips), 64 ∣ (k0_mult19 v1 k0_t1).toNat := fun v1 k0_hw1 k0_t1 => k0_hw1.1.2.2.2.2.2.2.2.2.2.2.2.2.2.2.2.2.2.2.2.2.2.2.2.1 k0_t1
theorem k0_mult20_dvd : ∀ (v1 : BitVec 32) (k0_hw1 : k0_chk1 v1) (k0_t1 : Fin (k0_t1_loop v1).trips), 64 ∣ (k0_mult20 v1 k0_t1).toNat := fun v1 k0_hw1 k0_t1 => k0_hw1.1.2.2.2.2.2.2.2.2.2.2.2.2.2.2.2.2.2.2.2.2.2.2.2.2.1 k0_t1
theorem k0_mult21_dvd : ∀ (v1 : BitVec 32) (k0_hw1 : k0_chk1 v1) (k0_t1 : Fin (k0_t1_loop v1).trips), 64 ∣ (k0_mult21 v1 k0_t1).toNat := fun v1 k0_hw1 k0_t1 => k0_hw1.1.2.2.2.2.2.2.2.2.2.2.2.2.2.2.2.2.2.2.2.2.2.2.2.2.2.1 k0_t1
theorem k0_mult22_dvd : ∀ (v1 : BitVec 32) (k0_hw1 : k0_chk1 v1) (k0_t1 : Fin (k0_t1_loop v1).trips), 64 ∣ (k0_mult22 v1 k0_t1).toNat := fun v1 k0_hw1 k0_t1 => k0_hw1.1.2.2.2.2.2.2.2.2.2.2.2.2.2.2.2.2.2.2.2.2.2.2.2.2.2.2.1 k0_t1
theorem k0_mult23_dvd : ∀ (v1 : BitVec 32) (k0_hw1 : k0_chk1 v1) (k0_t1 : Fin (k0_t1_loop v1).trips), 64 ∣ (k0_mult23 v1 k0_t1).toNat := fun v1 k0_hw1 k0_t1 => k0_hw1.1.2.2.2.2.2.2.2.2.2.2.2.2.2.2.2.2.2.2.2.2.2.2.2.2.2.2.2.1 k0_t1
theorem k0_mult24_dvd : ∀ (v1 : BitVec 32) (k0_hw1 : k0_chk1 v1) (k0_t1 : Fin (k0_t1_loop v1).trips), 64 ∣ (k0_mult24 v1 k0_t1).toNat := fun v1 k0_hw1 k0_t1 => k0_hw1.1.2.2.2.2.2.2.2.2.2.2.2.2.2.2.2.2.2.2.2.2.2.2.2.2.2.2.2.2.1 k0_t1
theorem k0_mult25_dvd : ∀ (v1 : BitVec 32) (k0_hw1 : k0_chk1 v1) (k0_t1 : Fin (k0_t1_loop v1).trips), 64 ∣ (k0_mult25 v1 k0_t1).toNat := fun v1 k0_hw1 k0_t1 => k0_hw1.1.2.2.2.2.2.2.2.2.2.2.2.2.2.2.2.2.2.2.2.2.2.2.2.2.2.2.2.2.2.1 k0_t1
theorem k0_mult26_dvd : ∀ (v1 : BitVec 32) (k0_hw1 : k0_chk1 v1) (k0_t1 : Fin (k0_t1_loop v1).trips), 64 ∣ (k0_mult26 v1 k0_t1).toNat := fun v1 k0_hw1 k0_t1 => k0_hw1.1.2.2.2.2.2.2.2.2.2.2.2.2.2.2.2.2.2.2.2.2.2.2.2.2.2.2.2.2.2.2.1 k0_t1
theorem k0_t2_ok : ∀ (v1 : BitVec 32) (k0_hw1 : k0_chk1 v1), (k0_t2_loop v1).OK := fun v1 k0_hw1 => k0_hw1.1.2.2.2.2.2.2.2.2.2.2.2.2.2.2.2.2.2.2.2.2.2.2.2.2.2.2.2.2.2.2.2
theorem k0_mult27_dvd : ∀ (v1 : BitVec 32) (k0_hw1 : k0_chk1 v1) (k0_t2 : Fin (k0_t2_loop v1).trips), 1536 ∣ (k0_mult27 v1 k0_t2).toNat := fun v1 k0_hw1 k0_t2 => k0_hw1.2.1.1 k0_t2
theorem k0_off6_inb : ∀ (v1 : BitVec 32) (k0_hw1 : k0_chk1 v1) (k0_t2 : Fin (k0_t2_loop v1).trips), ∀ a, (k0_off6 v1 k0_t2) a + S1x1x1536x128.size a ≤ S1x1x7680x128.size a := fun v1 k0_hw1 k0_t2 => k0_hw1.2.1.2.1 k0_t2
theorem k0_off7_inb : ∀ (v1 : BitVec 32) (k0_hw1 : k0_chk1 v1) (k0_t2 : Fin (k0_t2_loop v1).trips), ∀ a, (k0_off7 v1 k0_t2) a + S1x1x1x1536x128.size a ≤ S1x1x1x7680x128.size a := fun v1 k0_hw1 k0_t2 => k0_hw1.2.1.2.2.1 k0_t2
theorem k0_mult28_dvd : ∀ (v1 : BitVec 32) (k0_hw1 : k0_chk1 v1) (k0_t2 : Fin (k0_t2_loop v1).trips), 192 ∣ (k0_mult28 v1 k0_t2).toNat := fun v1 k0_hw1 k0_t2 => k0_hw1.2.1.2.2.2.1 k0_t2
theorem k0_off8_inb : ∀ (v1 : BitVec 32) (k0_hw1 : k0_chk1 v1) (k0_t2 : Fin (k0_t2_loop v1).trips), ∀ a, (k0_off8 v1 k0_t2) a + S1x1x192x128.size a ≤ S1x1x960x128.size a := fun v1 k0_hw1 k0_t2 => k0_hw1.2.1.2.2.2.2.1 k0_t2
theorem k0_mult29_dvd : ∀ (v1 : BitVec 32) (k0_hw1 : k0_chk1 v1) (k0_t2 : Fin (k0_t2_loop v1).trips), 64 ∣ (k0_mult29 v1 k0_t2).toNat := fun v1 k0_hw1 k0_t2 => k0_hw1.2.1.2.2.2.2.2.1 k0_t2
theorem k0_off9_inb : ∀ (v1 : BitVec 32) (k0_hw1 : k0_chk1 v1) (k0_t2 : Fin (k0_t2_loop v1).trips), ∀ (r : Fin 24), ∀ a, (k0_off9 v1 k0_t2 (BitVec.ofNat 32 (64 * r.val))) a + S64x512.size a ≤ S7680x512.size a := fun v1 k0_hw1 k0_t2 r => k0_hw1.2.1.2.2.2.2.2.2.1 k0_t2 r
theorem k0_mult30_dvd : ∀ (v1 : BitVec 32) (k0_hw1 : k0_chk1 v1) (k0_t2 : Fin (k0_t2_loop v1).trips), 64 ∣ (k0_mult30 v1 k0_t2).toNat := fun v1 k0_hw1 k0_t2 => k0_hw1.2.1.2.2.2.2.2.2.2.1 k0_t2
theorem k0_mult31_dvd : ∀ (v1 : BitVec 32) (k0_hw1 : k0_chk1 v1) (k0_t2 : Fin (k0_t2_loop v1).trips), 64 ∣ (k0_mult31 v1 k0_t2).toNat := fun v1 k0_hw1 k0_t2 => k0_hw1.2.1.2.2.2.2.2.2.2.2.1 k0_t2
theorem k0_mult32_dvd : ∀ (v1 : BitVec 32) (k0_hw1 : k0_chk1 v1) (k0_t2 : Fin (k0_t2_loop v1).trips), 64 ∣ (k0_mult32 v1 k0_t2).toNat := fun v1 k0_hw1 k0_t2 => k0_hw1.2.1.2.2.2.2.2.2.2.2.2.1 k0_t2
theorem k0_mult33_dvd : ∀ (v1 : BitVec 32) (k0_hw1 : k0_chk1 v1) (k0_t2 : Fin (k0_t2_loop v1).trips), 64 ∣ (k0_mult33 v1 k0_t2).toNat := fun v1 k0_hw1 k0_t2 => k0_hw1.2.1.2.2.2.2.2.2.2.2.2.2.1 k0_t2
theorem k0_mult34_dvd : ∀ (v1 : BitVec 32) (k0_hw1 : k0_chk1 v1) (k0_t2 : Fin (k0_t2_loop v1).trips), 64 ∣ (k0_mult34 v1 k0_t2).toNat := fun v1 k0_hw1 k0_t2 => k0_hw1.2.1.2.2.2.2.2.2.2.2.2.2.2.1 k0_t2
theorem k0_mult35_dvd : ∀ (v1 : BitVec 32) (k0_hw1 : k0_chk1 v1) (k0_t2 : Fin (k0_t2_loop v1).trips), 64 ∣ (k0_mult35 v1 k0_t2).toNat := fun v1 k0_hw1 k0_t2 => k0_hw1.2.1.2.2.2.2.2.2.2.2.2.2.2.2.1 k0_t2
theorem k0_mult36_dvd : ∀ (v1 : BitVec 32) (k0_hw1 : k0_chk1 v1) (k0_t2 : Fin (k0_t2_loop v1).trips), 64 ∣ (k0_mult36 v1 k0_t2).toNat := fun v1 k0_hw1 k0_t2 => k0_hw1.2.1.2.2.2.2.2.2.2.2.2.2.2.2.2.1 k0_t2
theorem k0_mult37_dvd : ∀ (v1 : BitVec 32) (k0_hw1 : k0_chk1 v1) (k0_t2 : Fin (k0_t2_loop v1).trips), 64 ∣ (k0_mult37 v1 k0_t2).toNat := fun v1 k0_hw1 k0_t2 => k0_hw1.2.1.2.2.2.2.2.2.2.2.2.2.2.2.2.2.1 k0_t2
theorem k0_mult38_dvd : ∀ (v1 : BitVec 32) (k0_hw1 : k0_chk1 v1) (k0_t2 : Fin (k0_t2_loop v1).trips), 64 ∣ (k0_mult38 v1 k0_t2).toNat := fun v1 k0_hw1 k0_t2 => k0_hw1.2.1.2.2.2.2.2.2.2.2.2.2.2.2.2.2.2.1 k0_t2
theorem k0_mult39_dvd : ∀ (v1 : BitVec 32) (k0_hw1 : k0_chk1 v1) (k0_t2 : Fin (k0_t2_loop v1).trips), 64 ∣ (k0_mult39 v1 k0_t2).toNat := fun v1 k0_hw1 k0_t2 => k0_hw1.2.1.2.2.2.2.2.2.2.2.2.2.2.2.2.2.2.2.1 k0_t2
theorem k0_mult40_dvd : ∀ (v1 : BitVec 32) (k0_hw1 : k0_chk1 v1) (k0_t2 : Fin (k0_t2_loop v1).trips), 64 ∣ (k0_mult40 v1 k0_t2).toNat := fun v1 k0_hw1 k0_t2 => k0_hw1.2.1.2.2.2.2.2.2.2.2.2.2.2.2.2.2.2.2.2.1 k0_t2
theorem k0_mult41_dvd : ∀ (v1 : BitVec 32) (k0_hw1 : k0_chk1 v1) (k0_t2 : Fin (k0_t2_loop v1).trips), 64 ∣ (k0_mult41 v1 k0_t2).toNat := fun v1 k0_hw1 k0_t2 => k0_hw1.2.1.2.2.2.2.2.2.2.2.2.2.2.2.2.2.2.2.2.2.1 k0_t2
theorem k0_mult42_dvd : ∀ (v1 : BitVec 32) (k0_hw1 : k0_chk1 v1) (k0_t2 : Fin (k0_t2_loop v1).trips), 64 ∣ (k0_mult42 v1 k0_t2).toNat := fun v1 k0_hw1 k0_t2 => k0_hw1.2.1.2.2.2.2.2.2.2.2.2.2.2.2.2.2.2.2.2.2.2.1 k0_t2
theorem k0_mult43_dvd : ∀ (v1 : BitVec 32) (k0_hw1 : k0_chk1 v1) (k0_t2 : Fin (k0_t2_loop v1).trips), 64 ∣ (k0_mult43 v1 k0_t2).toNat := fun v1 k0_hw1 k0_t2 => k0_hw1.2.1.2.2.2.2.2.2.2.2.2.2.2.2.2.2.2.2.2.2.2.2.1 k0_t2
theorem k0_mult44_dvd : ∀ (v1 : BitVec 32) (k0_hw1 : k0_chk1 v1) (k0_t2 : Fin (k0_t2_loop v1).trips), 64 ∣ (k0_mult44 v1 k0_t2).toNat := fun v1 k0_hw1 k0_t2 => k0_hw1.2.1.2.2.2.2.2.2.2.2.2.2.2.2.2.2.2.2.2.2.2.2.2.1 k0_t2
theorem k0_mult45_dvd : ∀ (v1 : BitVec 32) (k0_hw1 : k0_chk1 v1) (k0_t2 : Fin (k0_t2_loop v1).trips), 64 ∣ (k0_mult45 v1 k0_t2).toNat := fun v1 k0_hw1 k0_t2 => k0_hw1.2.1.2.2.2.2.2.2.2.2.2.2.2.2.2.2.2.2.2.2.2.2.2.2.1 k0_t2
theorem k0_mult46_dvd : ∀ (v1 : BitVec 32) (k0_hw1 : k0_chk1 v1) (k0_t2 : Fin (k0_t2_loop v1).trips), 64 ∣ (k0_mult46 v1 k0_t2).toNat := fun v1 k0_hw1 k0_t2 => k0_hw1.2.1.2.2.2.2.2.2.2.2.2.2.2.2.2.2.2.2.2.2.2.2.2.2.2.1 k0_t2
theorem k0_mult47_dvd : ∀ (v1 : BitVec 32) (k0_hw1 : k0_chk1 v1) (k0_t2 : Fin (k0_t2_loop v1).trips), 64 ∣ (k0_mult47 v1 k0_t2).toNat := fun v1 k0_hw1 k0_t2 => k0_hw1.2.1.2.2.2.2.2.2.2.2.2.2.2.2.2.2.2.2.2.2.2.2.2.2.2.2.1 k0_t2
theorem k0_mult48_dvd : ∀ (v1 : BitVec 32) (k0_hw1 : k0_chk1 v1) (k0_t2 : Fin (k0_t2_loop v1).trips), 64 ∣ (k0_mult48 v1 k0_t2).toNat := fun v1 k0_hw1 k0_t2 => k0_hw1.2.1.2.2.2.2.2.2.2.2.2.2.2.2.2.2.2.2.2.2.2.2.2.2.2.2.2.1 k0_t2
theorem k0_mult49_dvd : ∀ (v1 : BitVec 32) (k0_hw1 : k0_chk1 v1) (k0_t2 : Fin (k0_t2_loop v1).trips), 64 ∣ (k0_mult49 v1 k0_t2).toNat := fun v1 k0_hw1 k0_t2 => k0_hw1.2.1.2.2.2.2.2.2.2.2.2.2.2.2.2.2.2.2.2.2.2.2.2.2.2.2.2.2.1 k0_t2
theorem k0_mult50_dvd : ∀ (v1 : BitVec 32) (k0_hw1 : k0_chk1 v1) (k0_t2 : Fin (k0_t2_loop v1).trips), 64 ∣ (k0_mult50 v1 k0_t2).toNat := fun v1 k0_hw1 k0_t2 => k0_hw1.2.1.2.2.2.2.2.2.2.2.2.2.2.2.2.2.2.2.2.2.2.2.2.2.2.2.2.2.2.1 k0_t2
theorem k0_mult51_dvd : ∀ (v1 : BitVec 32) (k0_hw1 : k0_chk1 v1) (k0_t2 : Fin (k0_t2_loop v1).trips), 64 ∣ (k0_mult51 v1 k0_t2).toNat := fun v1 k0_hw1 k0_t2 => k0_hw1.2.1.2.2.2.2.2.2.2.2.2.2.2.2.2.2.2.2.2.2.2.2.2.2.2.2.2.2.2.2.1 k0_t2
theorem k0_mult52_dvd : ∀ (v1 : BitVec 32) (k0_hw1 : k0_chk1 v1) (k0_t2 : Fin (k0_t2_loop v1).trips), 64 ∣ (k0_mult52 v1 k0_t2).toNat := fun v1 k0_hw1 k0_t2 => k0_hw1.2.1.2.2.2.2.2.2.2.2.2.2.2.2.2.2.2.2.2.2.2.2.2.2.2.2.2.2.2.2.2.1 k0_t2
theorem k0_t3_ok : ∀ (v1 : BitVec 32) (k0_hw1 : k0_chk1 v1), (k0_t3_loop v1).OK := fun v1 k0_hw1 => k0_hw1.2.1.2.2.2.2.2.2.2.2.2.2.2.2.2.2.2.2.2.2.2.2.2.2.2.2.2.2.2.2.2.2.1
theorem k0_mult53_dvd : ∀ (v1 : BitVec 32) (k0_hw1 : k0_chk1 v1) (k0_t3 : Fin (k0_t3_loop v1).trips), 1536 ∣ (k0_mult53 v1 k0_t3).toNat := fun v1 k0_hw1 k0_t3 => k0_hw1.2.1.2.2.2.2.2.2.2.2.2.2.2.2.2.2.2.2.2.2.2.2.2.2.2.2.2.2.2.2.2.2.2 k0_t3
theorem k0_mult54_dvd : ∀ (v1 : BitVec 32) (k0_hw1 : k0_chk1 v1) (k0_t3 : Fin (k0_t3_loop v1).trips), 32 ∣ (k0_mult54 v1 k0_t3).toNat := fun v1 k0_hw1 k0_t3 => k0_hw1.2.2.1.1 k0_t3
theorem k0_off10_inb : ∀ (v1 : BitVec 32) (k0_hw1 : k0_chk1 v1) (k0_t3 : Fin (k0_t3_loop v1).trips), ∀ (r : Fin 48), ∀ a, (k0_off10 v1 k0_t3 (BitVec.ofNat 32 (32 * r.val))) a + S32x512.size a ≤ S7680x512.size a := fun v1 k0_hw1 k0_t3 r => k0_hw1.2.2.1.2.1 k0_t3 r
theorem k0_mult55_dvd : ∀ (v1 : BitVec 32) (k0_hw1 : k0_chk1 v1) (k0_t3 : Fin (k0_t3_loop v1).trips), 32 ∣ (k0_mult55 v1 k0_t3).toNat := fun v1 k0_hw1 k0_t3 => k0_hw1.2.2.1.2.2.1 k0_t3
theorem k0_mult56_dvd : ∀ (v1 : BitVec 32) (k0_hw1 : k0_chk1 v1) (k0_t3 : Fin (k0_t3_loop v1).trips), 32 ∣ (k0_mult56 v1 k0_t3).toNat := fun v1 k0_hw1 k0_t3 => k0_hw1.2.2.1.2.2.2.1 k0_t3
theorem k0_mult57_dvd : ∀ (v1 : BitVec 32) (k0_hw1 : k0_chk1 v1) (k0_t3 : Fin (k0_t3_loop v1).trips), 32 ∣ (k0_mult57 v1 k0_t3).toNat := fun v1 k0_hw1 k0_t3 => k0_hw1.2.2.1.2.2.2.2.1 k0_t3
theorem k0_mult58_dvd : ∀ (v1 : BitVec 32) (k0_hw1 : k0_chk1 v1) (k0_t3 : Fin (k0_t3_loop v1).trips), 32 ∣ (k0_mult58 v1 k0_t3).toNat := fun v1 k0_hw1 k0_t3 => k0_hw1.2.2.1.2.2.2.2.2.1 k0_t3
theorem k0_mult59_dvd : ∀ (v1 : BitVec 32) (k0_hw1 : k0_chk1 v1) (k0_t3 : Fin (k0_t3_loop v1).trips), 32 ∣ (k0_mult59 v1 k0_t3).toNat := fun v1 k0_hw1 k0_t3 => k0_hw1.2.2.1.2.2.2.2.2.2.1 k0_t3
theorem k0_mult60_dvd : ∀ (v1 : BitVec 32) (k0_hw1 : k0_chk1 v1) (k0_t3 : Fin (k0_t3_loop v1).trips), 32 ∣ (k0_mult60 v1 k0_t3).toNat := fun v1 k0_hw1 k0_t3 => k0_hw1.2.2.1.2.2.2.2.2.2.2.1 k0_t3
theorem k0_mult61_dvd : ∀ (v1 : BitVec 32) (k0_hw1 : k0_chk1 v1) (k0_t3 : Fin (k0_t3_loop v1).trips), 32 ∣ (k0_mult61 v1 k0_t3).toNat := fun v1 k0_hw1 k0_t3 => k0_hw1.2.2.1.2.2.2.2.2.2.2.2.1 k0_t3
theorem k0_mult62_dvd : ∀ (v1 : BitVec 32) (k0_hw1 : k0_chk1 v1) (k0_t3 : Fin (k0_t3_loop v1).trips), 32 ∣ (k0_mult62 v1 k0_t3).toNat := fun v1 k0_hw1 k0_t3 => k0_hw1.2.2.1.2.2.2.2.2.2.2.2.2.1 k0_t3
theorem k0_mult63_dvd : ∀ (v1 : BitVec 32) (k0_hw1 : k0_chk1 v1) (k0_t3 : Fin (k0_t3_loop v1).trips), 32 ∣ (k0_mult63 v1 k0_t3).toNat := fun v1 k0_hw1 k0_t3 => k0_hw1.2.2.1.2.2.2.2.2.2.2.2.2.2.1 k0_t3
theorem k0_mult64_dvd : ∀ (v1 : BitVec 32) (k0_hw1 : k0_chk1 v1) (k0_t3 : Fin (k0_t3_loop v1).trips), 32 ∣ (k0_mult64 v1 k0_t3).toNat := fun v1 k0_hw1 k0_t3 => k0_hw1.2.2.1.2.2.2.2.2.2.2.2.2.2.2.1 k0_t3
theorem k0_mult65_dvd : ∀ (v1 : BitVec 32) (k0_hw1 : k0_chk1 v1) (k0_t3 : Fin (k0_t3_loop v1).trips), 32 ∣ (k0_mult65 v1 k0_t3).toNat := fun v1 k0_hw1 k0_t3 => k0_hw1.2.2.1.2.2.2.2.2.2.2.2.2.2.2.2.1 k0_t3
theorem k0_mult66_dvd : ∀ (v1 : BitVec 32) (k0_hw1 : k0_chk1 v1) (k0_t3 : Fin (k0_t3_loop v1).trips), 32 ∣ (k0_mult66 v1 k0_t3).toNat := fun v1 k0_hw1 k0_t3 => k0_hw1.2.2.1.2.2.2.2.2.2.2.2.2.2.2.2.2.1 k0_t3
theorem k0_mult67_dvd : ∀ (v1 : BitVec 32) (k0_hw1 : k0_chk1 v1) (k0_t3 : Fin (k0_t3_loop v1).trips), 32 ∣ (k0_mult67 v1 k0_t3).toNat := fun v1 k0_hw1 k0_t3 => k0_hw1.2.2.1.2.2.2.2.2.2.2.2.2.2.2.2.2.2.1 k0_t3
theorem k0_mult68_dvd : ∀ (v1 : BitVec 32) (k0_hw1 : k0_chk1 v1) (k0_t3 : Fin (k0_t3_loop v1).trips), 32 ∣ (k0_mult68 v1 k0_t3).toNat := fun v1 k0_hw1 k0_t3 => k0_hw1.2.2.1.2.2.2.2.2.2.2.2.2.2.2.2.2.2.2.1 k0_t3
theorem k0_mult69_dvd : ∀ (v1 : BitVec 32) (k0_hw1 : k0_chk1 v1) (k0_t3 : Fin (k0_t3_loop v1).trips), 32 ∣ (k0_mult69 v1 k0_t3).toNat := fun v1 k0_hw1 k0_t3 => k0_hw1.2.2.1.2.2.2.2.2.2.2.2.2.2.2.2.2.2.2.2.1 k0_t3
theorem k0_mult70_dvd : ∀ (v1 : BitVec 32) (k0_hw1 : k0_chk1 v1) (k0_t3 : Fin (k0_t3_loop v1).trips), 32 ∣ (k0_mult70 v1 k0_t3).toNat := fun v1 k0_hw1 k0_t3 => k0_hw1.2.2.1.2.2.2.2.2.2.2.2.2.2.2.2.2.2.2.2.2.1 k0_t3
theorem k0_mult71_dvd : ∀ (v1 : BitVec 32) (k0_hw1 : k0_chk1 v1) (k0_t3 : Fin (k0_t3_loop v1).trips), 32 ∣ (k0_mult71 v1 k0_t3).toNat := fun v1 k0_hw1 k0_t3 => k0_hw1.2.2.1.2.2.2.2.2.2.2.2.2.2.2.2.2.2.2.2.2.2.1 k0_t3
theorem k0_mult72_dvd : ∀ (v1 : BitVec 32) (k0_hw1 : k0_chk1 v1) (k0_t3 : Fin (k0_t3_loop v1).trips), 32 ∣ (k0_mult72 v1 k0_t3).toNat := fun v1 k0_hw1 k0_t3 => k0_hw1.2.2.1.2.2.2.2.2.2.2.2.2.2.2.2.2.2.2.2.2.2.2.1 k0_t3
theorem k0_mult73_dvd : ∀ (v1 : BitVec 32) (k0_hw1 : k0_chk1 v1) (k0_t3 : Fin (k0_t3_loop v1).trips), 32 ∣ (k0_mult73 v1 k0_t3).toNat := fun v1 k0_hw1 k0_t3 => k0_hw1.2.2.1.2.2.2.2.2.2.2.2.2.2.2.2.2.2.2.2.2.2.2.2.1 k0_t3
theorem k0_mult74_dvd : ∀ (v1 : BitVec 32) (k0_hw1 : k0_chk1 v1) (k0_t3 : Fin (k0_t3_loop v1).trips), 32 ∣ (k0_mult74 v1 k0_t3).toNat := fun v1 k0_hw1 k0_t3 => k0_hw1.2.2.1.2.2.2.2.2.2.2.2.2.2.2.2.2.2.2.2.2.2.2.2.2.1 k0_t3
theorem k0_mult75_dvd : ∀ (v1 : BitVec 32) (k0_hw1 : k0_chk1 v1) (k0_t3 : Fin (k0_t3_loop v1).trips), 32 ∣ (k0_mult75 v1 k0_t3).toNat := fun v1 k0_hw1 k0_t3 => k0_hw1.2.2.1.2.2.2.2.2.2.2.2.2.2.2.2.2.2.2.2.2.2.2.2.2.2.1 k0_t3
theorem k0_mult76_dvd : ∀ (v1 : BitVec 32) (k0_hw1 : k0_chk1 v1) (k0_t3 : Fin (k0_t3_loop v1).trips), 32 ∣ (k0_mult76 v1 k0_t3).toNat := fun v1 k0_hw1 k0_t3 => k0_hw1.2.2.1.2.2.2.2.2.2.2.2.2.2.2.2.2.2.2.2.2.2.2.2.2.2.2.1 k0_t3
theorem k0_mult77_dvd : ∀ (v1 : BitVec 32) (k0_hw1 : k0_chk1 v1) (k0_t3 : Fin (k0_t3_loop v1).trips), 32 ∣ (k0_mult77 v1 k0_t3).toNat := fun v1 k0_hw1 k0_t3 => k0_hw1.2.2.1.2.2.2.2.2.2.2.2.2.2.2.2.2.2.2.2.2.2.2.2.2.2.2.2.1 k0_t3
theorem k0_mult78_dvd : ∀ (v1 : BitVec 32) (k0_hw1 : k0_chk1 v1) (k0_t3 : Fin (k0_t3_loop v1).trips), 32 ∣ (k0_mult78 v1 k0_t3).toNat := fun v1 k0_hw1 k0_t3 => k0_hw1.2.2.1.2.2.2.2.2.2.2.2.2.2.2.2.2.2.2.2.2.2.2.2.2.2.2.2.2.1 k0_t3
theorem k0_mult79_dvd : ∀ (v1 : BitVec 32) (k0_hw1 : k0_chk1 v1) (k0_t3 : Fin (k0_t3_loop v1).trips), 32 ∣ (k0_mult79 v1 k0_t3).toNat := fun v1 k0_hw1 k0_t3 => k0_hw1.2.2.1.2.2.2.2.2.2.2.2.2.2.2.2.2.2.2.2.2.2.2.2.2.2.2.2.2.2.1 k0_t3
theorem k0_mult80_dvd : ∀ (v1 : BitVec 32) (k0_hw1 : k0_chk1 v1) (k0_t3 : Fin (k0_t3_loop v1).trips), 32 ∣ (k0_mult80 v1 k0_t3).toNat := fun v1 k0_hw1 k0_t3 => k0_hw1.2.2.1.2.2.2.2.2.2.2.2.2.2.2.2.2.2.2.2.2.2.2.2.2.2.2.2.2.2.2.1 k0_t3
theorem k0_mult81_dvd : ∀ (v1 : BitVec 32) (k0_hw1 : k0_chk1 v1) (k0_t3 : Fin (k0_t3_loop v1).trips), 32 ∣ (k0_mult81 v1 k0_t3).toNat := fun v1 k0_hw1 k0_t3 => k0_hw1.2.2.1.2.2.2.2.2.2.2.2.2.2.2.2.2.2.2.2.2.2.2.2.2.2.2.2.2.2.2.2.1 k0_t3
theorem k0_mult82_dvd : ∀ (v1 : BitVec 32) (k0_hw1 : k0_chk1 v1) (k0_t3 : Fin (k0_t3_loop v1).trips), 32 ∣ (k0_mult82 v1 k0_t3).toNat := fun v1 k0_hw1 k0_t3 => k0_hw1.2.2.1.2.2.2.2.2.2.2.2.2.2.2.2.2.2.2.2.2.2.2.2.2.2.2.2.2.2.2.2.2.1 k0_t3
theorem k0_mult83_dvd : ∀ (v1 : BitVec 32) (k0_hw1 : k0_chk1 v1) (k0_t3 : Fin (k0_t3_loop v1).trips), 32 ∣ (k0_mult83 v1 k0_t3).toNat := fun v1 k0_hw1 k0_t3 => k0_hw1.2.2.1.2.2.2.2.2.2.2.2.2.2.2.2.2.2.2.2.2.2.2.2.2.2.2.2.2.2.2.2.2.2.1 k0_t3
theorem k0_mult84_dvd : ∀ (v1 : BitVec 32) (k0_hw1 : k0_chk1 v1) (k0_t3 : Fin (k0_t3_loop v1).trips), 32 ∣ (k0_mult84 v1 k0_t3).toNat := fun v1 k0_hw1 k0_t3 => k0_hw1.2.2.1.2.2.2.2.2.2.2.2.2.2.2.2.2.2.2.2.2.2.2.2.2.2.2.2.2.2.2.2.2.2.2 k0_t3
theorem k0_mult85_dvd : ∀ (v1 : BitVec 32) (k0_hw1 : k0_chk1 v1) (k0_t3 : Fin (k0_t3_loop v1).trips), 32 ∣ (k0_mult85 v1 k0_t3).toNat := fun v1 k0_hw1 k0_t3 => k0_hw1.2.2.2.1.1 k0_t3
theorem k0_mult86_dvd : ∀ (v1 : BitVec 32) (k0_hw1 : k0_chk1 v1) (k0_t3 : Fin (k0_t3_loop v1).trips), 32 ∣ (k0_mult86 v1 k0_t3).toNat := fun v1 k0_hw1 k0_t3 => k0_hw1.2.2.2.1.2.1 k0_t3
theorem k0_mult87_dvd : ∀ (v1 : BitVec 32) (k0_hw1 : k0_chk1 v1) (k0_t3 : Fin (k0_t3_loop v1).trips), 32 ∣ (k0_mult87 v1 k0_t3).toNat := fun v1 k0_hw1 k0_t3 => k0_hw1.2.2.2.1.2.2.1 k0_t3
theorem k0_mult88_dvd : ∀ (v1 : BitVec 32) (k0_hw1 : k0_chk1 v1) (k0_t3 : Fin (k0_t3_loop v1).trips), 32 ∣ (k0_mult88 v1 k0_t3).toNat := fun v1 k0_hw1 k0_t3 => k0_hw1.2.2.2.1.2.2.2.1 k0_t3
theorem k0_mult89_dvd : ∀ (v1 : BitVec 32) (k0_hw1 : k0_chk1 v1) (k0_t3 : Fin (k0_t3_loop v1).trips), 32 ∣ (k0_mult89 v1 k0_t3).toNat := fun v1 k0_hw1 k0_t3 => k0_hw1.2.2.2.1.2.2.2.2.1 k0_t3
theorem k0_mult90_dvd : ∀ (v1 : BitVec 32) (k0_hw1 : k0_chk1 v1) (k0_t3 : Fin (k0_t3_loop v1).trips), 32 ∣ (k0_mult90 v1 k0_t3).toNat := fun v1 k0_hw1 k0_t3 => k0_hw1.2.2.2.1.2.2.2.2.2.1 k0_t3
theorem k0_mult91_dvd : ∀ (v1 : BitVec 32) (k0_hw1 : k0_chk1 v1) (k0_t3 : Fin (k0_t3_loop v1).trips), 32 ∣ (k0_mult91 v1 k0_t3).toNat := fun v1 k0_hw1 k0_t3 => k0_hw1.2.2.2.1.2.2.2.2.2.2.1 k0_t3
theorem k0_mult92_dvd : ∀ (v1 : BitVec 32) (k0_hw1 : k0_chk1 v1) (k0_t3 : Fin (k0_t3_loop v1).trips), 32 ∣ (k0_mult92 v1 k0_t3).toNat := fun v1 k0_hw1 k0_t3 => k0_hw1.2.2.2.1.2.2.2.2.2.2.2.1 k0_t3
theorem k0_mult93_dvd : ∀ (v1 : BitVec 32) (k0_hw1 : k0_chk1 v1) (k0_t3 : Fin (k0_t3_loop v1).trips), 32 ∣ (k0_mult93 v1 k0_t3).toNat := fun v1 k0_hw1 k0_t3 => k0_hw1.2.2.2.1.2.2.2.2.2.2.2.2.1 k0_t3
theorem k0_mult94_dvd : ∀ (v1 : BitVec 32) (k0_hw1 : k0_chk1 v1) (k0_t3 : Fin (k0_t3_loop v1).trips), 32 ∣ (k0_mult94 v1 k0_t3).toNat := fun v1 k0_hw1 k0_t3 => k0_hw1.2.2.2.1.2.2.2.2.2.2.2.2.2.1 k0_t3
theorem k0_mult95_dvd : ∀ (v1 : BitVec 32) (k0_hw1 : k0_chk1 v1) (k0_t3 : Fin (k0_t3_loop v1).trips), 32 ∣ (k0_mult95 v1 k0_t3).toNat := fun v1 k0_hw1 k0_t3 => k0_hw1.2.2.2.1.2.2.2.2.2.2.2.2.2.2.1 k0_t3
theorem k0_mult96_dvd : ∀ (v1 : BitVec 32) (k0_hw1 : k0_chk1 v1) (k0_t3 : Fin (k0_t3_loop v1).trips), 32 ∣ (k0_mult96 v1 k0_t3).toNat := fun v1 k0_hw1 k0_t3 => k0_hw1.2.2.2.1.2.2.2.2.2.2.2.2.2.2.2.1 k0_t3
theorem k0_mult97_dvd : ∀ (v1 : BitVec 32) (k0_hw1 : k0_chk1 v1) (k0_t3 : Fin (k0_t3_loop v1).trips), 32 ∣ (k0_mult97 v1 k0_t3).toNat := fun v1 k0_hw1 k0_t3 => k0_hw1.2.2.2.1.2.2.2.2.2.2.2.2.2.2.2.2.1 k0_t3
theorem k0_mult98_dvd : ∀ (v1 : BitVec 32) (k0_hw1 : k0_chk1 v1) (k0_t3 : Fin (k0_t3_loop v1).trips), 32 ∣ (k0_mult98 v1 k0_t3).toNat := fun v1 k0_hw1 k0_t3 => k0_hw1.2.2.2.1.2.2.2.2.2.2.2.2.2.2.2.2.2.1 k0_t3
theorem k0_mult99_dvd : ∀ (v1 : BitVec 32) (k0_hw1 : k0_chk1 v1) (k0_t3 : Fin (k0_t3_loop v1).trips), 32 ∣ (k0_mult99 v1 k0_t3).toNat := fun v1 k0_hw1 k0_t3 => k0_hw1.2.2.2.1.2.2.2.2.2.2.2.2.2.2.2.2.2.2.1 k0_t3
theorem k0_mult100_dvd : ∀ (v1 : BitVec 32) (k0_hw1 : k0_chk1 v1) (k0_t3 : Fin (k0_t3_loop v1).trips), 32 ∣ (k0_mult100 v1 k0_t3).toNat := fun v1 k0_hw1 k0_t3 => k0_hw1.2.2.2.1.2.2.2.2.2.2.2.2.2.2.2.2.2.2.2.1 k0_t3
theorem k0_mult101_dvd : ∀ (v1 : BitVec 32) (k0_hw1 : k0_chk1 v1) (k0_t3 : Fin (k0_t3_loop v1).trips), 32 ∣ (k0_mult101 v1 k0_t3).toNat := fun v1 k0_hw1 k0_t3 => k0_hw1.2.2.2.1.2.2.2.2.2.2.2.2.2.2.2.2.2.2.2.2.1 k0_t3
theorem k0_off11_inb : ∀ (v1 : BitVec 32) (k0_hw1 : k0_chk1 v1) (k0_t3 : Fin (k0_t3_loop v1).trips), ∀ a, (k0_off11 v1 k0_t3) a + S1x64x1536.size a ≤ S1x64x7680.size a := fun v1 k0_hw1 k0_t3 => k0_hw1.2.2.2.1.2.2.2.2.2.2.2.2.2.2.2.2.2.2.2.2.2.1 k0_t3
theorem k0_t4_ok : ∀ (v1 : BitVec 32) (k0_hw1 : k0_chk1 v1), (k0_t4_loop v1).OK := fun v1 k0_hw1 => k0_hw1.2.2.2.1.2.2.2.2.2.2.2.2.2.2.2.2.2.2.2.2.2.2.1
theorem k0_mult102_dvd : ∀ (v1 : BitVec 32) (k0_hw1 : k0_chk1 v1) (k0_t4 : Fin (k0_t4_loop v1).trips), 1536 ∣ (k0_mult102 v1 k0_t4).toNat := fun v1 k0_hw1 k0_t4 => k0_hw1.2.2.2.1.2.2.2.2.2.2.2.2.2.2.2.2.2.2.2.2.2.2.2.1 k0_t4
theorem k0_mult103_dvd : ∀ (v1 : BitVec 32) (k0_hw1 : k0_chk1 v1) (k0_t4 : Fin (k0_t4_loop v1).trips), 32 ∣ (k0_mult103 v1 k0_t4).toNat := fun v1 k0_hw1 k0_t4 => k0_hw1.2.2.2.1.2.2.2.2.2.2.2.2.2.2.2.2.2.2.2.2.2.2.2.2.1 k0_t4
theorem k0_off12_inb : ∀ (v1 : BitVec 32) (k0_hw1 : k0_chk1 v1) (k0_t4 : Fin (k0_t4_loop v1).trips), ∀ (r : Fin 48), ∀ a, (k0_off12 v1 k0_t4 (BitVec.ofNat 32 (32 * r.val))) a + S32x512.size a ≤ S7680x512.size a := fun v1 k0_hw1 k0_t4 r => k0_hw1.2.2.2.1.2.2.2.2.2.2.2.2.2.2.2.2.2.2.2.2.2.2.2.2.2.1 k0_t4 r
theorem k0_mult104_dvd : ∀ (v1 : BitVec 32) (k0_hw1 : k0_chk1 v1) (k0_t4 : Fin (k0_t4_loop v1).trips), 32 ∣ (k0_mult104 v1 k0_t4).toNat := fun v1 k0_hw1 k0_t4 => k0_hw1.2.2.2.1.2.2.2.2.2.2.2.2.2.2.2.2.2.2.2.2.2.2.2.2.2.2.1 k0_t4
theorem k0_mult105_dvd : ∀ (v1 : BitVec 32) (k0_hw1 : k0_chk1 v1) (k0_t4 : Fin (k0_t4_loop v1).trips), 32 ∣ (k0_mult105 v1 k0_t4).toNat := fun v1 k0_hw1 k0_t4 => k0_hw1.2.2.2.1.2.2.2.2.2.2.2.2.2.2.2.2.2.2.2.2.2.2.2.2.2.2.2.1 k0_t4
theorem k0_mult106_dvd : ∀ (v1 : BitVec 32) (k0_hw1 : k0_chk1 v1) (k0_t4 : Fin (k0_t4_loop v1).trips), 32 ∣ (k0_mult106 v1 k0_t4).toNat := fun v1 k0_hw1 k0_t4 => k0_hw1.2.2.2.1.2.2.2.2.2.2.2.2.2.2.2.2.2.2.2.2.2.2.2.2.2.2.2.2.1 k0_t4
theorem k0_mult107_dvd : ∀ (v1 : BitVec 32) (k0_hw1 : k0_chk1 v1) (k0_t4 : Fin (k0_t4_loop v1).trips), 32 ∣ (k0_mult107 v1 k0_t4).toNat := fun v1 k0_hw1 k0_t4 => k0_hw1.2.2.2.1.2.2.2.2.2.2.2.2.2.2.2.2.2.2.2.2.2.2.2.2.2.2.2.2.2.1 k0_t4
theorem k0_mult108_dvd : ∀ (v1 : BitVec 32) (k0_hw1 : k0_chk1 v1) (k0_t4 : Fin (k0_t4_loop v1).trips), 32 ∣ (k0_mult108 v1 k0_t4).toNat := fun v1 k0_hw1 k0_t4 => k0_hw1.2.2.2.1.2.2.2.2.2.2.2.2.2.2.2.2.2.2.2.2.2.2.2.2.2.2.2.2.2.2.1 k0_t4
theorem k0_mult109_dvd : ∀ (v1 : BitVec 32) (k0_hw1 : k0_chk1 v1) (k0_t4 : Fin (k0_t4_loop v1).trips), 32 ∣ (k0_mult109 v1 k0_t4).toNat := fun v1 k0_hw1 k0_t4 => k0_hw1.2.2.2.1.2.2.2.2.2.2.2.2.2.2.2.2.2.2.2.2.2.2.2.2.2.2.2.2.2.2.2.1 k0_t4
theorem k0_mult110_dvd : ∀ (v1 : BitVec 32) (k0_hw1 : k0_chk1 v1) (k0_t4 : Fin (k0_t4_loop v1).trips), 32 ∣ (k0_mult110 v1 k0_t4).toNat := fun v1 k0_hw1 k0_t4 => k0_hw1.2.2.2.1.2.2.2.2.2.2.2.2.2.2.2.2.2.2.2.2.2.2.2.2.2.2.2.2.2.2.2.2.1 k0_t4
theorem k0_mult111_dvd : ∀ (v1 : BitVec 32) (k0_hw1 : k0_chk1 v1) (k0_t4 : Fin (k0_t4_loop v1).trips), 32 ∣ (k0_mult111 v1 k0_t4).toNat := fun v1 k0_hw1 k0_t4 => k0_hw1.2.2.2.1.2.2.2.2.2.2.2.2.2.2.2.2.2.2.2.2.2.2.2.2.2.2.2.2.2.2.2.2.2.1 k0_t4
theorem k0_mult112_dvd : ∀ (v1 : BitVec 32) (k0_hw1 : k0_chk1 v1) (k0_t4 : Fin (k0_t4_loop v1).trips), 32 ∣ (k0_mult112 v1 k0_t4).toNat := fun v1 k0_hw1 k0_t4 => k0_hw1.2.2.2.1.2.2.2.2.2.2.2.2.2.2.2.2.2.2.2.2.2.2.2.2.2.2.2.2.2.2.2.2.2.2.1 k0_t4
theorem k0_mult113_dvd : ∀ (v1 : BitVec 32) (k0_hw1 : k0_chk1 v1) (k0_t4 : Fin (k0_t4_loop v1).trips), 32 ∣ (k0_mult113 v1 k0_t4).toNat := fun v1 k0_hw1 k0_t4 => k0_hw1.2.2.2.1.2.2.2.2.2.2.2.2.2.2.2.2.2.2.2.2.2.2.2.2.2.2.2.2.2.2.2.2.2.2.2 k0_t4
theorem k0_mult114_dvd : ∀ (v1 : BitVec 32) (k0_hw1 : k0_chk1 v1) (k0_t4 : Fin (k0_t4_loop v1).trips), 32 ∣ (k0_mult114 v1 k0_t4).toNat := fun v1 k0_hw1 k0_t4 => k0_hw1.2.2.2.2.1.1 k0_t4
theorem k0_mult115_dvd : ∀ (v1 : BitVec 32) (k0_hw1 : k0_chk1 v1) (k0_t4 : Fin (k0_t4_loop v1).trips), 32 ∣ (k0_mult115 v1 k0_t4).toNat := fun v1 k0_hw1 k0_t4 => k0_hw1.2.2.2.2.1.2.1 k0_t4
theorem k0_mult116_dvd : ∀ (v1 : BitVec 32) (k0_hw1 : k0_chk1 v1) (k0_t4 : Fin (k0_t4_loop v1).trips), 32 ∣ (k0_mult116 v1 k0_t4).toNat := fun v1 k0_hw1 k0_t4 => k0_hw1.2.2.2.2.1.2.2.1 k0_t4
theorem k0_mult117_dvd : ∀ (v1 : BitVec 32) (k0_hw1 : k0_chk1 v1) (k0_t4 : Fin (k0_t4_loop v1).trips), 32 ∣ (k0_mult117 v1 k0_t4).toNat := fun v1 k0_hw1 k0_t4 => k0_hw1.2.2.2.2.1.2.2.2.1 k0_t4
theorem k0_mult118_dvd : ∀ (v1 : BitVec 32) (k0_hw1 : k0_chk1 v1) (k0_t4 : Fin (k0_t4_loop v1).trips), 32 ∣ (k0_mult118 v1 k0_t4).toNat := fun v1 k0_hw1 k0_t4 => k0_hw1.2.2.2.2.1.2.2.2.2.1 k0_t4
theorem k0_mult119_dvd : ∀ (v1 : BitVec 32) (k0_hw1 : k0_chk1 v1) (k0_t4 : Fin (k0_t4_loop v1).trips), 32 ∣ (k0_mult119 v1 k0_t4).toNat := fun v1 k0_hw1 k0_t4 => k0_hw1.2.2.2.2.1.2.2.2.2.2.1 k0_t4
theorem k0_mult120_dvd : ∀ (v1 : BitVec 32) (k0_hw1 : k0_chk1 v1) (k0_t4 : Fin (k0_t4_loop v1).trips), 32 ∣ (k0_mult120 v1 k0_t4).toNat := fun v1 k0_hw1 k0_t4 => k0_hw1.2.2.2.2.1.2.2.2.2.2.2.1 k0_t4
theorem k0_mult121_dvd : ∀ (v1 : BitVec 32) (k0_hw1 : k0_chk1 v1) (k0_t4 : Fin (k0_t4_loop v1).trips), 32 ∣ (k0_mult121 v1 k0_t4).toNat := fun v1 k0_hw1 k0_t4 => k0_hw1.2.2.2.2.1.2.2.2.2.2.2.2.1 k0_t4
theorem k0_mult122_dvd : ∀ (v1 : BitVec 32) (k0_hw1 : k0_chk1 v1) (k0_t4 : Fin (k0_t4_loop v1).trips), 32 ∣ (k0_mult122 v1 k0_t4).toNat := fun v1 k0_hw1 k0_t4 => k0_hw1.2.2.2.2.1.2.2.2.2.2.2.2.2.1 k0_t4
theorem k0_mult123_dvd : ∀ (v1 : BitVec 32) (k0_hw1 : k0_chk1 v1) (k0_t4 : Fin (k0_t4_loop v1).trips), 32 ∣ (k0_mult123 v1 k0_t4).toNat := fun v1 k0_hw1 k0_t4 => k0_hw1.2.2.2.2.1.2.2.2.2.2.2.2.2.2.1 k0_t4
theorem k0_mult124_dvd : ∀ (v1 : BitVec 32) (k0_hw1 : k0_chk1 v1) (k0_t4 : Fin (k0_t4_loop v1).trips), 32 ∣ (k0_mult124 v1 k0_t4).toNat := fun v1 k0_hw1 k0_t4 => k0_hw1.2.2.2.2.1.2.2.2.2.2.2.2.2.2.2.1 k0_t4
theorem k0_mult125_dvd : ∀ (v1 : BitVec 32) (k0_hw1 : k0_chk1 v1) (k0_t4 : Fin (k0_t4_loop v1).trips), 32 ∣ (k0_mult125 v1 k0_t4).toNat := fun v1 k0_hw1 k0_t4 => k0_hw1.2.2.2.2.1.2.2.2.2.2.2.2.2.2.2.2.1 k0_t4
theorem k0_mult126_dvd : ∀ (v1 : BitVec 32) (k0_hw1 : k0_chk1 v1) (k0_t4 : Fin (k0_t4_loop v1).trips), 32 ∣ (k0_mult126 v1 k0_t4).toNat := fun v1 k0_hw1 k0_t4 => k0_hw1.2.2.2.2.1.2.2.2.2.2.2.2.2.2.2.2.2.1 k0_t4
theorem k0_mult127_dvd : ∀ (v1 : BitVec 32) (k0_hw1 : k0_chk1 v1) (k0_t4 : Fin (k0_t4_loop v1).trips), 32 ∣ (k0_mult127 v1 k0_t4).toNat := fun v1 k0_hw1 k0_t4 => k0_hw1.2.2.2.2.1.2.2.2.2.2.2.2.2.2.2.2.2.2.1 k0_t4
theorem k0_mult128_dvd : ∀ (v1 : BitVec 32) (k0_hw1 : k0_chk1 v1) (k0_t4 : Fin (k0_t4_loop v1).trips), 32 ∣ (k0_mult128 v1 k0_t4).toNat := fun v1 k0_hw1 k0_t4 => k0_hw1.2.2.2.2.1.2.2.2.2.2.2.2.2.2.2.2.2.2.2.1 k0_t4
theorem k0_mult129_dvd : ∀ (v1 : BitVec 32) (k0_hw1 : k0_chk1 v1) (k0_t4 : Fin (k0_t4_loop v1).trips), 32 ∣ (k0_mult129 v1 k0_t4).toNat := fun v1 k0_hw1 k0_t4 => k0_hw1.2.2.2.2.1.2.2.2.2.2.2.2.2.2.2.2.2.2.2.2.1 k0_t4
theorem k0_mult130_dvd : ∀ (v1 : BitVec 32) (k0_hw1 : k0_chk1 v1) (k0_t4 : Fin (k0_t4_loop v1).trips), 32 ∣ (k0_mult130 v1 k0_t4).toNat := fun v1 k0_hw1 k0_t4 => k0_hw1.2.2.2.2.1.2.2.2.2.2.2.2.2.2.2.2.2.2.2.2.2.1 k0_t4
theorem k0_mult131_dvd : ∀ (v1 : BitVec 32) (k0_hw1 : k0_chk1 v1) (k0_t4 : Fin (k0_t4_loop v1).trips), 32 ∣ (k0_mult131 v1 k0_t4).toNat := fun v1 k0_hw1 k0_t4 => k0_hw1.2.2.2.2.1.2.2.2.2.2.2.2.2.2.2.2.2.2.2.2.2.2.1 k0_t4
theorem k0_mult132_dvd : ∀ (v1 : BitVec 32) (k0_hw1 : k0_chk1 v1) (k0_t4 : Fin (k0_t4_loop v1).trips), 32 ∣ (k0_mult132 v1 k0_t4).toNat := fun v1 k0_hw1 k0_t4 => k0_hw1.2.2.2.2.1.2.2.2.2.2.2.2.2.2.2.2.2.2.2.2.2.2.2.1 k0_t4
theorem k0_mult133_dvd : ∀ (v1 : BitVec 32) (k0_hw1 : k0_chk1 v1) (k0_t4 : Fin (k0_t4_loop v1).trips), 32 ∣ (k0_mult133 v1 k0_t4).toNat := fun v1 k0_hw1 k0_t4 => k0_hw1.2.2.2.2.1.2.2.2.2.2.2.2.2.2.2.2.2.2.2.2.2.2.2.2.1 k0_t4
theorem k0_mult134_dvd : ∀ (v1 : BitVec 32) (k0_hw1 : k0_chk1 v1) (k0_t4 : Fin (k0_t4_loop v1).trips), 32 ∣ (k0_mult134 v1 k0_t4).toNat := fun v1 k0_hw1 k0_t4 => k0_hw1.2.2.2.2.1.2.2.2.2.2.2.2.2.2.2.2.2.2.2.2.2.2.2.2.2.1 k0_t4
theorem k0_mult135_dvd : ∀ (v1 : BitVec 32) (k0_hw1 : k0_chk1 v1) (k0_t4 : Fin (k0_t4_loop v1).trips), 32 ∣ (k0_mult135 v1 k0_t4).toNat := fun v1 k0_hw1 k0_t4 => k0_hw1.2.2.2.2.1.2.2.2.2.2.2.2.2.2.2.2.2.2.2.2.2.2.2.2.2.2.1 k0_t4
theorem k0_mult136_dvd : ∀ (v1 : BitVec 32) (k0_hw1 : k0_chk1 v1) (k0_t4 : Fin (k0_t4_loop v1).trips), 32 ∣ (k0_mult136 v1 k0_t4).toNat := fun v1 k0_hw1 k0_t4 => k0_hw1.2.2.2.2.1.2.2.2.2.2.2.2.2.2.2.2.2.2.2.2.2.2.2.2.2.2.2.1 k0_t4
theorem k0_mult137_dvd : ∀ (v1 : BitVec 32) (k0_hw1 : k0_chk1 v1) (k0_t4 : Fin (k0_t4_loop v1).trips), 32 ∣ (k0_mult137 v1 k0_t4).toNat := fun v1 k0_hw1 k0_t4 => k0_hw1.2.2.2.2.1.2.2.2.2.2.2.2.2.2.2.2.2.2.2.2.2.2.2.2.2.2.2.2.1 k0_t4
theorem k0_mult138_dvd : ∀ (v1 : BitVec 32) (k0_hw1 : k0_chk1 v1) (k0_t4 : Fin (k0_t4_loop v1).trips), 32 ∣ (k0_mult138 v1 k0_t4).toNat := fun v1 k0_hw1 k0_t4 => k0_hw1.2.2.2.2.1.2.2.2.2.2.2.2.2.2.2.2.2.2.2.2.2.2.2.2.2.2.2.2.2.1 k0_t4
theorem k0_mult139_dvd : ∀ (v1 : BitVec 32) (k0_hw1 : k0_chk1 v1) (k0_t4 : Fin (k0_t4_loop v1).trips), 32 ∣ (k0_mult139 v1 k0_t4).toNat := fun v1 k0_hw1 k0_t4 => k0_hw1.2.2.2.2.1.2.2.2.2.2.2.2.2.2.2.2.2.2.2.2.2.2.2.2.2.2.2.2.2.2.1 k0_t4
theorem k0_mult140_dvd : ∀ (v1 : BitVec 32) (k0_hw1 : k0_chk1 v1) (k0_t4 : Fin (k0_t4_loop v1).trips), 32 ∣ (k0_mult140 v1 k0_t4).toNat := fun v1 k0_hw1 k0_t4 => k0_hw1.2.2.2.2.1.2.2.2.2.2.2.2.2.2.2.2.2.2.2.2.2.2.2.2.2.2.2.2.2.2.2.1 k0_t4
theorem k0_mult141_dvd : ∀ (v1 : BitVec 32) (k0_hw1 : k0_chk1 v1) (k0_t4 : Fin (k0_t4_loop v1).trips), 32 ∣ (k0_mult141 v1 k0_t4).toNat := fun v1 k0_hw1 k0_t4 => k0_hw1.2.2.2.2.1.2.2.2.2.2.2.2.2.2.2.2.2.2.2.2.2.2.2.2.2.2.2.2.2.2.2.2.1 k0_t4
theorem k0_mult142_dvd : ∀ (v1 : BitVec 32) (k0_hw1 : k0_chk1 v1) (k0_t4 : Fin (k0_t4_loop v1).trips), 32 ∣ (k0_mult142 v1 k0_t4).toNat := fun v1 k0_hw1 k0_t4 => k0_hw1.2.2.2.2.1.2.2.2.2.2.2.2.2.2.2.2.2.2.2.2.2.2.2.2.2.2.2.2.2.2.2.2.2.1 k0_t4
theorem k0_mult143_dvd : ∀ (v1 : BitVec 32) (k0_hw1 : k0_chk1 v1) (k0_t4 : Fin (k0_t4_loop v1).trips), 32 ∣ (k0_mult143 v1 k0_t4).toNat := fun v1 k0_hw1 k0_t4 => k0_hw1.2.2.2.2.1.2.2.2.2.2.2.2.2.2.2.2.2.2.2.2.2.2.2.2.2.2.2.2.2.2.2.2.2.2.1 k0_t4
theorem k0_mult144_dvd : ∀ (v1 : BitVec 32) (k0_hw1 : k0_chk1 v1) (k0_t4 : Fin (k0_t4_loop v1).trips), 32 ∣ (k0_mult144 v1 k0_t4).toNat := fun v1 k0_hw1 k0_t4 => k0_hw1.2.2.2.2.1.2.2.2.2.2.2.2.2.2.2.2.2.2.2.2.2.2.2.2.2.2.2.2.2.2.2.2.2.2.2.1 k0_t4
theorem k0_mult145_dvd : ∀ (v1 : BitVec 32) (k0_hw1 : k0_chk1 v1) (k0_t4 : Fin (k0_t4_loop v1).trips), 32 ∣ (k0_mult145 v1 k0_t4).toNat := fun v1 k0_hw1 k0_t4 => k0_hw1.2.2.2.2.1.2.2.2.2.2.2.2.2.2.2.2.2.2.2.2.2.2.2.2.2.2.2.2.2.2.2.2.2.2.2.2 k0_t4
theorem k0_mult146_dvd : ∀ (v1 : BitVec 32) (k0_hw1 : k0_chk1 v1) (k0_t4 : Fin (k0_t4_loop v1).trips), 32 ∣ (k0_mult146 v1 k0_t4).toNat := fun v1 k0_hw1 k0_t4 => k0_hw1.2.2.2.2.2.1 k0_t4
theorem k0_mult147_dvd : ∀ (v1 : BitVec 32) (k0_hw1 : k0_chk1 v1) (k0_t4 : Fin (k0_t4_loop v1).trips), 32 ∣ (k0_mult147 v1 k0_t4).toNat := fun v1 k0_hw1 k0_t4 => k0_hw1.2.2.2.2.2.2.1 k0_t4
theorem k0_mult148_dvd : ∀ (v1 : BitVec 32) (k0_hw1 : k0_chk1 v1) (k0_t4 : Fin (k0_t4_loop v1).trips), 32 ∣ (k0_mult148 v1 k0_t4).toNat := fun v1 k0_hw1 k0_t4 => k0_hw1.2.2.2.2.2.2.2.1 k0_t4
theorem k0_mult149_dvd : ∀ (v1 : BitVec 32) (k0_hw1 : k0_chk1 v1) (k0_t4 : Fin (k0_t4_loop v1).trips), 32 ∣ (k0_mult149 v1 k0_t4).toNat := fun v1 k0_hw1 k0_t4 => k0_hw1.2.2.2.2.2.2.2.2.1 k0_t4
theorem k0_mult150_dvd : ∀ (v1 : BitVec 32) (k0_hw1 : k0_chk1 v1) (k0_t4 : Fin (k0_t4_loop v1).trips), 32 ∣ (k0_mult150 v1 k0_t4).toNat := fun v1 k0_hw1 k0_t4 => k0_hw1.2.2.2.2.2.2.2.2.2.1 k0_t4
theorem k0_off13_inb : ∀ (v1 : BitVec 32) (k0_hw1 : k0_chk1 v1) (k0_t4 : Fin (k0_t4_loop v1).trips), ∀ a, (k0_off13 v1 k0_t4) a + S1x64x1536.size a ≤ S1x64x7680.size a := fun v1 k0_hw1 k0_t4 => k0_hw1.2.2.2.2.2.2.2.2.2.2 k0_t4

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.divsi arg2 c5_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg2 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, arg1.toNat, v16.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x1x7680x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1x7680x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x960x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x7680 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== AttentionRefIdeal.lean ====
abbrev S2 : Shape := ⟨1, ![2]⟩
abbrev S2x24x7680x128 : Shape := ⟨4, ![2, 24, 7680, 128]⟩
abbrev S2x24x3x7680x128 : Shape := ⟨5, ![2, 24, 3, 7680, 128]⟩
abbrev S2x24x960x128 : Shape := ⟨4, ![2, 24, 960, 128]⟩
abbrev S2x24x7680x256 : Shape := ⟨4, ![2, 24, 7680, 256]⟩
abbrev S2x1536x7680 : Shape := ⟨3, ![2, 1536, 7680]⟩
abbrev S2x24x64x1 : Shape := ⟨4, ![2, 24, 64, 1]⟩
abbrev S2x24x1x7680 : Shape := ⟨4, ![2, 24, 1, 7680]⟩
abbrev S2x24x7680x7680 : Shape := ⟨4, ![2, 24, 7680, 7680]⟩
abbrev S2x24x3x2560x128 : Shape := ⟨5, ![2, 24, 3, 2560, 128]⟩
abbrev S2x24x3x2560x7680 : Shape := ⟨5, ![2, 24, 3, 2560, 7680]⟩
abbrev S2x24x120x1x8x128 : Shape := ⟨6, ![2, 24, 120, 1, 8, 128]⟩
abbrev S2x24x120x8x8x128 : Shape := ⟨6, ![2, 24, 120, 8, 8, 128]⟩
abbrev S2x24x128x7680 : Shape := ⟨4, ![2, 24, 128, 7680]⟩
abbrev S2x24x1x128x7680 : Shape := ⟨5, ![2, 24, 1, 128, 7680]⟩
abbrev S2x24x60x128x7680 : Shape := ⟨5, ![2, 24, 60, 128, 7680]⟩
abbrev S5 : Shape := ⟨1, ![5]⟩
abbrev S1x5 : Shape := ⟨2, ![1, 5]⟩
abbrev S2x1 : Shape := ⟨2, ![2, 1]⟩
abbrev S2x5 : Shape := ⟨2, ![2, 5]⟩
abbrev S2x5x1 : Shape := ⟨3, ![2, 5, 1]⟩
abbrev S2x5x1536 : Shape := ⟨3, ![2, 5, 1536]⟩
abbrev S2x1x1x7680 : Shape := ⟨4, ![2, 1, 1, 7680]⟩
abbrev S_ : Shape := ⟨0, ![]⟩
abbrev S2x24x7680 : Shape := ⟨3, ![2, 24, 7680]⟩
abbrev S2x24x7680x1 : Shape := ⟨4, ![2, 24, 7680, 1]⟩
abbrev S2x24x64x7680 : Shape := ⟨4, ![2, 24, 64, 7680]⟩
abbrev S2x24x7680x64 : Shape := ⟨4, ![2, 24, 7680, 64]⟩
abbrev S2x24x1x64 : Shape := ⟨4, ![2, 24, 1, 64]⟩

abbrev nBuf : Space → Nat
  | .hbm => 79
  | .vmem => 5
  | .smem => 0
  | _ => 0

abbrev bufTy : (tb : Table) → Fin (tcTables nBuf tb) → BufTy
  | .hbm, ⟨0, _⟩ => ⟨S2, .i32⟩
  | .hbm, ⟨1, _⟩ => ⟨S2x24x7680x128, .bf16⟩
  | .hbm, ⟨2, _⟩ => ⟨S2x24x3x7680x128, .bf16⟩
  | .hbm, ⟨3, _⟩ => ⟨S2x24x960x128, .f32⟩
  | .hbm, ⟨4, _⟩ => ⟨S2x24x7680x256, .bf16⟩
  | .hbm, ⟨5, _⟩ => ⟨S2x1536x7680, .fp8e4m3⟩
  | .hbm, ⟨6, _⟩ => ⟨S2x24x64x1, .f32⟩
  | .hbm, ⟨7, _⟩ => ⟨S2x24x1x7680, .f32⟩
  | .hbm, ⟨8, _⟩ => ⟨S2x24x7680x128, .bf16⟩
  | .hbm, ⟨9, _⟩ => ⟨S2x24x7680x7680, .f32⟩
  | .hbm, ⟨10, _⟩ => ⟨S2x24x7680x128, .bf16⟩
  | .hbm, ⟨11, _⟩ => ⟨S2x24x3x2560x128, .bf16⟩
  | .hbm, ⟨12, _⟩ => ⟨S2x24x3x2560x7680, .f32⟩
  | .hbm, ⟨13, _⟩ => ⟨S2x24x7680x7680, .f32⟩
  | .hbm, ⟨14, _⟩ => ⟨S2x24x120x1x8x128, .f32⟩
  | .hbm, ⟨15, _⟩ => ⟨S2x24x120x8x8x128, .f32⟩
  | .hbm, ⟨16, _⟩ => ⟨S2x24x7680x128, .f32⟩
  | .hbm, ⟨17, _⟩ => ⟨S2x24x128x7680, .f32⟩
  | .hbm, ⟨18, _⟩ => ⟨S2x24x1x128x7680, .f32⟩
  | .hbm, ⟨19, _⟩ => ⟨S2x24x60x128x7680, .f32⟩
  | .hbm, ⟨20, _⟩ => ⟨S2x24x7680x7680, .f32⟩
  | .hbm, ⟨21, _⟩ => ⟨S2x24x7680x7680, .f32⟩
  | .hbm, ⟨22, _⟩ => ⟨S2x24x7680x7680, .f32⟩
  | .hbm, ⟨23, _⟩ => ⟨S5, .i32⟩
  | .hbm, ⟨24, _⟩ => ⟨S1x5, .i32⟩
  | .hbm, ⟨25, _⟩ => ⟨S2x1, .i32⟩
  | .hbm, ⟨26, _⟩ => ⟨S2x5, .i32⟩
  | .hbm, ⟨27, _⟩ => ⟨S2x5, .i32⟩
  | .hbm, ⟨28, _⟩ => ⟨S2x5, .i1⟩
  | .hbm, ⟨29, _⟩ => ⟨S2x5x1, .i1⟩
  | .hbm, ⟨30, _⟩ => ⟨S2x5x1536, .i1⟩
  | .hbm, ⟨31, _⟩ => ⟨S2x1x1x7680, .i1⟩
  | .hbm, ⟨32, _⟩ => ⟨S_, .f32⟩
  | .hbm, ⟨33, _⟩ => ⟨S_, .f32⟩
  | .hbm, ⟨34, _⟩ => ⟨S2x24x7680x7680, .i1⟩
  | .hbm, ⟨35, _⟩ => ⟨S2x24x7680x7680, .f32⟩
  | .hbm, ⟨36, _⟩ => ⟨S2x24x7680x7680, .f32⟩
  | .hbm, ⟨37, _⟩ => ⟨S_, .f32⟩
  | .hbm, ⟨38, _⟩ => ⟨S2x24x7680, .f32⟩
  | .hbm, ⟨39, _⟩ => ⟨S2x24x7680x1, .f32⟩
  | .hbm, ⟨40, _⟩ => ⟨S2x24x7680x1, .f32⟩
  | .hbm, ⟨41, _⟩ => ⟨S_, .f32⟩
  | .hbm, ⟨42, _⟩ => ⟨S2x24x7680x1, .f32⟩
  | .hbm, ⟨43, _⟩ => ⟨S2x24x7680x1, .f32⟩
  | .hbm, ⟨44, _⟩ => ⟨S2x24x7680x7680, .f32⟩
  | .hbm, ⟨45, _⟩ => ⟨S2x24x7680x7680, .f32⟩
  | .hbm, ⟨46, _⟩ => ⟨S2x24x7680x7680, .f32⟩
  | .hbm, ⟨47, _⟩ => ⟨S2x24x7680x7680, .f32⟩
  | .hbm, ⟨48, _⟩ => ⟨S2x1536x7680, .f32⟩
  | .hbm, ⟨49, _⟩ => ⟨S_, .f32⟩
  | .hbm, ⟨50, _⟩ => ⟨S2x24x7680, .f32⟩
  | .hbm, ⟨51, _⟩ => ⟨S2x24x64x7680, .f32⟩
  | .hbm, ⟨52, _⟩ => ⟨S2x24x7680x64, .f32⟩
  | .hbm, ⟨53, _⟩ => ⟨S2x24x1x64, .f32⟩
  | .hbm, ⟨54, _⟩ => ⟨S2x24x7680x64, .f32⟩
  | .hbm, ⟨55, _⟩ => ⟨S2x24x7680x64, .f32⟩
  | .hbm, ⟨56, _⟩ => ⟨S2x24x7680x1, .f32⟩
  | .hbm, ⟨57, _⟩ => ⟨S2x24x7680x64, .f32⟩
  | .hbm, ⟨58, _⟩ => ⟨S2x24x7680x64, .f32⟩
  | .hbm, ⟨59, _⟩ => ⟨S2x24x7680, .f32⟩
  | .hbm, ⟨60, _⟩ => ⟨S_, .f32⟩
  | .hbm, ⟨61, _⟩ => ⟨S2x24x7680, .f32⟩
  | .hbm, ⟨62, _⟩ => ⟨S2x24x7680, .f32⟩
  | .hbm, ⟨63, _⟩ => ⟨S2x24x7680, .f32⟩
  | .hbm, ⟨64, _⟩ => ⟨S2x24x7680, .f32⟩
  | .hbm, ⟨65, _⟩ => ⟨S2x24x7680, .f32⟩
  | .hbm, ⟨66, _⟩ => ⟨S_, .f32⟩
  | .hbm, ⟨67, _⟩ => ⟨S2x24x7680, .f32⟩
  | .hbm, ⟨68, _⟩ => ⟨S2x24x7680, .f32⟩
  | .hbm, ⟨69, _⟩ => ⟨S2x24x7680, .f32⟩
  | .hbm, ⟨70, _⟩ => ⟨S_, .f32⟩
  | .hbm, ⟨71, _⟩ => ⟨S2x24x7680, .f32⟩
  | .hbm, ⟨72, _⟩ => ⟨S2x24x7680, .f32⟩
  | .hbm, ⟨73, _⟩ => ⟨S2x24x7680, .f32⟩
  | .hbm, ⟨74, _⟩ => ⟨S_, .f32⟩
  | .hbm, ⟨75, _⟩ => ⟨S2x24x7680, .f32⟩
  | .hbm, ⟨76, _⟩ => ⟨S2x24x7680, .f32⟩
  | .hbm, ⟨77, _⟩ => ⟨S2x24x7680x64, .bf16⟩
  | .hbm, ⟨78, _⟩ => ⟨S2x24x1x7680, .f32⟩
  | .local _ .vmem, ⟨0, _⟩ => ⟨S2x24x7680x7680, .f32⟩
  | .local _ .vmem, ⟨1, _⟩ => ⟨S2x1536x7680, .fp8e4m3⟩
  | .local _ .vmem, ⟨2, _⟩ => ⟨S2x24x7680x7680, .f32⟩
  | .local _ .vmem, ⟨3, _⟩ => ⟨S2x24x7680x7680, .f32⟩
  | .local _ .vmem, ⟨4, _⟩ => ⟨S2x1536x7680, .f32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32_0 : Ref sig .tc := ⟨.hbm, 46, rfl⟩
abbrev main_v32_1 : Ref sig .tc := ⟨.hbm, 47, rfl⟩
abbrev main_v32_2 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_4 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_5 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_6 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x24x7680x7680 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1536x7680 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x24x7680x7680 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x24x7680x7680 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1536x7680 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== OutProj.lean ====
abbrev S2x24x7680x64 : Shape := ⟨4, ![2, 24, 7680, 64]⟩
abbrev S2x1x1536 : Shape := ⟨3, ![2, 1, 1536]⟩
abbrev S2x7680x3072 : Shape := ⟨3, ![2, 7680, 3072]⟩
abbrev S1536x3072 : Shape := ⟨2, ![1536, 3072]⟩
abbrev S1x3072 : Shape := ⟨2, ![1, 3072]⟩
abbrev S2x1x3072 : Shape := ⟨3, ![2, 1, 3072]⟩
abbrev S2x7680x1536 : Shape := ⟨3, ![2, 7680, 1536]⟩
abbrev S2x7680x1 : Shape := ⟨3, ![2, 7680, 1]⟩
abbrev S1x24x256x64 : Shape := ⟨4, ![1, 24, 256, 64]⟩
abbrev S1x1x1536 : Shape := ⟨3, ![1, 1, 1536]⟩
abbrev S1x256x3072 : Shape := ⟨3, ![1, 256, 3072]⟩
abbrev S1x1x3072 : Shape := ⟨3, ![1, 1, 3072]⟩
abbrev S1x256x1536 : Shape := ⟨3, ![1, 256, 1536]⟩
abbrev S1x256x1 : Shape := ⟨3, ![1, 256, 1]⟩
abbrev S1x1x256x64 : Shape := ⟨4, ![1, 1, 256, 64]⟩
abbrev S256x64 : Shape := ⟨2, ![256, 64]⟩
abbrev S256x1536 : Shape := ⟨2, ![256, 1536]⟩
abbrev S1x1536 : Shape := ⟨2, ![1, 1536]⟩
abbrev S256 : Shape := ⟨1, ![256]⟩
abbrev S256x1 : Shape := ⟨2, ![256, 1]⟩
abbrev S256x3072 : Shape := ⟨2, ![256, 3072]⟩

abbrev nBuf : Space → Nat
  | .hbm => 11
  | .vmem => 19
  | .smem => 0
  | _ => 0

abbrev bufTy : (tb : Table) → Fin (tcTables nBuf tb) → BufTy
  | .hbm, ⟨0, _⟩ => ⟨S2x24x7680x64, .f32⟩
  | .hbm, ⟨1, _⟩ => ⟨S2x1x1536, .f32⟩
  | .hbm, ⟨2, _⟩ => ⟨S2x7680x3072, .bf16⟩
  | .hbm, ⟨3, _⟩ => ⟨S1536x3072, .bf16⟩
  | .hbm, ⟨4, _⟩ => ⟨S1x3072, .f32⟩
  | .hbm, ⟨5, _⟩ => ⟨S1x3072, .f32⟩
  | .hbm, ⟨6, _⟩ => ⟨S2x1x3072, .f32⟩
  | .hbm, ⟨7, _⟩ => ⟨S2x1x3072, .f32⟩
  | .hbm, ⟨8, _⟩ => ⟨S2x7680x3072, .bf16⟩
  | .hbm, ⟨9, _⟩ => ⟨S2x7680x1536, .i8⟩
  | .hbm, ⟨10, _⟩ => ⟨S2x7680x1, .f32⟩
  | .local _ .vmem, ⟨0, _⟩ => ⟨S1x24x256x64, .f32⟩
  | .local _ .vmem, ⟨1, _⟩ => ⟨S1x24x256x64, .f32⟩
  | .local _ .vmem, ⟨2, _⟩ => ⟨S1x1x1536, .f32⟩
  | .local _ .vmem, ⟨3, _⟩ => ⟨S1x1x1536, .f32⟩
  | .local _ .vmem, ⟨4, _⟩ => ⟨S1x256x3072, .bf16⟩
  | .local _ .vmem, ⟨5, _⟩ => ⟨S1x256x3072, .bf16⟩
  | .local _ .vmem, ⟨6, _⟩ => ⟨S1536x3072, .bf16⟩
  | .local _ .vmem, ⟨7, _⟩ => ⟨S1x3072, .f32⟩
  | .local _ .vmem, ⟨8, _⟩ => ⟨S1x3072, .f32⟩
  | .local _ .vmem, ⟨9, _⟩ => ⟨S1x1x3072, .f32⟩
  | .local _ .vmem, ⟨10, _⟩ => ⟨S1x1x3072, .f32⟩
  | .local _ .vmem, ⟨11, _⟩ => ⟨S1x1x3072, .f32⟩
  | .local _ .vmem, ⟨12, _⟩ => ⟨S1x1x3072, .f32⟩
  | .local _ .vmem, ⟨13, _⟩ => ⟨S1x256x3072, .bf16⟩
  | .local _ .vmem, ⟨14, _⟩ => ⟨S1x256x3072, .bf16⟩
  | .local _ .vmem, ⟨15, _⟩ => ⟨S1x256x1536, .i8⟩
  | .local _ .vmem, ⟨16, _⟩ => ⟨S1x256x1536, .i8⟩
  | .local _ .vmem, ⟨17, _⟩ => ⟨S1x256x1, .f32⟩
  | .local _ .vmem, ⟨18, _⟩ => ⟨S1x256x1, .f32⟩
  | _, _ => ⟨S2x24x7680x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 30], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x24x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1536x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1536 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutProjRefIdeal.lean ====
abbrev S2x24x7680x64 : Shape := ⟨4, ![2, 24, 7680, 64]⟩
abbrev S2x1x1536 : Shape := ⟨3, ![2, 1, 1536]⟩
abbrev S2x7680x3072 : Shape := ⟨3, ![2, 7680, 3072]⟩
abbrev S1536x3072 : Shape := ⟨2, ![1536, 3072]⟩
abbrev S1x3072 : Shape := ⟨2, ![1, 3072]⟩
abbrev S2x1x3072 : Shape := ⟨3, ![2, 1, 3072]⟩
abbrev S2x7680x24x64 : Shape := ⟨4, ![2, 7680, 24, 64]⟩
abbrev S2x7680x1536 : Shape := ⟨3, ![2, 7680, 1536]⟩
abbrev S_ : Shape := ⟨0, ![]⟩
abbrev S2x7680 : Shape := ⟨2, ![2, 7680]⟩
abbrev S2x7680x1 : Shape := ⟨3, ![2, 7680, 1]⟩
abbrev S1x1x3072 : Shape := ⟨3, ![1, 1, 3072]⟩
abbrev S7680 : Shape := ⟨1, ![7680]⟩
abbrev S1x7680x1 : Shape := ⟨3, ![1, 7680, 1]⟩

abbrev nBuf : Space → Nat
  | .hbm => 50
  | .vmem => 4
  | .smem => 0
  | _ => 0

abbrev bufTy : (tb : Table) → Fin (tcTables nBuf tb) → BufTy
  | .hbm, ⟨0, _⟩ => ⟨S2x24x7680x64, .f32⟩
  | .hbm, ⟨1, _⟩ => ⟨S2x1x1536, .f32⟩
  | .hbm, ⟨2, _⟩ => ⟨S2x7680x3072, .bf16⟩
  | .hbm, ⟨3, _⟩ => ⟨S1536x3072, .bf16⟩
  | .hbm, ⟨4, _⟩ => ⟨S1x3072, .f32⟩
  | .hbm, ⟨5, _⟩ => ⟨S1x3072, .f32⟩
  | .hbm, ⟨6, _⟩ => ⟨S2x1x3072, .f32⟩
  | .hbm, ⟨7, _⟩ => ⟨S2x1x3072, .f32⟩
  | .hbm, ⟨8, _⟩ => ⟨S2x7680x24x64, .f32⟩
  | .hbm, ⟨9, _⟩ => ⟨S2x7680x1536, .f32⟩
  | .hbm, ⟨10, _⟩ => ⟨S2x7680x1536, .f32⟩
  | .hbm, ⟨11, _⟩ => ⟨S2x7680x1536, .f32⟩
  | .hbm, ⟨12, _⟩ => ⟨S2x7680x1536, .f32⟩
  | .hbm, ⟨13, _⟩ => ⟨S_, .f32⟩
  | .hbm, ⟨14, _⟩ => ⟨S2x7680, .f32⟩
  | .hbm, ⟨15, _⟩ => ⟨S2x7680x1, .f32⟩
  | .hbm, ⟨16, _⟩ => ⟨S_, .f32⟩
  | .hbm, ⟨17, _⟩ => ⟨S2x7680x1, .f32⟩
  | .hbm, ⟨18, _⟩ => ⟨S2x7680x1, .i1⟩
  | .hbm, ⟨19, _⟩ => ⟨S_, .f32⟩
  | .hbm, ⟨20, _⟩ => ⟨S2x7680x1, .f32⟩
  | .hbm, ⟨21, _⟩ => ⟨S2x7680x1, .f32⟩
  | .hbm, ⟨22, _⟩ => ⟨S_, .f32⟩
  | .hbm, ⟨23, _⟩ => ⟨S_, .f32⟩
  | .hbm, ⟨24, _⟩ => ⟨S2x7680x1, .f32⟩
  | .hbm, ⟨25, _⟩ => ⟨S2x7680x1, .f32⟩
  | .hbm, ⟨26, _⟩ => ⟨S2x7680x1536, .i8⟩
  | .hbm, ⟨27, _⟩ => ⟨S2x7680x1536, .bf16⟩
  | .hbm, ⟨28, _⟩ => ⟨S2x7680x3072, .f32⟩
  | .hbm, ⟨29, _⟩ => ⟨S2x7680x3072, .f32⟩
  | .hbm, ⟨30, _⟩ => ⟨S2x7680x3072, .f32⟩
  | .hbm, ⟨31, _⟩ => ⟨S1x1x3072, .f32⟩
  | .hbm, ⟨32, _⟩ => ⟨S2x7680x3072, .f32⟩
  | .hbm, ⟨33, _⟩ => ⟨S2x7680x3072, .f32⟩
  | .hbm, ⟨34, _⟩ => ⟨S1x1x3072, .f32⟩
  | .hbm, ⟨35, _⟩ => ⟨S2x7680x3072, .f32⟩
  | .hbm, ⟨36, _⟩ => ⟨S2x7680x3072, .f32⟩
  | .hbm, ⟨37, _⟩ => ⟨S7680, .i32⟩
  | .hbm, ⟨38, _⟩ => ⟨S_, .i32⟩
  | .hbm, ⟨39, _⟩ => ⟨S7680, .i32⟩
  | .hbm, ⟨40, _⟩ => ⟨S7680, .i1⟩
  | .hbm, ⟨41, _⟩ => ⟨S1x7680x1, .i1⟩
  | .hbm, ⟨42, _⟩ => ⟨S2x7680x3072, .i1⟩
  | .hbm, ⟨43, _⟩ => ⟨S2x7680x3072, .f32⟩
  | .hbm, ⟨44, _⟩ => ⟨S2x7680x3072, .f32⟩
  | .hbm, ⟨45, _⟩ => ⟨S2x7680x3072, .f32⟩
  | .hbm, ⟨46, _⟩ => ⟨S2x7680x3072, .f32⟩
  | .hbm, ⟨47, _⟩ => ⟨S2x7680x3072, .f32⟩
  | .hbm, ⟨48, _⟩ => ⟨S2x7680x3072, .f32⟩
  | .hbm, ⟨49, _⟩ => ⟨S2x7680x3072, .bf16⟩
  | .local _ .vmem, ⟨0, _⟩ => ⟨S2x7680x1536, .f32⟩
  | .local _ .vmem, ⟨1, _⟩ => ⟨S2x7680x1, .f32⟩
  | .local _ .vmem, ⟨2, _⟩ => ⟨S2x7680x1536, .i8⟩
  | .local _ .vmem, ⟨3, _⟩ => ⟨S2x7680x1536, .bf16⟩
  | _, _ => ⟨S2x24x7680x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x7680x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x7680x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x7680x1536 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x7680x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.AttentionKit.lean ====
/- The pieces of the launch that the frame proof of `Attention` is built from: at which grid points each window is fetched
   and written back, the staging memrefs and the body at a point, @main up to its one region, the prefetched table of chunk
   counts, each window's block at a point, and the frame claim's post read off a run of the pipeline. -/
module

public import proofs.«01_k».proof.Proof.Gen.Attention.Launch
public import proofs.«01_k».proof.Proof.Gen.Attention.Skeleton
public import proofs.«01_k».proof.Proof.Gen.Attention.Loops
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Attention.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The schedule of the one region -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg1)) is fetched at the points ≡ 0 (mod 15), at any contents of the tables (its index map reads none). -/
theorem fetch0_0 (a : (pcfg0 (F := F)).Adm) : ∀ t : Fin (cfg0 a).N, ((cfg0 a).win 0).fetch t = true ↔ t.val % 15 = 0 :=
  (fun t => Pipeline.Window.fetchOf_reads cc0_transform_0 reads0_0 hreads0_0 1 (by decide) (by decide) (Pipeline.Window.sep_of_coord cc0_transform_0 1 1 (fun _ => rfl) (by decide)) (P := 15) (by decide) t : ∀ t : Fin grid0.N, Pipeline.Window.fetchOf grid0 false cc0_transform_0 t = true ↔ t.val % 15 = 0)
/-- Window 1 (operand 2 (%arg2)) is fetched at the points ≡ 0 (mod 5), at any contents of the tables (its index map reads none). -/
theorem fetch0_1 (a : (pcfg0 (F := F)).Adm) : ∀ t : Fin (cfg0 a).N, ((cfg0 a).win 1).fetch t = true ↔ t.val % 5 = 0 :=
  (by decide +kernel : ∀ t : Fin grid0.N, Pipeline.Window.fetchOf grid0 false cc0_transform_1 t = true ↔ t.val % 5 = 0)
/-- Window 2 (operand 3 (%arg3)) is fetched at the points ≡ 0 (mod 15), at any contents of the tables (its index map reads none). -/
theorem fetch0_2 (a : (pcfg0 (F := F)).Adm) : ∀ t : Fin (cfg0 a).N, ((cfg0 a).win 2).fetch t = true ↔ t.val % 15 = 0 :=
  (fun t => Pipeline.Window.fetchOf_reads cc0_transform_2 reads0_2 hreads0_2 1 (by decide) (by decide) (Pipeline.Window.sep_of_coord cc0_transform_2 1 1 (fun _ => rfl) (by decide)) (P := 15) (by decide) t : ∀ t : Fin grid0.N, Pipeline.Window.fetchOf grid0 false cc0_transform_2 t = true ↔ t.val % 15 = 0)
/-- Window 3 (operand 4 (%arg4)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 2 (by decide) (by decide) (Pipeline.Window.sep_of_coord cc0_transform_3 2 2 (fun _ => rfl) (by decide)) (P := 1) (by decide) t).mpr (Nat.mod_one _) : ∀ t : Fin grid0.N, Pipeline.Window.fetchOf grid0 false cc0_transform_3 t = true)
/-- Window 4 (operand 5 (%arg5)) is fetched at the points ≡ 0 (mod 15), at any contents of the tables (its index map reads none). -/
theorem fetch0_4 (a : (pcfg0 (F := F)).Adm) : ∀ t : Fin (cfg0 a).N, ((cfg0 a).win 4).fetch t = true ↔ t.val % 15 = 0 :=
  (fun t => Pipeline.Window.fetchOf_reads cc0_transform_4 reads0_4 hreads0_4 1 (by decide) (by decide) (Pipeline.Window.sep_of_coord cc0_transform_4 1 1 (fun _ => rfl) (by decide)) (P := 15) (by decide) t : ∀ t : Fin grid0.N, Pipeline.Window.fetchOf grid0 false cc0_transform_4 t = true ↔ t.val % 15 = 0)
/-- Window 5 (operand 6 (%arg6)) is fetched at the points ≡ 0 (mod 15), at any contents of the tables (its index map reads none). -/
theorem fetch0_5 (a : (pcfg0 (F := F)).Adm) : ∀ t : Fin (cfg0 a).N, ((cfg0 a).win 5).fetch t = true ↔ t.val % 15 = 0 :=
  (fun t => Pipeline.Window.fetchOf_reads cc0_transform_5 reads0_5 hreads0_5 1 (by decide) (by decide) (Pipeline.Window.sep_of_coord cc0_transform_5 1 1 (fun _ => rfl) (by decide)) (P := 15) (by decide) t : ∀ t : Fin grid0.N, Pipeline.Window.fetchOf grid0 false cc0_transform_5 t = true ↔ t.val % 15 = 0)
/-- Window 6 (operand 7 (%arg7)) is fetched at every point, at any contents of the tables (its index map reads none). -/
theorem fetch0_6 (a : (pcfg0 (F := F)).Adm) : ∀ t : Fin (cfg0 a).N, ((cfg0 a).win 6).fetch t = true :=
  (fun t => (Pipeline.Window.fetchOf_reads cc0_transform_6 reads0_6 hreads0_6 2 (by decide) (by decide) (Pipeline.Window.sep_of_coord cc0_transform_6 2 3 (fun _ => rfl) (by decide)) (P := 1) (by decide) t).mpr (Nat.mod_one _) : ∀ t : Fin grid0.N, Pipeline.Window.fetchOf grid0 false cc0_transform_6 t = true)
/-- Window 7 (result 0 (%0#0)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 2 (by decide) (by decide) (Pipeline.Window.sep_of_coord cc0_transform_7 2 2 (fun _ => rfl) (by decide)) (P := 1) (m := 0) (by decide) rfl t).mpr (Nat.mod_one _) : ∀ t : Fin grid0.N, Pipeline.Window.flushOf grid0 true cc0_transform_7 t = true)
/-- Window 8 (result 1 (%0#1)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 2 (by decide) (by decide) (Pipeline.Window.sep_of_coord cc0_transform_8 2 2 (fun _ => rfl) (by decide)) (P := 1) (m := 0) (by decide) rfl t).mpr (Nat.mod_one _) : ∀ t : Fin grid0.N, Pipeline.Window.flushOf grid0 true cc0_transform_8 t = true)
/-- Window 9 (result 2 (%0#2)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 2 (by decide) (by decide) (Pipeline.Window.sep_of_coord cc0_transform_9 2 3 (fun _ => rfl) (by decide)) (P := 1) (m := 0) (by decide) rfl t).mpr (Nat.mod_one _) : ∀ t : Fin grid0.N, Pipeline.Window.flushOf grid0 true cc0_transform_9 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attention (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _)

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table).  -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Attention`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 4).trans (((dats 0 c).arrAt_in 4 rfl _).trans ((hA c 4).trans (V_main_arg5 m c))),
      ((h c).1 5).trans (((dats 0 c).arrAt_in 5 rfl _).trans ((hA c 5).trans (V_main_arg6 m c))),
      ((h c).1 6).trans (((dats 0 c).arrAt_in 6 rfl _).trans ((hA c 6).trans (V_main_arg7 m c)))⟩) h

end Cert.Attention.Gen

end
-- ==== Proof.AttentionBody.lean ====
/- The body of `Attention`'s region at any grid point, its outputs forgotten: on staged inputs it runs through, leaves the inputs
   as they were, and hands back the three output blocks and the scratch at some contents. -/
module

public import proofs.«01_k».proof.Proof.AttentionKit

@[expose] public section

set_option maxRecDepth 16384

noncomputable section

namespace Cert.Attention.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- The kernel body on whole staging memrefs, the inputs' at read contents, outputs and scratch at anything, under the side
    condition of every word of the table: it runs to the continuation holding the inputs as they were. -/
theorem sound_kernel (c : Dev nD) (E : Set ℕ) (i : grid0.Coords) (arg3 : Memref sig .tc .smem S2 .i32) (harg3 : arg3.IsWhole) (arg4 : Memref sig .tc .vmem S1x1x7680x128 .bf16) (harg4 : arg4.IsWhole) (arg5 : Memref sig .tc .vmem S1x1x1x7680x128 .bf16) (harg5 : arg5.IsWhole) (arg6 : Memref sig .tc .vmem S1x1x960x128 .f32) (harg6 : arg6.IsWhole) (arg7 : Memref sig .tc .vmem S1x1x512x256 .bf16) (harg7 : arg7.IsWhole) (arg8 : Memref sig .tc .vmem S1x64x7680 .fp8e4m3) (harg8 : arg8.IsWhole) (arg9 : Memref sig .tc .vmem S1x1x64x1 .f32) (harg9 : arg9.IsWhole) (arg10 : Memref sig .tc .vmem S1x1x1x512 .f32) (harg10 : arg10.IsWhole) (arg11 : Memref sig .tc .vmem S1x1x512x64 .bf16) (harg11 : arg11.IsWhole) (arg12 : Memref sig .tc .vmem S1x1x512x64 .f32) (harg12 : arg12.IsWhole) (arg13 : Memref sig .tc .vmem S1x1x1x512 .f32) (harg13 : arg13.IsWhole) (arg14 : Memref sig .tc .vmem S7680x512 .f32) (harg14 : arg14.IsWhole)
    (f3 : TbBuf0 (F := F) c arg3) (x0 : Vec F S1x1x7680x128 .bf16) (x1 : Vec F S1x1x1x7680x128 .bf16) (x2 : Vec F S1x1x960x128 .f32) (x3 : Vec F S1x1x512x256 .bf16) (x4 : Vec F S1x64x7680 .fp8e4m3) (x5 : Vec F S1x1x64x1 .f32) (x6 : Vec F S1x1x1x512 .f32)
    (hchk : ∀ j, k0_chk1 (arg3.view.read (Elt F) f3 j)) (K : PUnit → sProp (MT nD τ sig Unit (Elt F) ℕ (UR sig nD τ) ℕ)) :
    iprop(tbPt0 c arg3 f3 ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(tbPt0 c arg3 f3 ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14) K := by
  simp only [cc0_attention_eq_skeleton]; unfold cc0_attention_skel
  simp only [k0_part51_eq_skeleton]
  unfold owns
  iintro ⟨HT, ⟨%f0, %hf0, H0⟩, ⟨%f1, %hf1, H1⟩, ⟨%f2, %hf2, H2⟩, ⟨%f3', %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec (disch := first | exact hchk _)
  sl_step
  iapply Hk
  isplitl [HT]; · iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3'; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

end Cert.Attention.Gen

end
-- ==== Proof.AttentionFrame.lean ====
/- The frame of `Attention`: from any memory whose table of chunk counts passes the body's side condition, the program ends, nothing
   faults, and its argument arrays are unchanged. The outputs' contents are not named here. -/
module

public import proofs.«01_k».proof.Proof.AttentionBody

@[expose] public section

set_option maxRecDepth 16384

noncomputable section

namespace Cert.Attention.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The class invariant with the scratch as a memref owned at some contents. -/
theorem PhiA0_eq (c : Dev nD) :
    (Pipeline.ΦA spec0 c : sProp (MT nD τ sig Unit (Elt F) ℕ (UR sig nD τ) ℕ))
      = iprop((∃ d, owns (c : Thread nD τ) (Memref.whole cc0_scratch0) fullShare d) ∗ (∃ r, prngReg c r)) := by
  unfold Pipeline.ΦA; rw [scopedRest0_eq]; simp only [owns_whole]; try rfl

/-- The words of the table all pass the side condition the body assumes of the word it reads. -/
abbrev TblOk : Prop := ∀ j, k0_chk1 (tbM0_0.view.read (Elt F) (tbl m 0) j)

/-- The output windows: nothing of what is left there is named. -/
def forgets0 : Fin 10 → Bool := fun w => w.val == 7 || w.val == 8 || w.val == 9

/-- The pipeline's proof data: the arrays as launched, every input's buffer left at its block, the outputs unnamed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := cfgM m hO) ⟨7, h⟩ t
    | ⟨8, h⟩ => Pipeline.Dat.unnamed (cfg := cfgM m hO) ⟨8, h⟩ t
    | ⟨9, h⟩ => Pipeline.Dat.unnamed (cfg := cfgM m hO) ⟨9, h⟩ t
    | ⟨_ + 10, h⟩ => absurd h (Nat.not_lt.2 (Nat.le_add_left _ _))
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-- Window 0's current staging memref at point `t`, and that it is a whole array. -/
abbrev ms0_0 (hO : Ok m) (t : Fin (cfgM m hO).N) : Memref sig .tc .vmem S1x1x7680x128 .bf16 := spec0_0.stage ((cfgM m hO).slots t 0)
abbrev hs0_0 (hO : Ok m) (t : Fin (cfgM m hO).N) : (ms0_0 m hO t).IsWhole := hstage0_0 (((cfgM m hO).slots t 0).cast nbuf0_0)
/-- Window 1's current staging memref at point `t`, and that it is a whole array. -/
abbrev ms0_1 (hO : Ok m) (t : Fin (cfgM m hO).N) : Memref sig .tc .vmem S1x1x1x7680x128 .bf16 := spec0_1.stage ((cfgM m hO).slots t 1)
abbrev hs0_1 (hO : Ok m) (t : Fin (cfgM m hO).N) : (ms0_1 m hO t).IsWhole := hstage0_1 (((cfgM m hO).slots t 1).cast nbuf0_1)
/-- Window 2's current staging memref at point `t`, and that it is a whole array. -/
abbrev ms0_2 (hO : Ok m) (t : Fin (cfgM m hO).N) : Memref sig .tc .vmem S1x1x960x128 .f32 := spec0_2.stage ((cfgM m hO).slots t 2)
abbrev hs0_2 (hO : Ok m) (t : Fin (cfgM m hO).N) : (ms0_2 m hO t).IsWhole := hstage0_2 (((cfgM m hO).slots t 2).cast nbuf0_2)
/-- Window 3's current staging memref at point `t`, and that it is a whole array. -/
abbrev ms0_3 (hO : Ok m) (t : Fin (cfgM m hO).N) : Memref sig .tc .vmem S1x1x512x256 .bf16 := spec0_3.stage ((cfgM m hO).slots t 3)
abbrev hs0_3 (hO : Ok m) (t : Fin (cfgM m hO).N) : (ms0_3 m hO t).IsWhole := hstage0_3 (((cfgM m hO).slots t 3).cast nbuf0_3)
/-- Window 4's current staging memref at point `t`, and that it is a whole array. -/
abbrev ms0_4 (hO : Ok m) (t : Fin (cfgM m hO).N) : Memref sig .tc .vmem S1x64x7680 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
/-- Window 5's current staging memref at point `t`, and that it is a whole array. -/
abbrev ms0_5 (hO : Ok m) (t : Fin (cfgM m hO).N) : Memref sig .tc .vmem S1x1x64x1 .f32 := spec0_5.stage ((cfgM m hO).slots t 5)
abbrev hs0_5 (hO : Ok m) (t : Fin (cfgM m hO).N) : (ms0_5 m hO t).IsWhole := hstage0_5 (((cfgM m hO).slots t 5).cast nbuf0_5)
/-- Window 6's current staging memref at point `t`, and that it is a whole array. -/
abbrev ms0_6 (hO : Ok m) (t : Fin (cfgM m hO).N) : Memref sig .tc .vmem S1x1x1x512 .f32 := spec0_6.stage ((cfgM m hO).slots t 6)
abbrev hs0_6 (hO : Ok m) (t : Fin (cfgM m hO).N) : (ms0_6 m hO t).IsWhole := hstage0_6 (((cfgM m hO).slots t 6).cast nbuf0_6)
/-- Window 7's current staging memref at point `t`, and that it is a whole array. -/
abbrev ms0_7 (hO : Ok m) (t : Fin (cfgM m hO).N) : Memref sig .tc .vmem S1x1x512x64 .bf16 := spec0_7.stage ((cfgM m hO).slots t 7)
abbrev hs0_7 (hO : Ok m) (t : Fin (cfgM m hO).N) : (ms0_7 m hO t).IsWhole := hstage0_7 (((cfgM m hO).slots t 7).cast nbuf0_7)
/-- Window 8's current staging memref at point `t`, and that it is a whole array. -/
abbrev ms0_8 (hO : Ok m) (t : Fin (cfgM m hO).N) : Memref sig .tc .vmem S1x1x512x64 .f32 := spec0_8.stage ((cfgM m hO).slots t 8)
abbrev hs0_8 (hO : Ok m) (t : Fin (cfgM m hO).N) : (ms0_8 m hO t).IsWhole := hstage0_8 (((cfgM m hO).slots t 8).cast nbuf0_8)
/-- Window 9's current staging memref at point `t`, and that it is a whole array. -/
abbrev ms0_9 (hO : Ok m) (t : Fin (cfgM m hO).N) : Memref sig .tc .vmem S1x1x1x512 .f32 := spec0_9.stage ((cfgM m hO).slots t 9)
abbrev hs0_9 (hO : Ok m) (t : Fin (cfgM m hO).N) : (ms0_9 m hO t).IsWhole := hstage0_9 (((cfgM m hO).slots t 9).cast nbuf0_9)

/-- What the body is called with at point `t`, the windows one by one. -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

/-- What the body returns at point `t`. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

set_option maxHeartbeats 1000000 in
/-- The body at any point: the inputs' memrefs hold their blocks, so `sound_kernel` applies. -/
theorem sound_body (hO : Ok m) (hT : TblOk m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    show (dats m hO 0 c).Φ t.castSucc = iprop(Pipeline.ΦA spec0 c ∗ Pipeline.ΦT pre0 (tbl m) c) from rfl, PhiA0_eq, PhiT0_eq,
    after0_0, after0_1, after0_2, after0_3, after0_4, after0_5, after0_6]
  iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, H7, H8, H9⟩
  iapply (sound_kernel c Set.univ (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (Memref.whole cc0_scratch0) (Memref.isWhole_whole _) (tbl m 0) (iblk m hO c 0 t) (iblk m hO c 1 t) (iblk m hO c 2 t) (iblk m hO c 3 t) (iblk m hO c 4 t) (iblk m hO c 5 t) (iblk m hO c 6 t) hT _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  iintro ⟨HT, H0, H1, H2, H3, H4, H5, H6, H7, H8, H9, HS⟩
  isplitl [HS Hg HT]
  · isplitl [HS Hg]
    · isplitl [HS]; · iexact HS
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (hT : TblOk m) (c : Dev nD) : BodyObligation (dats (F := F) m hO 0 c) (defs₀ (F := F)) Variants.none () Set.univ forgets0 := fun t => by
  rw [bigSep_W0, bigSep_W0, defs₀_row]
  exact triple_restated (sound_body m hO hT c t) rfl .rfl fun _ => .rfl

set_option backward.isDefEq.respectTransparency.types false in
set_option maxHeartbeats 800000 in
/-- The launch: every input array of the pipeline unchanged, and every semaphore counter at zero. -/
theorem run_main_quiescent (hO : Ok m) (hT : TblOk m) : θ_run defs (onTc (τ := τ) (main (F := F))) (s₀ m ρ) (fun r => (Pipeline.RDat.FramePost (cfgM m hO) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO hT c).loose) (hshare := fun c => (dats m hO 0 c).share_full fun _ => rfl)
    (howed := fun _ _ => rfl) (V := V m) (hmain := hmain m Variants.none) (hA := A_eq m hO) (hpf := V_pre m) (hΦ := fun _ _ => rfl)

/-- The frame: the argument arrays end unchanged and every counter is zero. -/
theorem frame (hO : Ok m) (hT : TblOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r hr => ⟨fun c =>
    have h := hr.1
    have hA := A_eq m hO
    ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c)),
      (Pipeline.RDat.FramePost.arr_in h c 6 rfl).trans ((hA c 6).trans (V_main_arg7 m c))⟩, hr.2⟩) (run_main_quiescent m ρ hO hT)

end Cert.Attention.Gen

end
-- ==== Proof.AttentionIdealKit.lean ====
/- The pieces of the launch that the frame proof of `AttentionIdeal` is built from: at which grid points each window is fetched
   and written back, the staging memrefs and the body at a point, @main up to its one region, the prefetched table of chunk
   counts, each window's block at a point, and the frame claim's post read off a run of the pipeline. -/
module

public import proofs.«01_k».proof.Proof.Gen.AttentionIdeal.Launch
public import proofs.«01_k».proof.Proof.Gen.AttentionIdeal.Skeleton
public import proofs.«01_k».proof.Proof.Gen.AttentionIdeal.Loops
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AttentionIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The schedule of the one region -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg1)) is fetched at the points ≡ 0 (mod 15), at any contents of the tables (its index map reads none). -/
theorem fetch0_0 (a : (pcfg0 (F := F)).Adm) : ∀ t : Fin (cfg0 a).N, ((cfg0 a).win 0).fetch t = true ↔ t.val % 15 = 0 :=
  (fun t => Pipeline.Window.fetchOf_reads cc0_transform_0 reads0_0 hreads0_0 1 (by decide) (by decide) (Pipeline.Window.sep_of_coord cc0_transform_0 1 1 (fun _ => rfl) (by decide)) (P := 15) (by decide) t : ∀ t : Fin grid0.N, Pipeline.Window.fetchOf grid0 false cc0_transform_0 t = true ↔ t.val % 15 = 0)
/-- Window 1 (operand 2 (%arg2)) is fetched at the points ≡ 0 (mod 5), at any contents of the tables (its index map reads none). -/
theorem fetch0_1 (a : (pcfg0 (F := F)).Adm) : ∀ t : Fin (cfg0 a).N, ((cfg0 a).win 1).fetch t = true ↔ t.val % 5 = 0 :=
  (by decide +kernel : ∀ t : Fin grid0.N, Pipeline.Window.fetchOf grid0 false cc0_transform_1 t = true ↔ t.val % 5 = 0)
/-- Window 2 (operand 3 (%arg3)) is fetched at the points ≡ 0 (mod 15), at any contents of the tables (its index map reads none). -/
theorem fetch0_2 (a : (pcfg0 (F := F)).Adm) : ∀ t : Fin (cfg0 a).N, ((cfg0 a).win 2).fetch t = true ↔ t.val % 15 = 0 :=
  (fun t => Pipeline.Window.fetchOf_reads cc0_transform_2 reads0_2 hreads0_2 1 (by decide) (by decide) (Pipeline.Window.sep_of_coord cc0_transform_2 1 1 (fun _ => rfl) (by decide)) (P := 15) (by decide) t : ∀ t : Fin grid0.N, Pipeline.Window.fetchOf grid0 false cc0_transform_2 t = true ↔ t.val % 15 = 0)
/-- Window 3 (operand 4 (%arg4)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 2 (by decide) (by decide) (Pipeline.Window.sep_of_coord cc0_transform_3 2 2 (fun _ => rfl) (by decide)) (P := 1) (by decide) t).mpr (Nat.mod_one _) : ∀ t : Fin grid0.N, Pipeline.Window.fetchOf grid0 false cc0_transform_3 t = true)
/-- Window 4 (operand 5 (%arg5)) is fetched at the points ≡ 0 (mod 15), at any contents of the tables (its index map reads none). -/
theorem fetch0_4 (a : (pcfg0 (F := F)).Adm) : ∀ t : Fin (cfg0 a).N, ((cfg0 a).win 4).fetch t = true ↔ t.val % 15 = 0 :=
  (fun t => Pipeline.Window.fetchOf_reads cc0_transform_4 reads0_4 hreads0_4 1 (by decide) (by decide) (Pipeline.Window.sep_of_coord cc0_transform_4 1 1 (fun _ => rfl) (by decide)) (P := 15) (by decide) t : ∀ t : Fin grid0.N, Pipeline.Window.fetchOf grid0 false cc0_transform_4 t = true ↔ t.val % 15 = 0)
/-- Window 5 (operand 6 (%arg6)) is fetched at the points ≡ 0 (mod 15), at any contents of the tables (its index map reads none). -/
theorem fetch0_5 (a : (pcfg0 (F := F)).Adm) : ∀ t : Fin (cfg0 a).N, ((cfg0 a).win 5).fetch t = true ↔ t.val % 15 = 0 :=
  (fun t => Pipeline.Window.fetchOf_reads cc0_transform_5 reads0_5 hreads0_5 1 (by decide) (by decide) (Pipeline.Window.sep_of_coord cc0_transform_5 1 1 (fun _ => rfl) (by decide)) (P := 15) (by decide) t : ∀ t : Fin grid0.N, Pipeline.Window.fetchOf grid0 false cc0_transform_5 t = true ↔ t.val % 15 = 0)
/-- Window 6 (operand 7 (%arg7)) is fetched at every point, at any contents of the tables (its index map reads none). -/
theorem fetch0_6 (a : (pcfg0 (F := F)).Adm) : ∀ t : Fin (cfg0 a).N, ((cfg0 a).win 6).fetch t = true :=
  (fun t => (Pipeline.Window.fetchOf_reads cc0_transform_6 reads0_6 hreads0_6 2 (by decide) (by decide) (Pipeline.Window.sep_of_coord cc0_transform_6 2 3 (fun _ => rfl) (by decide)) (P := 1) (by decide) t).mpr (Nat.mod_one _) : ∀ t : Fin grid0.N, Pipeline.Window.fetchOf grid0 false cc0_transform_6 t = true)
/-- Window 7 (result 0 (%0#0)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 2 (by decide) (by decide) (Pipeline.Window.sep_of_coord cc0_transform_7 2 2 (fun _ => rfl) (by decide)) (P := 1) (m := 0) (by decide) rfl t).mpr (Nat.mod_one _) : ∀ t : Fin grid0.N, Pipeline.Window.flushOf grid0 true cc0_transform_7 t = true)
/-- Window 8 (result 1 (%0#1)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 2 (by decide) (by decide) (Pipeline.Window.sep_of_coord cc0_transform_8 2 2 (fun _ => rfl) (by decide)) (P := 1) (m := 0) (by decide) rfl t).mpr (Nat.mod_one _) : ∀ t : Fin grid0.N, Pipeline.Window.flushOf grid0 true cc0_transform_8 t = true)
/-- Window 9 (result 2 (%0#2)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 2 (by decide) (by decide) (Pipeline.Window.sep_of_coord cc0_transform_9 2 3 (fun _ => rfl) (by decide)) (P := 1) (m := 0) (by decide) rfl t).mpr (Nat.mod_one _) : ∀ t : Fin grid0.N, Pipeline.Window.flushOf grid0 true cc0_transform_9 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attention (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _)

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table).  -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_AttentionIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 4).trans (((dats 0 c).arrAt_in 4 rfl _).trans ((hA c 4).trans (V_main_arg5 m c))),
      ((h c).1 5).trans (((dats 0 c).arrAt_in 5 rfl _).trans ((hA c 5).trans (V_main_arg6 m c))),
      ((h c).1 6).trans (((dats 0 c).arrAt_in 6 rfl _).trans ((hA c 6).trans (V_main_arg7 m c)))⟩) h

end Cert.AttentionIdeal.Gen

end
-- ==== Proof.AttentionIdealBody.lean ====
/- The body of `AttentionIdeal`'s region at any grid point, its outputs forgotten: on staged inputs it runs through, leaves the inputs
   as they were, and hands back the three output blocks and the scratch at some contents. -/
module

public import proofs.«01_k».proof.Proof.AttentionIdealKit

@[expose] public section

set_option maxRecDepth 16384

noncomputable section

namespace Cert.AttentionIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- The kernel body on whole staging memrefs, the inputs' at read contents, outputs and scratch at anything, under the side
    condition of every word of the table: it runs to the continuation holding the inputs as they were. -/
theorem sound_kernel (c : Dev nD) (E : Set ℕ) (i : grid0.Coords) (arg3 : Memref sig .tc .smem S2 .i32) (harg3 : arg3.IsWhole) (arg4 : Memref sig .tc .vmem S1x1x7680x128 .bf16) (harg4 : arg4.IsWhole) (arg5 : Memref sig .tc .vmem S1x1x1x7680x128 .bf16) (harg5 : arg5.IsWhole) (arg6 : Memref sig .tc .vmem S1x1x960x128 .f32) (harg6 : arg6.IsWhole) (arg7 : Memref sig .tc .vmem S1x1x512x256 .bf16) (harg7 : arg7.IsWhole) (arg8 : Memref sig .tc .vmem S1x64x7680 .fp8e4m3) (harg8 : arg8.IsWhole) (arg9 : Memref sig .tc .vmem S1x1x64x1 .f32) (harg9 : arg9.IsWhole) (arg10 : Memref sig .tc .vmem S1x1x1x512 .f32) (harg10 : arg10.IsWhole) (arg11 : Memref sig .tc .vmem S1x1x512x64 .bf16) (harg11 : arg11.IsWhole) (arg12 : Memref sig .tc .vmem S1x1x512x64 .f32) (harg12 : arg12.IsWhole) (arg13 : Memref sig .tc .vmem S1x1x1x512 .f32) (harg13 : arg13.IsWhole) (arg14 : Memref sig .tc .vmem S7680x512 .f32) (harg14 : arg14.IsWhole)
    (f3 : TbBuf0 (F := F) c arg3) (x0 : Vec F S1x1x7680x128 .bf16) (x1 : Vec F S1x1x1x7680x128 .bf16) (x2 : Vec F S1x1x960x128 .f32) (x3 : Vec F S1x1x512x256 .bf16) (x4 : Vec F S1x64x7680 .fp8e4m3) (x5 : Vec F S1x1x64x1 .f32) (x6 : Vec F S1x1x1x512 .f32)
    (hchk : ∀ j, k0_chk1 (arg3.view.read (Elt F) f3 j)) (K : PUnit → sProp (MT nD τ sig Unit (Elt F) ℕ (UR sig nD τ) ℕ)) :
    iprop(tbPt0 c arg3 f3 ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(tbPt0 c arg3 f3 ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14) K := by
  simp only [cc0_attention_eq_skeleton]; unfold cc0_attention_skel
  simp only [k0_part51_eq_skeleton]
  unfold owns
  iintro ⟨HT, ⟨%f0, %hf0, H0⟩, ⟨%f1, %hf1, H1⟩, ⟨%f2, %hf2, H2⟩, ⟨%f3', %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec (disch := first | exact hchk _)
  sl_step
  iapply Hk
  isplitl [HT]; · iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3'; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

end Cert.AttentionIdeal.Gen

end
-- ==== Proof.AttentionIdealFrame.lean ====
/- The frame of `AttentionIdeal`: from any memory whose table of chunk counts passes the body's side condition, the program ends, nothing
   faults, and its argument arrays are unchanged. The outputs' contents are not named here. -/
module

public import proofs.«01_k».proof.Proof.AttentionIdealBody

@[expose] public section

set_option maxRecDepth 16384

noncomputable section

namespace Cert.AttentionIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The class invariant with the scratch as a memref owned at some contents. -/
theorem PhiA0_eq (c : Dev nD) :
    (Pipeline.ΦA spec0 c : sProp (MT nD τ sig Unit (Elt F) ℕ (UR sig nD τ) ℕ))
      = iprop((∃ d, owns (c : Thread nD τ) (Memref.whole cc0_scratch0) fullShare d) ∗ (∃ r, prngReg c r)) := by
  unfold Pipeline.ΦA; rw [scopedRest0_eq]; simp only [owns_whole]; try rfl

/-- The words of the table all pass the side condition the body assumes of the word it reads. -/
abbrev TblOk : Prop := ∀ j, k0_chk1 (tbM0_0.view.read (Elt F) (tbl m 0) j)

/-- The output windows: nothing of what is left there is named. -/
def forgets0 : Fin 10 → Bool := fun w => w.val == 7 || w.val == 8 || w.val == 9

/-- The pipeline's proof data: the arrays as launched, every input's buffer left at its block, the outputs unnamed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := cfgM m hO) ⟨7, h⟩ t
    | ⟨8, h⟩ => Pipeline.Dat.unnamed (cfg := cfgM m hO) ⟨8, h⟩ t
    | ⟨9, h⟩ => Pipeline.Dat.unnamed (cfg := cfgM m hO) ⟨9, h⟩ t
    | ⟨_ + 10, h⟩ => absurd h (Nat.not_lt.2 (Nat.le_add_left _ _))
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-- Window 0's current staging memref at point `t`, and that it is a whole array. -/
abbrev ms0_0 (hO : Ok m) (t : Fin (cfgM m hO).N) : Memref sig .tc .vmem S1x1x7680x128 .bf16 := spec0_0.stage ((cfgM m hO).slots t 0)
abbrev hs0_0 (hO : Ok m) (t : Fin (cfgM m hO).N) : (ms0_0 m hO t).IsWhole := hstage0_0 (((cfgM m hO).slots t 0).cast nbuf0_0)
/-- Window 1's current staging memref at point `t`, and that it is a whole array. -/
abbrev ms0_1 (hO : Ok m) (t : Fin (cfgM m hO).N) : Memref sig .tc .vmem S1x1x1x7680x128 .bf16 := spec0_1.stage ((cfgM m hO).slots t 1)
abbrev hs0_1 (hO : Ok m) (t : Fin (cfgM m hO).N) : (ms0_1 m hO t).IsWhole := hstage0_1 (((cfgM m hO).slots t 1).cast nbuf0_1)
/-- Window 2's current staging memref at point `t`, and that it is a whole array. -/
abbrev ms0_2 (hO : Ok m) (t : Fin (cfgM m hO).N) : Memref sig .tc .vmem S1x1x960x128 .f32 := spec0_2.stage ((cfgM m hO).slots t 2)
abbrev hs0_2 (hO : Ok m) (t : Fin (cfgM m hO).N) : (ms0_2 m hO t).IsWhole := hstage0_2 (((cfgM m hO).slots t 2).cast nbuf0_2)
/-- Window 3's current staging memref at point `t`, and that it is a whole array. -/
abbrev ms0_3 (hO : Ok m) (t : Fin (cfgM m hO).N) : Memref sig .tc .vmem S1x1x512x256 .bf16 := spec0_3.stage ((cfgM m hO).slots t 3)
abbrev hs0_3 (hO : Ok m) (t : Fin (cfgM m hO).N) : (ms0_3 m hO t).IsWhole := hstage0_3 (((cfgM m hO).slots t 3).cast nbuf0_3)
/-- Window 4's current staging memref at point `t`, and that it is a whole array. -/
abbrev ms0_4 (hO : Ok m) (t : Fin (cfgM m hO).N) : Memref sig .tc .vmem S1x64x7680 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
/-- Window 5's current staging memref at point `t`, and that it is a whole array. -/
abbrev ms0_5 (hO : Ok m) (t : Fin (cfgM m hO).N) : Memref sig .tc .vmem S1x1x64x1 .f32 := spec0_5.stage ((cfgM m hO).slots t 5)
abbrev hs0_5 (hO : Ok m) (t : Fin (cfgM m hO).N) : (ms0_5 m hO t).IsWhole := hstage0_5 (((cfgM m hO).slots t 5).cast nbuf0_5)
/-- Window 6's current staging memref at point `t`, and that it is a whole array. -/
abbrev ms0_6 (hO : Ok m) (t : Fin (cfgM m hO).N) : Memref sig .tc .vmem S1x1x1x512 .f32 := spec0_6.stage ((cfgM m hO).slots t 6)
abbrev hs0_6 (hO : Ok m) (t : Fin (cfgM m hO).N) : (ms0_6 m hO t).IsWhole := hstage0_6 (((cfgM m hO).slots t 6).cast nbuf0_6)
/-- Window 7's current staging memref at point `t`, and that it is a whole array. -/
abbrev ms0_7 (hO : Ok m) (t : Fin (cfgM m hO).N) : Memref sig .tc .vmem S1x1x512x64 .bf16 := spec0_7.stage ((cfgM m hO).slots t 7)
abbrev hs0_7 (hO : Ok m) (t : Fin (cfgM m hO).N) : (ms0_7 m hO t).IsWhole := hstage0_7 (((cfgM m hO).slots t 7).cast nbuf0_7)
/-- Window 8's current staging memref at point `t`, and that it is a whole array. -/
abbrev ms0_8 (hO : Ok m) (t : Fin (cfgM m hO).N) : Memref sig .tc .vmem S1x1x512x64 .f32 := spec0_8.stage ((cfgM m hO).slots t 8)
abbrev hs0_8 (hO : Ok m) (t : Fin (cfgM m hO).N) : (ms0_8 m hO t).IsWhole := hstage0_8 (((cfgM m hO).slots t 8).cast nbuf0_8)
/-- Window 9's current staging memref at point `t`, and that it is a whole array. -/
abbrev ms0_9 (hO : Ok m) (t : Fin (cfgM m hO).N) : Memref sig .tc .vmem S1x1x1x512 .f32 := spec0_9.stage ((cfgM m hO).slots t 9)
abbrev hs0_9 (hO : Ok m) (t : Fin (cfgM m hO).N) : (ms0_9 m hO t).IsWhole := hstage0_9 (((cfgM m hO).slots t 9).cast nbuf0_9)

/-- What the body is called with at point `t`, the windows one by one. -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

/-- What the body returns at point `t`. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

set_option maxHeartbeats 1000000 in
/-- The body at any point: the inputs' memrefs hold their blocks, so `sound_kernel` applies. -/
theorem sound_body (hO : Ok m) (hT : TblOk m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    show (dats m hO 0 c).Φ t.castSucc = iprop(Pipeline.ΦA spec0 c ∗ Pipeline.ΦT pre0 (tbl m) c) from rfl, PhiA0_eq, PhiT0_eq,
    after0_0, after0_1, after0_2, after0_3, after0_4, after0_5, after0_6]
  iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, H7, H8, H9⟩
  iapply (sound_kernel c Set.univ (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (Memref.whole cc0_scratch0) (Memref.isWhole_whole _) (tbl m 0) (iblk m hO c 0 t) (iblk m hO c 1 t) (iblk m hO c 2 t) (iblk m hO c 3 t) (iblk m hO c 4 t) (iblk m hO c 5 t) (iblk m hO c 6 t) hT _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  iintro ⟨HT, H0, H1, H2, H3, H4, H5, H6, H7, H8, H9, HS⟩
  isplitl [HS Hg HT]
  · isplitl [HS Hg]
    · isplitl [HS]; · iexact HS
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (hT : TblOk m) (c : Dev nD) : BodyObligation (dats (F := F) m hO 0 c) (defs₀ (F := F)) Variants.none () Set.univ forgets0 := fun t => by
  rw [bigSep_W0, bigSep_W0, defs₀_row]
  exact triple_restated (sound_body m hO hT c t) rfl .rfl fun _ => .rfl

set_option backward.isDefEq.respectTransparency.types false in
set_option maxHeartbeats 800000 in
/-- The launch: every input array of the pipeline unchanged, and every semaphore counter at zero. -/
theorem run_main_quiescent (hO : Ok m) (hT : TblOk m) : θ_run defs (onTc (τ := τ) (main (F := F))) (s₀ m ρ) (fun r => (Pipeline.RDat.FramePost (cfgM m hO) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO hT c).loose) (hshare := fun c => (dats m hO 0 c).share_full fun _ => rfl)
    (howed := fun _ _ => rfl) (V := V m) (hmain := hmain m Variants.none) (hA := A_eq m hO) (hpf := V_pre m) (hΦ := fun _ _ => rfl)

/-- The frame: the argument arrays end unchanged and every counter is zero. -/
theorem frame (hO : Ok m) (hT : TblOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r hr => ⟨fun c =>
    have h := hr.1
    have hA := A_eq m hO
    ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c)),
      (Pipeline.RDat.FramePost.arr_in h c 6 rfl).trans ((hA c 6).trans (V_main_arg7 m c))⟩, hr.2⟩) (run_main_quiescent m ρ hO hT)

end Cert.AttentionIdeal.Gen

end
-- ==== Proof.AttentionIdealChk.lean ====
/- The body's side condition of a table word, at every word up to the five chunks there are: at a word from 0 to 5 it is computed, at
   a negative one no loop makes a trip. -/
module

public import proofs.«01_k».proof.AttentionIdeal
public import proofs.«01_k».proof.Proof.Gen.AttentionIdeal

@[expose] public section

set_option maxRecDepth 16384

namespace Cert.AttentionIdeal.Gen

open Idealize.ShloMosaic Idealize.ShloMosaic.TcCoe

/-- A signed quotient by one is the dividend. -/
theorem divsi_one (v : BitVec 32) : Scalar.divsi v 1#32 = v := by
  have h : ¬ IntOp.SDivCorner v 1#32 := by
    rintro (h | ⟨-, h⟩) <;> exact absurd h (by decide)
  unfold Scalar.divsi IntOp.divsi
  rw [if_neg h, BitVec.sdiv_one]

/-- The two loops over whole unrolled groups run from 0 to the word. -/
theorem loop_whole (v : BitVec 32) : k0_t1_loop v = ⟨0#32, v, 1#32⟩ := by
  simp only [k0_t1_loop, Scalar.subi, Scalar.muli, Scalar.addi, IntOp.subi, IntOp.muli, IntOp.addi, BitVec.sub_zero, BitVec.mul_one,
    BitVec.zero_add, divsi_one]

/-- The two loops over what the groups leave start where they end. -/
theorem loop_rest (v : BitVec 32) : k0_t2_loop v = ⟨v, v, 1#32⟩ := by
  simp only [k0_t2_loop, Scalar.subi, Scalar.muli, Scalar.addi, IntOp.subi, IntOp.muli, IntOp.addi, BitVec.sub_zero, BitVec.mul_one,
    BitVec.zero_add, divsi_one]

theorem loop3_eq (v : BitVec 32) : k0_t3_loop v = ⟨0#32, v, 1#32⟩ := loop_whole v
theorem loop4_eq (v : BitVec 32) : k0_t4_loop v = ⟨v, v, 1#32⟩ := loop_rest v

/-- The trips of a loop from 0 to `v` by 1. -/
theorem trips_whole (v : BitVec 32) : (k0_t1_loop v).trips = v.toInt.toNat := by
  rw [loop_whole]; unfold Scf.Loop.trips Scf.trips
  have h1 : (1#32).toInt = 1 := by decide
  have h0 : (0#32).toInt = 0 := by decide
  simp only [h1, h0]; omega

/-- A loop from `v` to `v` makes no trip. -/
theorem trips_rest (v : BitVec 32) : (k0_t2_loop v).trips = 0 := by
  rw [loop_rest]; unfold Scf.Loop.trips Scf.trips
  have h1 : (1#32).toInt = 1 := by decide
  simp only [h1]; omega

/-- Both pairs of loops mean something at any word: the step is 1 and the bounds are words. -/
theorem ok_whole (v : BitVec 32) : (k0_t1_loop v).OK := by
  have ht := trips_whole v
  rw [loop_whole] at ht ⊢
  unfold Scf.Loop.trips at ht
  unfold Scf.Loop.OK Scf.OK
  simp only at ht ⊢
  have h1 : (1#32).toInt = 1 := by decide
  have h0 : (0#32).toInt = 0 := by decide
  have hb := BitVec.toInt_lt (x := v)
  rw [ht, h1, h0]; constructor <;> omega

theorem ok_rest (v : BitVec 32) : (k0_t2_loop v).OK := by
  have ht := trips_rest v
  rw [loop_rest] at ht ⊢
  unfold Scf.Loop.trips at ht
  unfold Scf.Loop.OK Scf.OK
  simp only at ht ⊢
  have h1 : (1#32).toInt = 1 := by decide
  have hb := BitVec.toInt_lt (x := v)
  rw [ht, h1]; constructor <;> omega

set_option maxHeartbeats 4000000 in
/-- At a word that lets no loop make a trip, every conjunct about a trip is about none. -/
theorem chk_none (v : BitVec 32) (h : v.toInt ≤ 0) : k0_chk1 v := by
  have h1 : (k0_t1_loop v).trips = 0 := by rw [trips_whole]; omega
  have h2 : (k0_t2_loop v).trips = 0 := trips_rest v
  have h3 : (k0_t3_loop v).trips = 0 := h1
  have h4 : (k0_t4_loop v).trips = 0 := h2
  have n1 : Fin (k0_t1_loop v).trips → False := fun k => by have := k.2; omega
  have n2 : Fin (k0_t2_loop v).trips → False := fun k => by have := k.2; omega
  have n3 : Fin (k0_t3_loop v).trips → False := fun k => by have := k.2; omega
  have n4 : Fin (k0_t4_loop v).trips → False := fun k => by have := k.2; omega
  unfold k0_chk1 k0_chk1_0 k0_chk1_1 k0_chk1_2 k0_chk1_3 k0_chk1_4 k0_chk1_5
  have o1 : (k0_t1_loop v).OK := ok_whole v
  have o2 : (k0_t2_loop v).OK := ok_rest v
  have o3 : (k0_t3_loop v).OK := ok_whole v
  have o4 : (k0_t4_loop v).OK := ok_rest v
  repeat' first
    | with_reducible exact o1
    | with_reducible exact o2
    | with_reducible exact o3
    | with_reducible exact o4
    | with_reducible exact fun k => (n1 k).elim
    | with_reducible exact fun k => (n2 k).elim
    | with_reducible exact fun k => (n3 k).elim
    | with_reducible exact fun k => (n4 k).elim
    | with_reducible apply And.intro

set_option maxHeartbeats 4000000 in
theorem chk_1 : k0_chk1 1#32 := by decide +kernel
theorem chk_2 : k0_chk1 2#32 := by decide +kernel
theorem chk_3 : k0_chk1 3#32 := by decide +kernel
theorem chk_4 : k0_chk1 4#32 := by decide +kernel
theorem chk_5 : k0_chk1 5#32 := by decide +kernel

/-- The side condition at every word up to 5, read signed. -/
theorem chk_of_le (v : BitVec 32) (h : v.toInt ≤ 5) : k0_chk1 v := by
  by_cases h0 : v.toInt ≤ 0
  · exact chk_none v h0
  have e : v = BitVec.ofInt 32 v.toInt := (BitVec.ofInt_toInt).symm
  have : v.toInt = 1 ∨ v.toInt = 2 ∨ v.toInt = 3 ∨ v.toInt = 4 ∨ v.toInt = 5 := by omega
  rcases this with h | h | h | h | h <;> rw [h] at e <;> subst e
  · exact chk_1
  · exact chk_2
  · exact chk_3
  · exact chk_4
  · exact chk_5

end Cert.AttentionIdeal.Gen

end
-- ==== Proof.AttentionChk.lean ====
/- The body's side condition of a table word for `Attention`: the two programs state the same one. -/
module

public import proofs.«01_k».proof.Attention
public import proofs.«01_k».proof.Proof.Gen.Attention
public import proofs.«01_k».proof.Proof.AttentionIdealChk

@[expose] public section

set_option maxRecDepth 16384

namespace Cert.Attention.Gen

open Idealize.ShloMosaic Idealize.ShloMosaic.TcCoe

set_option maxHeartbeats 4000000 in
/-- The side condition at every word up to 5, read signed. -/
theorem chk_of_le (v : BitVec 32) (h : v.toInt ≤ 5) : k0_chk1 v := Cert.AttentionIdeal.Gen.chk_of_le v h

end Cert.Attention.Gen

end
-- ==== Proof.AttentionIdealStrips.lean ====
/- What one trip of each of the attention kernel's two loops over key chunks computes, written once for every strip of rows: the
   printed body repeats the same few lines for each strip, cut into parts at arbitrary places. -/
module

public import proofs.«01_k».proof.Proof.AttentionIdealKit

@[expose] public section

set_option maxRecDepth 16384
noncomputable section

namespace Cert.AttentionIdeal.Gen

open Idealize.ShloMosaic Idealize.ShloMosaic.TcCoe Idealize.ShloMosaic.Tactic
open Idealize.SL Idealize.SL.RA Idealize.SL.BI

variable {F : FTy → Type} [FloatOps F]

/-- Eight rows of the broadcast scales beside each other: one strip's multiplier. -/
def scaleV (W : FVec F S192x128 .f32) (o : Fin 2 → ℕ) (h : S192x128.Slices o S8x128) : FVec F S8x512 .f32 :=
  concatenate S8x512 1 [⟨S8x128, extractStridedSlice S8x128 o W h⟩, ⟨S8x128, extractStridedSlice S8x128 o W h⟩, ⟨S8x128, extractStridedSlice S8x128 o W h⟩, ⟨S8x128, extractStridedSlice S8x128 o W h⟩] concatenates_S8x128_S8x128_S8x128_S8x128_S8x512_d1

/-- The scores of one strip of 64 keys, eight by eight. -/
def prodV (Y : FVec F S1536x512 .f32) (W : FVec F S192x128 .f32) (o8 o64 : Fin 2 → ℕ) (h8 : S192x128.Slices o8 S8x128) (h64 : S1536x512.Slices o64 S64x512) : FVec F S8x8x512 .f32 :=
  mulf (shapeCast S8x8x512 (extractStridedSlice S64x512 o64 Y h64) shapeCasts_S64x512_S8x8x512)
    (broadcastTo S8x8x512 (shapeCast S1x8x512 (scaleV W o8 h8) shapeCasts_S8x512_S1x8x512) broadcasts_S1x8x512_S8x8x512)

/-- What the strip stores in the scratch. -/
def storeV (Y : FVec F S1536x512 .f32) (W : FVec F S192x128 .f32) (o8 o64 : Fin 2 → ℕ) (h8 : S192x128.Slices o8 S8x128) (h64 : S1536x512.Slices o64 S64x512) : FVec F S64x512 .f32 :=
  shapeCast S64x512 (shapeCast S64x512 (prodV Y W o8 o64 h8 h64) shapeCasts_S8x8x512_S64x512) shapeCasts_S64x512_S64x512

/-- The strip's maximum over groups of eight rows. -/
def topV (Y : FVec F S1536x512 .f32) (W : FVec F S192x128 .f32) (o8 o64 : Fin 2 → ℕ) (h8 : S192x128.Slices o8 S8x128) (h64 : S1536x512.Slices o64 S64x512) : FVec F S8x512 .f32 :=
  multiReduction .maximumf [0] S8x512 (prodV Y W o8 o64 h8 h64) 0xFF800000#32 reduces_S8x8x512_S8x512 (.inl rfl) rfl

theorem slices8 : ∀ r : Fin 24, S192x128.Slices ![8 * r.val, 0] S8x128 := by decide
theorem slices64 : ∀ r : Fin 24, S1536x512.Slices ![64 * r.val, 0] S64x512 := by decide

/-- The strips of a chunk, first to last. -/
abbrev strips24 : List (Fin 24) := [0, 1, 2, 3, 4, 5, 6, 7, 8, 9, 10, 11, 12, 13, 14, 15, 16, 17, 18, 19, 20, 21, 22, 23]

/-- A trip of the first loop carries on the maximum over its 24 strips. -/
theorem tripR1_eq (𝒱 : Variants) (c : Dev nD) (bd : Option 𝒱.V) (i : grid0.Coords) (arg3 : Memref sig .tc .smem S2 .i32) (harg3 : arg3.IsWhole) (arg4 : Memref sig .tc .vmem S1x1x7680x128 .bf16) (harg4 : arg4.IsWhole) (arg5 : Memref sig .tc .vmem S1x1x1x7680x128 .bf16) (harg5 : arg5.IsWhole) (arg6 : Memref sig .tc .vmem S1x1x960x128 .f32) (harg6 : arg6.IsWhole) (arg7 : Memref sig .tc .vmem S1x1x512x256 .bf16) (harg7 : arg7.IsWhole) (arg8 : Memref sig .tc .vmem S1x64x7680 .fp8e4m3) (harg8 : arg8.IsWhole) (arg9 : Memref sig .tc .vmem S1x1x64x1 .f32) (harg9 : arg9.IsWhole) (arg10 : Memref sig .tc .vmem S1x1x1x512 .f32) (harg10 : arg10.IsWhole) (arg11 : Memref sig .tc .vmem S1x1x512x64 .bf16) (harg11 : arg11.IsWhole) (arg12 : Memref sig .tc .vmem S1x1x512x64 .f32) (harg12 : arg12.IsWhole) (arg13 : Memref sig .tc .vmem S1x1x1x512 .f32) (harg13 : arg13.IsWhole) (arg14 : Memref sig .tc .vmem S7680x512 .f32) (harg14 : arg14.IsWhole) (v1 : Elt F .i32) (hw : k0_chk1 v1) (X4 : BufTy.Contents (Elt F) arg4.view.ty) (X5 : BufTy.Contents (Elt F) arg5.view.ty) (X6 : BufTy.Contents (Elt F) arg6.view.ty) (X7 : BufTy.Contents (Elt F) arg7.view.ty) (k : Fin (k0_t1_loop v1).trips) (acc : FVec F S8x512 .f32) :
    tripR_k0_t1 𝒱 c bd i arg3 harg3 arg4 harg4 arg5 harg5 arg6 harg6 arg7 harg7 arg8 harg8 arg9 harg9 arg10 harg10 arg11 harg11 arg12 harg12 arg13 harg13 arg14 harg14 v1 hw X4 X5 X6 X7 k acc
      = strips24.foldl (fun m r => maximumf m (topV (trip_k0_t1.sl.r arg4 arg5 arg7 v1 hw X4 X5 X7 k) (trip_k0_t1.sl.r_1 arg6 v1 hw X6 k) ![8 * r.val, 0] ![64 * r.val, 0] (slices8 r) (slices64 r))) acc := by
  unfold tripR_k0_t1 trip_k0_t1
  rfl

/-- A trip of the first loop stores its 24 strips. -/
theorem tripL1_eq (𝒱 : Variants) (c : Dev nD) (bd : Option 𝒱.V) (i : grid0.Coords) (arg3 : Memref sig .tc .smem S2 .i32) (harg3 : arg3.IsWhole) (arg4 : Memref sig .tc .vmem S1x1x7680x128 .bf16) (harg4 : arg4.IsWhole) (arg5 : Memref sig .tc .vmem S1x1x1x7680x128 .bf16) (harg5 : arg5.IsWhole) (arg6 : Memref sig .tc .vmem S1x1x960x128 .f32) (harg6 : arg6.IsWhole) (arg7 : Memref sig .tc .vmem S1x1x512x256 .bf16) (harg7 : arg7.IsWhole) (arg8 : Memref sig .tc .vmem S1x64x7680 .fp8e4m3) (harg8 : arg8.IsWhole) (arg9 : Memref sig .tc .vmem S1x1x64x1 .f32) (harg9 : arg9.IsWhole) (arg10 : Memref sig .tc .vmem S1x1x1x512 .f32) (harg10 : arg10.IsWhole) (arg11 : Memref sig .tc .vmem S1x1x512x64 .bf16) (harg11 : arg11.IsWhole) (arg12 : Memref sig .tc .vmem S1x1x512x64 .f32) (harg12 : arg12.IsWhole) (arg13 : Memref sig .tc .vmem S1x1x1x512 .f32) (harg13 : arg13.IsWhole) (arg14 : Memref sig .tc .vmem S7680x512 .f32) (harg14 : arg14.IsWhole) (v1 : Elt F .i32) (hw : k0_chk1 v1) (X4 : BufTy.Contents (Elt F) arg4.view.ty) (X5 : BufTy.Contents (Elt F) arg5.view.ty) (X6 : BufTy.Contents (Elt F) arg6.view.ty) (X7 : BufTy.Contents (Elt F) arg7.view.ty) (k : Fin (k0_t1_loop v1).trips) (acc : FVec F S8x512 .f32)
    (hin : ∀ r : Fin 24, ∀ a, k0_off5 v1 k (BitVec.ofNat 32 (64 * r.val)) a + (![64, 512] : Fin 2 → ℕ) a ≤ S7680x512.size a) :
    tripL_k0_t1 𝒱 c bd i arg3 harg3 arg4 harg4 arg5 harg5 arg6 harg6 arg7 harg7 arg8 harg8 arg9 harg9 arg10 harg10 arg11 harg11 arg12 harg12 arg13 harg13 arg14 harg14 v1 hw X4 X5 X6 X7 k acc
      = strips24.reverse.map (fun r => ⟨Rect.unit (k0_off5 v1 k (BitVec.ofNat 32 (64 * r.val))) ![64, 512] (hin r), storeV (trip_k0_t1.sl.r arg4 arg5 arg7 v1 hw X4 X5 X7 k) (trip_k0_t1.sl.r_1 arg6 v1 hw X6 k) ![8 * r.val, 0] ![64 * r.val, 0] (slices8 r) (slices64 r)⟩) := by
  unfold tripL_k0_t1 trip_k0_t1
  rfl

/-- The weights of one strip of 32 keys. -/
def expV (M : FVec F S1x512 .f32) (X : Vec F S32x512 .f32) : FVec F S32x512 .f32 := exp2 (subf X (broadcastTo S32x512 M broadcasts_S1x512_S32x512))

/-- The strip's weights as codes. -/
def codeV (M : FVec F S1x512 .f32) (X : Vec F S32x512 .f32) : FVec F S32x512 .fp8e4m3 :=
  truncf .fp8e4m3 (minimumf (broadcast S32x512 (Scalar.ofBits .f32 0x43E00000#32)) (maximumf (broadcast S32x512 (Scalar.ofBits .f32 0xC3E00000#32)) (expV M X))) bitsLt_fp8e4m3_f32

/-- The strip's weights summed over groups of eight rows. -/
def sumV (M : FVec F S1x512 .f32) (X : Vec F S32x512 .f32) : FVec F S8x512 .f32 :=
  multiReduction .add [0] S8x512 (shapeCast S4x8x512 (expV M X) shapeCasts_S32x512_S4x8x512) 0x00000000#32 reduces_S4x8x512_S8x512 (.inl rfl) rfl

/-- A chunk's strips of 32 keys, first to last. -/
abbrev strips48 : List (Fin 48) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47]

/-- Strip `r` of the scratch as a trip of the second loop reads it. -/
abbrev readV (arg14 : Memref sig .tc .vmem S7680x512 .f32) (v1 : Elt F .i32) (k : Fin (k0_t3_loop v1).trips) (X14 : BufTy.Contents (Elt F) arg14.view.ty)
    (hin : ∀ r : Fin 48, ∀ a, k0_off10 v1 k (BitVec.ofNat 32 (32 * r.val)) a + S32x512.size a ≤ S7680x512.size a) (r : Fin 48) : Vec F S32x512 .f32 :=
  View.readAt (Elt F) arg14.view (Rect.unit (s := S7680x512) (k0_off10 v1 k (BitVec.ofNat 32 (32 * r.val))) S32x512.size (hin r)).toLoadRect X14

theorem concats48 : Shape.Concatenates (List.map Sigma.fst (List.ofFn fun r : Fin 48 => (⟨S32x512, fun _ => 0⟩ : (s : Shape) × (s.Idx → ℕ)))) S1536x512 0 := by decide

set_option maxHeartbeats 2000000 in
/-- A trip of the second loop adds the weights of its 48 strips to the carried sums. -/
theorem tripR3_fst (𝒱 : Variants) (c : Dev nD) (bd : Option 𝒱.V) (i : grid0.Coords) (arg3 : Memref sig .tc .smem S2 .i32) (harg3 : arg3.IsWhole) (arg4 : Memref sig .tc .vmem S1x1x7680x128 .bf16) (harg4 : arg4.IsWhole) (arg5 : Memref sig .tc .vmem S1x1x1x7680x128 .bf16) (harg5 : arg5.IsWhole) (arg6 : Memref sig .tc .vmem S1x1x960x128 .f32) (harg6 : arg6.IsWhole) (arg7 : Memref sig .tc .vmem S1x1x512x256 .bf16) (harg7 : arg7.IsWhole) (arg8 : Memref sig .tc .vmem S1x64x7680 .fp8e4m3) (harg8 : arg8.IsWhole) (arg9 : Memref sig .tc .vmem S1x1x64x1 .f32) (harg9 : arg9.IsWhole) (arg10 : Memref sig .tc .vmem S1x1x1x512 .f32) (harg10 : arg10.IsWhole) (arg11 : Memref sig .tc .vmem S1x1x512x64 .bf16) (harg11 : arg11.IsWhole) (arg12 : Memref sig .tc .vmem S1x1x512x64 .f32) (harg12 : arg12.IsWhole) (arg13 : Memref sig .tc .vmem S1x1x1x512 .f32) (harg13 : arg13.IsWhole) (arg14 : Memref sig .tc .vmem S7680x512 .f32) (harg14 : arg14.IsWhole) (v1 : Elt F .i32) (hw : k0_chk1 v1) (v9 : FVec F S8x512 .f32) (X8 : BufTy.Contents (Elt F) arg8.view.ty) (X14 : BufTy.Contents (Elt F) arg14.view.ty) (k : Fin (k0_t3_loop v1).trips) (acc : FVec F S8x512 .f32 × FVec F S64x512 .f32)
    (hin : ∀ r : Fin 48, ∀ a, k0_off10 v1 k (BitVec.ofNat 32 (32 * r.val)) a + S32x512.size a ≤ S7680x512.size a) :
    (tripR_k0_t3 𝒱 c bd i arg3 harg3 arg4 harg4 arg5 harg5 arg6 harg6 arg7 harg7 arg8 harg8 arg9 harg9 arg10 harg10 arg11 harg11 arg12 harg12 arg13 harg13 arg14 harg14 v1 hw v9 X8 X14 k acc).1
      = strips48.foldl (fun s r => addf s (sumV (k0_pay409 v9) (readV arg14 v1 k X14 hin r))) acc.1 := by
  unfold tripR_k0_t3 trip_k0_t3
  rfl

set_option maxHeartbeats 2000000 in
/-- A trip of the second loop adds the products of the values with its codes. -/
theorem tripR3_snd (𝒱 : Variants) (c : Dev nD) (bd : Option 𝒱.V) (i : grid0.Coords) (arg3 : Memref sig .tc .smem S2 .i32) (harg3 : arg3.IsWhole) (arg4 : Memref sig .tc .vmem S1x1x7680x128 .bf16) (harg4 : arg4.IsWhole) (arg5 : Memref sig .tc .vmem S1x1x1x7680x128 .bf16) (harg5 : arg5.IsWhole) (arg6 : Memref sig .tc .vmem S1x1x960x128 .f32) (harg6 : arg6.IsWhole) (arg7 : Memref sig .tc .vmem S1x1x512x256 .bf16) (harg7 : arg7.IsWhole) (arg8 : Memref sig .tc .vmem S1x64x7680 .fp8e4m3) (harg8 : arg8.IsWhole) (arg9 : Memref sig .tc .vmem S1x1x64x1 .f32) (harg9 : arg9.IsWhole) (arg10 : Memref sig .tc .vmem S1x1x1x512 .f32) (harg10 : arg10.IsWhole) (arg11 : Memref sig .tc .vmem S1x1x512x64 .bf16) (harg11 : arg11.IsWhole) (arg12 : Memref sig .tc .vmem S1x1x512x64 .f32) (harg12 : arg12.IsWhole) (arg13 : Memref sig .tc .vmem S1x1x1x512 .f32) (harg13 : arg13.IsWhole) (arg14 : Memref sig .tc .vmem S7680x512 .f32) (harg14 : arg14.IsWhole) (v1 : Elt F .i32) (hw : k0_chk1 v1) (v9 : FVec F S8x512 .f32) (X8 : BufTy.Contents (Elt F) arg8.view.ty) (X14 : BufTy.Contents (Elt F) arg14.view.ty) (k : Fin (k0_t3_loop v1).trips) (acc : FVec F S8x512 .f32 × FVec F S64x512 .f32)
    (hin : ∀ r : Fin 48, ∀ a, k0_off10 v1 k (BitVec.ofNat 32 (32 * r.val)) a + S32x512.size a ≤ S7680x512.size a)
    (hin8 : ∀ a, k0_off11 v1 k a + S1x64x1536.size a ≤ S1x64x7680.size a)
    (hc : Shape.Concatenates (List.map Sigma.fst (List.ofFn fun r : Fin 48 => (⟨S32x512, codeV (k0_pay409 v9) (readV arg14 v1 k X14 hin r)⟩ : (s : Shape) × Vec F s .fp8e4m3))) S1536x512 0) :
    (tripR_k0_t3 𝒱 c bd i arg3 harg3 arg4 harg4 arg5 harg5 arg6 harg6 arg7 harg7 arg8 harg8 arg9 harg9 arg10 harg10 arg11 harg11 arg12 harg12 arg13 harg13 arg14 harg14 v1 hw v9 X8 X14 k acc).2
      = k0_pay414 acc.2 (View.readAt (Elt F) arg8.view (Rect.unit (s := S1x64x7680) (k0_off11 v1 k) S1x64x1536.size hin8).toLoadRect X8)
          (concatenate S1536x512 0 (List.ofFn fun r : Fin 48 => ⟨S32x512, codeV (k0_pay409 v9) (readV arg14 v1 k X14 hin r)⟩) hc) := by
  unfold tripR_k0_t3 trip_k0_t3
  rfl

end Cert.AttentionIdeal.Gen

end
-- ==== Proof.AttentionIdealRead.lean ====
/- The pieces of the attention kernel's two loops read at an index, over the extended reals. -/
module

public import proofs.«01_k».proof.Proof.AttentionIdealStrips
public import proofs.«01_k».proof.Proof.AttentionIdealChk
public import Idealize.ShloMosaic.Lib.Pointwise

@[expose] public section

set_option maxRecDepth 16384
noncomputable section

namespace Cert.AttentionIdeal.Gen

open Idealize.ShloMosaic Idealize.ShloMosaic.TcCoe Idealize.ShloMosaic.Tactic
open Idealize.SL Idealize.SL.RA Idealize.SL.BI

theorem negInf : Ideal.ofBits .f32 0xFF800000#32 = (⊥ : EReal) := by
  simp [Ideal.ofBits, Ideal.ieee]

theorem scaleV_apply (W : FVec Ideal S192x128 .f32) (r : Fin 24) (a : Fin 8) (l : Fin 512) :
    scaleV W ![8 * r.val, 0] (slices8 r) (ix2 a l) = W (ix2 ⟨8 * r.val + a.val, by omega⟩ ⟨l.val % 128, by omega⟩) := by
  pointwise [scaleV]
  split_ifs <;> (congr 3; omega)

theorem storeV_apply (Y : FVec Ideal S1536x512 .f32) (W : FVec Ideal S192x128 .f32) (r : Fin 24) (a : Fin 64) (l : Fin 512) :
    storeV Y W ![8 * r.val, 0] ![64 * r.val, 0] (slices8 r) (slices64 r) (ix2 a l)
      = Y (ix2 ⟨64 * r.val + a.val, by omega⟩ l) * W (ix2 ⟨8 * r.val + a.val % 8, by omega⟩ ⟨l.val % 128, by omega⟩) := by
  pointwise [storeV, prodV, scaleV_apply]

theorem topV_apply (Y : FVec Ideal S1536x512 .f32) (W : FVec Ideal S192x128 .f32) (r : Fin 24) (j : Fin 8) (l : Fin 512) :
    topV Y W ![8 * r.val, 0] ![64 * r.val, 0] (slices8 r) (slices64 r) (ix2 j l)
      = Finset.univ.fold max ⊥ (fun g : Fin 8 => Y (ix2 ⟨64 * r.val + (g.val * 8 + j.val), by omega⟩ l) * W (ix2 ⟨8 * r.val + j.val, by omega⟩ ⟨l.val % 128, by omega⟩)) := by
  pointwise [topV, prodV, scaleV_apply]
  rw [negInf]

/-- A weight: two to the score less the row's maximum. -/
abbrev wgt (x m : EReal) : EReal := FloatOps.exp2 (F := Ideal) (φ := .f32) (x - m)

/-- A weight's code: the weight cut to the format's range. -/
abbrev cut (w : EReal) : EReal := min (Ideal.ofBits .f32 0x43E00000#32) (max (Ideal.ofBits .f32 0xC3E00000#32) w)

theorem expV_apply (M : FVec Ideal S1x512 .f32) (X : Vec Ideal S32x512 .f32) (a : Fin 32) (l : Fin 512) :
    expV M X (ix2 a l) = wgt (X (ix2 a l)) (M (ix2 0 l)) := by
  pointwise [expV]

theorem sumV_apply (M : FVec Ideal S1x512 .f32) (X : Vec Ideal S32x512 .f32) (j : Fin 8) (l : Fin 512) :
    sumV M X (ix2 j l) = ∑ g : Fin 4, wgt (X (ix2 ⟨g.val * 8 + j.val, by omega⟩ l)) (M (ix2 0 l)) := by
  pointwise [sumV]
  simp only [expV_apply]

theorem codeV_apply (M : FVec Ideal S1x512 .f32) (X : Vec Ideal S32x512 .f32) (a : Fin 32) (l : Fin 512) :
    codeV M X (ix2 a l) = cut (wgt (X (ix2 a l)) (M (ix2 0 l))) := by
  pointwise [codeV]
  rw [expV_apply]

theorem pay4_apply (a : Vec Ideal S1x1x1536x128 .bf16) (b : Vec Ideal S1x1x1x1536x128 .bf16) (q : Vec Ideal S1x1x512x256 .bf16) (k : Fin 1536) (l : Fin 512) :
    k0_pay4 a b q (ix2 k l) = (∑ x : Fin 128, a (ix4 0 0 k x) * q (ix4 0 0 l ⟨x.val, by omega⟩) + ∑ x : Fin 128, b (ix5 0 0 0 k x) * q (ix4 0 0 l ⟨128 + x.val, by omega⟩) : EReal) := by
  pointwise [k0_pay4]

theorem pay5_apply (a : Vec Ideal S1x1x192x128 .f32) (k : Fin 192) (l : Fin 128) : k0_pay5 a (ix2 k l) = a (ix4 0 0 k l) := by
  pointwise [k0_pay5]

theorem pay414_apply (acc : FVec Ideal S64x512 .f32) (a : Vec Ideal S1x64x1536 .fp8e4m3) (b : FVec Ideal S1536x512 .fp8e4m3) (k : Fin 64) (l : Fin 512) :
    k0_pay414 acc a b (ix2 k l) = (acc (ix2 k l) + ∑ x : Fin 1536, a (ix3 0 k x) * b (ix2 x l) : EReal) := by
  pointwise [k0_pay414]

theorem pay406_apply (j : Fin 8) (l : Fin 512) : k0_pay406 (F := Ideal) (ix2 j l) = (⊥ : EReal) := by
  pointwise [k0_pay406]
  exact negInf

theorem pay410_apply (j : Fin 8) (l : Fin 512) : k0_pay410 (F := Ideal) (ix2 j l) = (0 : EReal) := by
  pointwise [k0_pay410]

theorem pay411_apply (j : Fin 64) (l : Fin 512) : k0_pay411 (F := Ideal) (ix2 j l) = (0 : EReal) := by
  pointwise [k0_pay411]

theorem pay409_apply (v : FVec Ideal S8x512 .f32) (l : Fin 512) :
    k0_pay409 v (ix2 0 l) = (FloatOps.ceil (F := Ideal) (φ := .f32) (Finset.univ.fold max ⊥ (fun j : Fin 8 => (v (ix2 j l) : EReal))) - Ideal.ofBits .f32 0x410CEAED#32 : EReal) := by
  pointwise [k0_pay409]
  rw [negInf]

theorem pay418_apply (v : FVec Ideal S8x512 .f32) (l : Fin 512) : k0_pay418 v (ix2 0 l) = (∑ j : Fin 8, v (ix2 j l) : EReal) := by
  pointwise [k0_pay418]

theorem pay419_apply (d : FVec Ideal S8x512 .f32) (a : FVec Ideal S64x512 .f32) (s : Vec Ideal S1x1x64x1 .f32) (l : Fin 512) (c : Fin 64) :
    k0_pay419 d a s (ix2 l c) = Ideal.div (a (ix2 c l) * s (ix4 0 0 c 0)) (k0_pay418 d (ix2 0 l)) := by
  pointwise [k0_pay419]

theorem pay1_apply (v : FVec Ideal S512x64 .f32) (a : Fin 512) (c : Fin 64) : k0_pay1 v (ix4 0 0 a c) = v (ix2 a c) := by
  pointwise [k0_pay1]

theorem pay2_apply (v : FVec Ideal S512x64 .f32) (a : Fin 512) (c : Fin 64) : k0_pay2 v (ix4 0 0 a c) = v (ix2 a c) := by
  pointwise [k0_pay2]

theorem pay3_apply (m d : FVec Ideal S1x512 .f32) (k : Vec Ideal S1x1x1x512 .f32) (l : Fin 512) :
    k0_pay3 m d k (ix4 0 0 0 l)
      = (Ideal.ofBits .f32 0x3F317218#32 * (m (ix2 0 l) + Ideal.div (Ideal.log (d (ix2 0 l))) (Ideal.log (Ideal.ofBits .f32 0x40000000#32)))
          + Ideal.ofBits .f32 0x3E000000#32 * k (ix4 0 0 0 l) - Ideal.ofBits .f32 0x410F245A#32 : EReal) := by
  pointwise [k0_pay3]

/-- The words a trip computes its rows from. -/
theorem word_row (k a : ℕ) (hk : k < 5) (ha : a < 1536) :
    (Scalar.indexCast (Scalar.addi (Scalar.muli (Scf.iv 0#32 1#32 k) 1536#32) (BitVec.ofNat 32 a)) : BitVec 32).toNat = 1536 * k + a := by
  simp only [Scalar.indexCast, Scalar.addi, Scalar.muli, IntOp.addi, IntOp.muli, Scf.iv, BitVec.mul_one, BitVec.zero_add]
  rw [BitVec.toNat_add, BitVec.toNat_mul, BitVec.toNat_ofNat, BitVec.toNat_ofNat, BitVec.toNat_ofNat]
  omega

end Cert.AttentionIdeal.Gen

end
-- ==== Proof.AttentionRefIdealArrays.lean ====
module

public import proofs.«01_k».proof.Proof.Gen.AttentionRefIdeal.Frame
public import proofs.«01_k».proof.Proof.AttentionIdealRead
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.AttentionRefIdeal.Gen

open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (g : Dev nD → PrngReg)

theorem ix0' (t : Fin cfg0.N) : win0_0.index t = fun _ => 0 := rfl
theorem ix1' (t : Fin cfg0.N) : win0_1.index t = fun _ => 0 := rfl
theorem ix2' (t : Fin cfg0.N) : win0_2.index t = fun _ => 0 := rfl
theorem ix3' (t : Fin cfg0.N) : win0_3.index t = fun _ => 0 := rfl
theorem ix4' (t : Fin cfg0.N) : win0_4.index t = fun _ => 0 := rfl
set_option maxHeartbeats 1000000 in
theorem arr2 (c : Dev nD) : (dats m 0 c).arrAt 2 cfg0.N = fun j => Ideal.exp2 (V m c main_v31 j) := by
  refine (dats m 0 c).arrAt_eq_of_covers 2 _ (by decide +kernel) fun t hf y => ?_
  blk_simp
  rw [after0_2]
  frame_out
  pointwise [k0_pay1]
  exact congrArg Ideal.exp2 (by blk_ext [iblk, ix0' t, ix2' t])
set_option maxHeartbeats 1000000 in
theorem arr3 (c : Dev nD) : (dats m 0 c).arrAt 3 cfg0.N = fun j => Cert.AttentionIdeal.Gen.cut (Ideal.exp2 (V m c main_v31 j)) := by
  refine (dats m 0 c).arrAt_eq_of_covers 3 _ (by decide +kernel) fun t hf y => ?_
  blk_simp
  rw [after0_3]
  frame_out
  pointwise [k0_pay2, k0_pay1]
  exact congrArg (fun z => Cert.AttentionIdeal.Gen.cut (Ideal.exp2 z)) (by blk_ext [iblk, ix0' t, ix3' t])
set_option maxHeartbeats 1000000 in
theorem arr4 (c : Dev nD) : (dats m 0 c).arrAt 4 cfg0.N = fun j => (m ((c.tc : Thread nD τ).loc main_arg5) j : EReal) := by
  refine (dats m 0 c).arrAt_eq_of_covers 4 _ (by decide +kernel) fun t hf y => ?_
  blk_simp
  rw [after0_4]
  frame_out
  pointwise [k0_pay3]
  rw [← V_main_arg5 m c]
  blk_ext [iblk, ix1' t, ix4' t]

end Cert.AttentionRefIdeal.Gen

end

end
-- ==== Proof.AttentionRefIdealLines.lean ====
module

public import proofs.«01_k».proof.Proof.Gen.AttentionRefIdeal.Frame
public import proofs.«01_k».proof.Proof.AttentionIdealRead
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.AttentionRefIdeal.Gen

open Idealize.ShloMosaic Idealize.ShloMosaic.TcCoe Idealize.ShloMosaic.Tactic Idealize.SL.Sem
open Idealize.ShloMosaic.Pipeline (Dat Cfg Window)

/-- The lines of the maximum, over the reduction `f`. -/
abbrev maxOps (f : (⟨S2x24x7680x7680, .f32⟩ : BufTy).Contents (Elt Ideal) → (⟨S_, .f32⟩ : BufTy).Contents (Elt Ideal) → (⟨S2x24x7680, .f32⟩ : BufTy).Contents (Elt Ideal)) : List (HloOp τ sig (Elt Ideal)) :=
  [ StableHlo.nullary main_cst_0 (constant (F := Ideal) S_ .f32 0xFF800000#32),
    StableHlo.binary main_v24 main_cst_0 main_v25 f,
    StableHlo.unary main_v25 main_v26 (broadcastInDim S2x24x7680x1 ![0, 1, 2] bcast_S2x24x7680_S2x24x7680x1_0_1_2 : (⟨S2x24x7680, .f32⟩ : BufTy).Contents (Elt Ideal) → (⟨S2x24x7680x1, .f32⟩ : BufTy).Contents (Elt Ideal)),
    StableHlo.unary main_v26 main_v27 (Host.ceil (F := Ideal) (φ := .f32) : (⟨S2x24x7680x1, .f32⟩ : BufTy).Contents (Elt Ideal) → (⟨S2x24x7680x1, .f32⟩ : BufTy).Contents (Elt Ideal)),
    StableHlo.nullary main_cst_1 (constant (F := Ideal) S_ .f32 0x410CEAED#32),
    StableHlo.unary main_cst_1 main_v28 (broadcastInDim S2x24x7680x1 ![] bcast_S_S2x24x7680x1 : (⟨S_, .f32⟩ : BufTy).Contents (Elt Ideal) → (⟨S2x24x7680x1, .f32⟩ : BufTy).Contents (Elt Ideal)),
    StableHlo.binary main_v27 main_v28 main_v29 (subf (F := Ideal) (φ := .f32) : (⟨S2x24x7680x1, .f32⟩ : BufTy).Contents (Elt Ideal) → (⟨S2x24x7680x1, .f32⟩ : BufTy).Contents (Elt Ideal) → (⟨S2x24x7680x1, .f32⟩ : BufTy).Contents (Elt Ideal)),
    StableHlo.unary main_v29 main_v30 (broadcastInDim S2x24x7680x7680 ![0, 1, 2, 3] bcast_S2x24x7680x1_S2x24x7680x7680_0_1_2_3 : (⟨S2x24x7680x1, .f32⟩ : BufTy).Contents (Elt Ideal) → (⟨S2x24x7680x7680, .f32⟩ : BufTy).Contents (Elt Ideal)),
    StableHlo.binary main_v24 main_v30 main_v31 (subf (F := Ideal) (φ := .f32) : (⟨S2x24x7680x7680, .f32⟩ : BufTy).Contents (Elt Ideal) → (⟨S2x24x7680x7680, .f32⟩ : BufTy).Contents (Elt Ideal) → (⟨S2x24x7680x7680, .f32⟩ : BufTy).Contents (Elt Ideal)) ]

/-- The reduction that the reference prints. -/
abbrev maxRed : (⟨S2x24x7680x7680, .f32⟩ : BufTy).Contents (Elt Ideal) → (⟨S_, .f32⟩ : BufTy).Contents (Elt Ideal) → (⟨S2x24x7680, .f32⟩ : BufTy).Contents (Elt Ideal) :=
  fun x v => Host.reduce (FloatOps.maximumf (F := Ideal) (φ := .f32)) x v reducesTo_S2x24x7680x7680_S2x24x7680_d3 h_S_

theorem maxOps_eq : hostOps0_2 (F := Ideal) = maxOps maxRed := rfl

theorem row_max (x : S2x24x7680x7680.Idx → EReal) (b : Fin 2) (h : Fin 24) (r : Fin 7680) :
    maxRed x (constant (F := Ideal) S_ .f32 0xFF800000#32) (ix3 b h r)
      = Finset.univ.fold max (Ideal.ofBits .f32 0xFF800000#32) fun K => x (ix4 b h r K) := by
  unfold maxRed
  pointwise

theorem v29_line (f : (⟨S2x24x7680x7680, .f32⟩ : BufTy).Contents (Elt Ideal) → (⟨S_, .f32⟩ : BufTy).Contents (Elt Ideal) → (⟨S2x24x7680, .f32⟩ : BufTy).Contents (Elt Ideal)) (W : Valuation τ sig (Elt Ideal)) (b : Fin 2) (h : Fin 24) (r : Fin 7680) :
    (StableHlo.after (maxOps f) W (Proc.devRef .tc main_v29) (ix4 b h r 0) : EReal)
      = Ideal.liftRound Int.ceil (f (W (Proc.devRef .tc main_v24)) (constant (F := Ideal) S_ .f32 0xFF800000#32) (ix3 b h r)) - Ideal.ofBits .f32 0x410CEAED#32 := by
  after_reads_at

theorem v31_line (f : (⟨S2x24x7680x7680, .f32⟩ : BufTy).Contents (Elt Ideal) → (⟨S_, .f32⟩ : BufTy).Contents (Elt Ideal) → (⟨S2x24x7680, .f32⟩ : BufTy).Contents (Elt Ideal)) (W : Valuation τ sig (Elt Ideal)) (b : Fin 2) (h : Fin 24) (r K : Fin 7680) :
    (StableHlo.after (maxOps f) W (Proc.devRef .tc main_v31) (ix4 b h r K) : EReal)
      = HSub.hSub (α := EReal) (β := EReal) (W (Proc.devRef .tc main_v24) (ix4 b h r K)) (Ideal.liftRound Int.ceil (f (W (Proc.devRef .tc main_v24)) (constant (F := Ideal) S_ .f32 0xFF800000#32) (ix3 b h r)) - Ideal.ofBits .f32 0x410CEAED#32) := by
  after_reads_at

theorem v14_line (W : Valuation τ sig (Elt Ideal)) (b : Fin 2) (h : Fin 24) (r K : Fin 7680) :
    (StableHlo.after hostOps0 W (Proc.devRef .tc main_v14) (ix4 b h r K) : EReal)
      = HMul.hMul (α := EReal) (β := EReal) (HAdd.hAdd (α := EReal) (β := EReal) (∑ x : Fin 128, HMul.hMul (α := EReal) (β := EReal) (W (Proc.devRef .tc main_arg4) (ix4 b h r ⟨x.val, by omega⟩)) (W (Proc.devRef .tc main_arg1) (ix4 b h K x)))
          (∑ x : Fin 128, HMul.hMul (α := EReal) (β := EReal) (W (Proc.devRef .tc main_arg4) (ix4 b h ⟨r.val / 2560 * 2560 + r.val % 2560, by omega⟩ ⟨128 + x.val, by omega⟩)) (W (Proc.devRef .tc main_arg2) (ix5 b h ⟨r.val / 2560, by omega⟩ K x))))
        (W (Proc.devRef .tc main_arg3) (ix4 b h ⟨K.val / 64 * 8 + K.val % 8, by omega⟩ ⟨r.val % 128, by omega⟩)) := by
  after_reads_at

theorem v23_line (W : Valuation τ sig (Elt Ideal)) (b : Fin 2) (K : Fin 7680) :
    StableHlo.after hostOps0 W (Proc.devRef .tc main_v23) (ix4 b 0 0 K) = IntOp.cmpi .slt (BitVec.ofNat 32 (K.val / 1536)) (W (Proc.devRef .tc main_arg0) (ix1 b)) := by
  after_reads_at

theorem cst_line (W : Valuation τ sig (Elt Ideal)) :
    StableHlo.after hostOps0 W (Proc.devRef .tc main_cst) = constant (F := Ideal) S_ .f32 0xFF800000#32 := by
  after_reads_simp

theorem v24_line (W : Valuation τ sig (Elt Ideal)) (b : Fin 2) (h : Fin 24) (r K : Fin 7680) :
    StableHlo.after hostOps0_1 W (Proc.devRef .tc main_v24) (ix4 b h r K) = Scalar.select (W (Proc.devRef .tc main_v23) (ix4 b 0 0 K)) (W (Proc.devRef .tc main_v14) (ix4 b h r K)) (id (W (Proc.devRef .tc main_cst)) ix0) := by
  after_reads_at

theorem v41_line (W : Valuation τ sig (Elt Ideal)) (b : Fin 2) (h : Fin 24) (r : Fin 7680) (d : Fin 64) :
    (StableHlo.after [hostOps1].flatten W (Proc.devRef .tc main_v41) (ix4 b h r d) : EReal)
      = Ideal.div (HMul.hMul (α := EReal) (β := EReal) (∑ x : Fin 7680, HMul.hMul (α := EReal) (β := EReal) (W (Proc.devRef .tc main_v32_1) (ix4 b h r x)) (W (Proc.devRef .tc main_v32_2) (ix3 b ⟨h.val * 64 + d.val, by omega⟩ x)))
          (W (Proc.devRef .tc main_arg6) (ix4 b h d 0)))
        (∑ x : Fin 7680, (W (Proc.devRef .tc main_v32_0) (ix4 b h r x) : EReal)) := by
  after_reads_at

theorem v57_line (W : Valuation τ sig (Elt Ideal)) (b : Fin 2) (h : Fin 24) (r : Fin 7680) :
    (StableHlo.after [hostOps1].flatten W (Proc.devRef .tc main_v57) (ix4 b h 0 r) : EReal)
      = Ideal.ofBits .f32 0x3F317218#32 * HAdd.hAdd (α := EReal) (β := EReal) (W (Proc.devRef .tc main_v29) (ix4 b h r 0)) (Ideal.div (Ideal.log (∑ x : Fin 7680, (W (Proc.devRef .tc main_v32_0) (ix4 b h r x) : EReal))) (Ideal.log (Ideal.ofBits .f32 0x40000000#32)))
        + Ideal.ofBits .f32 0x3E000000#32 * (W (Proc.devRef .tc main_arg7) (ix4 b h 0 r) : EReal) - Ideal.ofBits .f32 0x410F245A#32 := by
  after_reads_at

theorem v56_line (W : Valuation τ sig (Elt Ideal)) :
    StableHlo.after [hostOps1].flatten W (Proc.devRef .tc main_v56) = StableHlo.after [hostOps1].flatten W (Proc.devRef .tc main_v41) := by
  after_reads_simp
  rfl

end Cert.AttentionRefIdeal.Gen

end

end
-- ==== Proof.AttentionIdealScores.lean ====
/- The first loop of the attention kernel over the extended reals: after the trips it makes, the scratch holds the score of every key
   seen and every query of the block, and the carried vector their maximum over the keys of each residue modulo eight. -/
module

public import proofs.«01_k».proof.Proof.AttentionIdealRead

@[expose] public section

set_option maxRecDepth 16384
noncomputable section

namespace Cert.AttentionIdeal.Gen

open Idealize.ShloMosaic Idealize.ShloMosaic.TcCoe Idealize.ShloMosaic.Tactic
open Idealize.SL Idealize.SL.RA Idealize.SL.BI

/-- Query `l`'s product with key `K` and with the correction of that key. -/
def rowY (x0 : Vec Ideal S1x1x7680x128 .bf16) (x1 : Vec Ideal S1x1x1x7680x128 .bf16) (x3 : Vec Ideal S1x1x512x256 .bf16) (K : ℕ) (l : Fin 512) : EReal :=
  ∑ x : Fin 128, x0 (ix4 0 0 ⟨K % 7680, by omega⟩ x) * x3 (ix4 0 0 l ⟨x.val, by omega⟩)
    + ∑ x : Fin 128, x1 (ix5 0 0 0 ⟨K % 7680, by omega⟩ x) * x3 (ix4 0 0 l ⟨128 + x.val, by omega⟩)

/-- The score of key `K` at query `l`. -/
def sc (x0 : Vec Ideal S1x1x7680x128 .bf16) (x1 : Vec Ideal S1x1x1x7680x128 .bf16) (x2 : Vec Ideal S1x1x960x128 .f32) (x3 : Vec Ideal S1x1x512x256 .bf16) (K : ℕ) (l : Fin 512) : EReal :=
  rowY x0 x1 x3 K l * x2 (ix4 0 0 ⟨(K / 64 * 8 + K % 8) % 960, by omega⟩ ⟨l.val % 128, by omega⟩)

theorem trips_le (v1 : BitVec 32) (hv : v1.toInt ≤ 5) (k : Fin (k0_t1_loop v1).trips) : k.val < 5 := by
  have h := k.isLt; have e := trips_whole v1; omega

theorem off2_eq (v1 : BitVec 32) (hv : v1.toInt ≤ 5) (k : Fin (k0_t1_loop v1).trips) : k0_off2 v1 k = ![0, 0, 1536 * k.val, 0] := by
  obtain ⟨k, hk⟩ := k; have h5 : k < 5 := trips_le v1 hv ⟨k, hk⟩
  simp only [k0_off2]; interval_cases k <;> rfl
theorem off3_eq (v1 : BitVec 32) (hv : v1.toInt ≤ 5) (k : Fin (k0_t1_loop v1).trips) : k0_off3 v1 k = ![0, 0, 0, 1536 * k.val, 0] := by
  obtain ⟨k, hk⟩ := k; have h5 : k < 5 := trips_le v1 hv ⟨k, hk⟩
  simp only [k0_off3]; interval_cases k <;> rfl
theorem off4_eq (v1 : BitVec 32) (hv : v1.toInt ≤ 5) (k : Fin (k0_t1_loop v1).trips) : k0_off4 v1 k = ![0, 0, 192 * k.val, 0] := by
  obtain ⟨k, hk⟩ := k; have h5 : k < 5 := trips_le v1 hv ⟨k, hk⟩
  simp only [k0_off4]; interval_cases k <;> decide +kernel
theorem off5_eq (v1 : BitVec 32) (hv : v1.toInt ≤ 5) (k : Fin (k0_t1_loop v1).trips) (r : Fin 24) : k0_off5 v1 k (BitVec.ofNat 32 (64 * r.val)) = ![1536 * k.val + 64 * r.val, 0] := by
  simp only [k0_off5, word_row k.val (64 * r.val) (trips_le v1 hv k) (by omega)]
theorem off10_eq (v1 : BitVec 32) (hv : v1.toInt ≤ 5) (k : Fin (k0_t3_loop v1).trips) (r : Fin 48) : k0_off10 v1 k (BitVec.ofNat 32 (32 * r.val)) = ![1536 * k.val + 32 * r.val, 0] := by
  simp only [k0_off10, word_row k.val (32 * r.val) (trips_le v1 hv k) (by omega)]
theorem off11_eq (v1 : BitVec 32) (hv : v1.toInt ≤ 5) (k : Fin (k0_t3_loop v1).trips) : k0_off11 v1 k = ![0, 0, 1536 * k.val] := by
  obtain ⟨k, hk⟩ := k; have h5 : k < 5 := trips_le v1 hv ⟨k, hk⟩
  simp only [k0_off11]; interval_cases k <;> rfl

theorem in5 (v1 : BitVec 32) (hv : v1.toInt ≤ 5) (k : Fin (k0_t1_loop v1).trips) (r : Fin 24) (a : Fin 2) :
    k0_off5 v1 k (BitVec.ofNat 32 (64 * r.val)) a + (![64, 512] : Fin 2 → ℕ) a ≤ S7680x512.size a := by
  have hk := trips_le v1 hv k
  rw [off5_eq v1 hv]; fin_cases a
  · show 1536 * k.val + 64 * r.val + 64 ≤ 7680; omega
  · show 0 + 512 ≤ 512; omega
theorem in10 (v1 : BitVec 32) (hv : v1.toInt ≤ 5) (k : Fin (k0_t3_loop v1).trips) (r : Fin 48) (a : Fin 2) :
    k0_off10 v1 k (BitVec.ofNat 32 (32 * r.val)) a + S32x512.size a ≤ S7680x512.size a := by
  have hk := trips_le v1 hv k
  rw [off10_eq v1 hv]; fin_cases a
  · show 1536 * k.val + 32 * r.val + 32 ≤ 7680; omega
  · show 0 + 512 ≤ 512; omega

/-- Where a box of unit strides at known offsets reads. -/
theorem unit_idx {s : Shape} {off size off' : Fin s.rank → ℕ} {inb : ∀ a, off a + size a ≤ s.size a} (h : off = off') (x : (Rect.unit off size inb).toLoadRect.shape.Idx) (y : s.Idx)
    (hy : ∀ a, off' a + (x a).val = (y a).val) : (Rect.unit off size inb).toLoadRect.idx x = y := by
  subst h; funext a; apply Fin.ext
  show off a + 1 * (x a).val = _
  rw [one_mul]; exact hy a

/-- The chunk's products: row `κ` of trip `k` is key `1536 k + κ`. -/
theorem y_apply (arg4 : Memref sig .tc .vmem S1x1x7680x128 .bf16) (arg5 : Memref sig .tc .vmem S1x1x1x7680x128 .bf16) (arg7 : Memref sig .tc .vmem S1x1x512x256 .bf16)
    (v1 : BitVec 32) (hw : k0_chk1 v1) (hv : v1.toInt ≤ 5) (X4 : BufTy.Contents (Elt Ideal) arg4.view.ty) (X5 : BufTy.Contents (Elt Ideal) arg5.view.ty) (X7 : BufTy.Contents (Elt Ideal) arg7.view.ty) (k : Fin (k0_t1_loop v1).trips) (κ : Fin 1536) (l : Fin 512) :
    trip_k0_t1.sl.r arg4 arg5 arg7 v1 hw X4 X5 X7 k (ix2 κ l)
      = rowY (arg4.view.read (Elt Ideal) X4) (arg5.view.read (Elt Ideal) X5) (arg7.view.read (Elt Ideal) X7) (1536 * k.val + κ.val) l := by
  have hk := trips_le v1 hv k
  have hm : (1536 * k.val + κ.val) % 7680 = 1536 * k.val + κ.val := by omega
  unfold trip_k0_t1.sl.r rowY
  rw [pay4_apply]
  refine congrArg₂ (fun a b : EReal => a + b) (Finset.sum_congr rfl fun x _ => congrArg₂ (fun a b : EReal => a * b) ?_ ?_) (Finset.sum_congr rfl fun x _ => congrArg₂ (fun a b : EReal => a * b) ?_ ?_)
  · refine congrArg (arg4.view.read (Elt Ideal) X4) (unit_idx (off2_eq v1 hv k) _ _ fun a => ?_)
    fin_cases a
    · rfl
    · rfl
    · exact hm.symm
    · exact Nat.zero_add _
  · refine congrArg (arg7.view.read (Elt Ideal) X7) (unit_idx rfl _ _ fun a => ?_)
    fin_cases a <;> exact Nat.zero_add _
  · refine congrArg (arg5.view.read (Elt Ideal) X5) (unit_idx (off3_eq v1 hv k) _ _ fun a => ?_)
    fin_cases a
    · rfl
    · rfl
    · rfl
    · exact hm.symm
    · exact Nat.zero_add _
  · refine congrArg (arg7.view.read (Elt Ideal) X7) (unit_idx rfl _ _ fun a => ?_)
    fin_cases a <;> exact Nat.zero_add _

/-- The chunk's scales. -/
theorem w_apply (arg6 : Memref sig .tc .vmem S1x1x960x128 .f32)
    (v1 : BitVec 32) (hw : k0_chk1 v1) (hv : v1.toInt ≤ 5) (X6 : BufTy.Contents (Elt Ideal) arg6.view.ty) (k : Fin (k0_t1_loop v1).trips) (κ : Fin 192) (l : Fin 128) :
    trip_k0_t1.sl.r_1 arg6 v1 hw X6 k (ix2 κ l)
      = arg6.view.read (Elt Ideal) X6 (ix4 0 0 ⟨(192 * k.val + κ.val) % 960, by omega⟩ l) := by
  have hk := trips_le v1 hv k
  have hm : (192 * k.val + κ.val) % 960 = 192 * k.val + κ.val := by omega
  unfold trip_k0_t1.sl.r_1
  rw [pay5_apply]
  refine congrArg (arg6.view.read (Elt Ideal) X6) (unit_idx (off4_eq v1 hv k) _ _ fun a => ?_)
  fin_cases a
  · rfl
  · rfl
  · exact hm.symm
  · exact Nat.zero_add _

/-- A maximum carried through a list of vectors, read at an index, is the least bound of all. -/
theorem foldl_max_le {S : Shape} {ι : Type} (T : ι → FVec Ideal S .f32) (x : S.Idx) (c : EReal) (L : List ι) :
    ∀ a : FVec Ideal S .f32, (L.foldl (fun m r => maximumf m (T r)) a x : EReal) ≤ c ↔ (a x : EReal) ≤ c ∧ ∀ r ∈ L, (T r x : EReal) ≤ c := by
  induction L with
  | nil => intro a; simp
  | cons r L ih =>
    intro a
    rw [List.foldl_cons, ih]
    have e : (maximumf a (T r) x : EReal) = max (a x : EReal) (T r x) := rfl
    rw [e, max_le_iff]
    simp only [List.mem_cons, forall_eq_or_imp, and_assoc]

theorem mem_strips24 (r : Fin 24) : r ∈ strips24 := by revert r; decide

section Scores

variable (𝒱 : Variants) (c : Dev nD) (bd : Option 𝒱.V) (i : grid0.Coords) (arg3 : Memref sig .tc .smem S2 .i32) (harg3 : arg3.IsWhole) (arg4 : Memref sig .tc .vmem S1x1x7680x128 .bf16) (harg4 : arg4.IsWhole) (arg5 : Memref sig .tc .vmem S1x1x1x7680x128 .bf16) (harg5 : arg5.IsWhole) (arg6 : Memref sig .tc .vmem S1x1x960x128 .f32) (harg6 : arg6.IsWhole) (arg7 : Memref sig .tc .vmem S1x1x512x256 .bf16) (harg7 : arg7.IsWhole) (arg8 : Memref sig .tc .vmem S1x64x7680 .fp8e4m3) (harg8 : arg8.IsWhole) (arg9 : Memref sig .tc .vmem S1x1x64x1 .f32) (harg9 : arg9.IsWhole) (arg10 : Memref sig .tc .vmem S1x1x1x512 .f32) (harg10 : arg10.IsWhole) (arg11 : Memref sig .tc .vmem S1x1x512x64 .bf16) (harg11 : arg11.IsWhole) (arg12 : Memref sig .tc .vmem S1x1x512x64 .f32) (harg12 : arg12.IsWhole) (arg13 : Memref sig .tc .vmem S1x1x1x512 .f32) (harg13 : arg13.IsWhole) (arg14 : Memref sig .tc .vmem S7680x512 .f32) (harg14 : arg14.IsWhole)
  (v1 : BitVec 32) (hw : k0_chk1 v1) (hv : v1.toInt ≤ 5) (X4 : BufTy.Contents (Elt Ideal) arg4.view.ty) (X5 : BufTy.Contents (Elt Ideal) arg5.view.ty) (X6 : BufTy.Contents (Elt Ideal) arg6.view.ty) (X7 : BufTy.Contents (Elt Ideal) arg7.view.ty)

include hv in
/-- One strip's product at an index is the score of the key there. -/
theorem strip_sc (k : Fin (k0_t1_loop v1).trips) (r : Fin 24) (a : ℕ) (ha : a < 64) (l : Fin 512) (h1 : 64 * r.val + a < 1536) (h2 : 8 * r.val + a % 8 < 192) (h3 : l.val % 128 < 128) :
    (trip_k0_t1.sl.r arg4 arg5 arg7 v1 hw X4 X5 X7 k (ix2 ⟨64 * r.val + a, h1⟩ l) * trip_k0_t1.sl.r_1 arg6 v1 hw X6 k (ix2 ⟨8 * r.val + a % 8, h2⟩ ⟨l.val % 128, h3⟩) : EReal)
      = (sc (arg4.view.read (Elt Ideal) X4) (arg5.view.read (Elt Ideal) X5) (arg6.view.read (Elt Ideal) X6) (arg7.view.read (Elt Ideal) X7)) (1536 * k.val + 64 * r.val + a) l := by
  have hk := trips_le v1 hv k
  rw [y_apply _ _ _ _ _ hv, w_apply _ _ _ hv]
  unfold sc
  have e1 : 1536 * k.val + (64 * r.val + a) = 1536 * k.val + 64 * r.val + a := by omega
  have e2 : (192 * k.val + (8 * r.val + a % 8)) % 960 = ((1536 * k.val + 64 * r.val + a) / 64 * 8 + (1536 * k.val + 64 * r.val + a) % 8) % 960 := by omega
  simp only [e1, e2]

/-- What the first loop has done after `n` trips. -/
def Done (n : ℕ) (p : FVec Ideal S8x512 .f32 × List (View.Piece (Elt Ideal) S7680x512 .f32)) : Prop :=
  (∀ (j : Fin 8) (l : Fin 512) (b : EReal), (p.1 (ix2 j l) : EReal) ≤ b ↔ ∀ K, K < 1536 * n → K % 8 = j.val → (sc (arg4.view.read (Elt Ideal) X4) (arg5.view.read (Elt Ideal) X5) (arg6.view.read (Elt Ideal) X6) (arg7.view.read (Elt Ideal) X7)) K l ≤ b)
    ∧ (∀ q ∈ p.2, ∀ x : q.1.shape.Idx, q.2 x = (sc (arg4.view.read (Elt Ideal) X4) (arg5.view.read (Elt Ideal) X5) (arg6.view.read (Elt Ideal) X6) (arg7.view.read (Elt Ideal) X7)) (q.1.emb x 0).val (q.1.emb x 1))
    ∧ (∀ y : S7680x512.Idx, (y 0).val < 1536 * n → ∃ q ∈ p.2, y ∈ q.1.set)

theorem done_zero : Done arg4 arg5 arg6 arg7 X4 X5 X6 X7 0 (k0_pay406, []) := by
  refine ⟨fun j l b => ?_, fun q hq => absurd hq List.not_mem_nil, fun y h => absurd h (by omega)⟩
  show (k0_pay406 (F := Ideal) (ix2 j l) : EReal) ≤ b ↔ _
  rw [pay406_apply]
  exact ⟨fun _ K hK => absurd hK (by omega), fun _ => bot_le⟩

include hv in
theorem done_succ (k : Fin (k0_t1_loop v1).trips) (p : FVec Ideal S8x512 .f32 × List (View.Piece (Elt Ideal) S7680x512 .f32))
    (h : Done arg4 arg5 arg6 arg7 X4 X5 X6 X7 k.val p) :
    Done arg4 arg5 arg6 arg7 X4 X5 X6 X7 (k.val + 1) (tripR_k0_t1 𝒱 c bd i arg3 harg3 arg4 harg4 arg5 harg5 arg6 harg6 arg7 harg7 arg8 harg8 arg9 harg9 arg10 harg10 arg11 harg11 arg12 harg12 arg13 harg13 arg14 harg14 v1 hw X4 X5 X6 X7 k p.1, tripL_k0_t1 𝒱 c bd i arg3 harg3 arg4 harg4 arg5 harg5 arg6 harg6 arg7 harg7 arg8 harg8 arg9 harg9 arg10 harg10 arg11 harg11 arg12 harg12 arg13 harg13 arg14 harg14 v1 hw X4 X5 X6 X7 k p.1 ++ p.2) := by
  obtain ⟨h1, h2, h3⟩ := h
  have hk := trips_le v1 hv k
  refine ⟨fun j l b => ?_, fun q hq x => ?_, fun y hy => ?_⟩
  · rw [tripR1_eq, foldl_max_le, h1]
    constructor
    · rintro ⟨ha, hb⟩ K hK hj
      by_cases hlt : K < 1536 * k.val
      · exact ha K hlt hj
      · have hr := hb ⟨(K - 1536 * k.val) / 64, by omega⟩ (mem_strips24 _)
        rw [topV_apply, Finset.fold_max_le] at hr
        have hg := hr.2 ⟨(K - 1536 * k.val) % 64 / 8, by omega⟩ (Finset.mem_univ _)
        have e := strip_sc arg4 arg5 arg6 arg7 v1 hw hv X4 X5 X6 X7 k ⟨(K - 1536 * k.val) / 64, by omega⟩ ((K - 1536 * k.val) % 64 / 8 * 8 + j.val) (by omega) l (by omega) (by omega) (by omega)
        have e8 : ((K - 1536 * k.val) % 64 / 8 * 8 + j.val) % 8 = j.val := by omega
        have eK : 1536 * k.val + 64 * ((K - 1536 * k.val) / 64) + ((K - 1536 * k.val) % 64 / 8 * 8 + j.val) = K := by omega
        simp only [e8, eK] at e
        rw [← e]; exact hg
    · intro H
      refine ⟨fun K hK hj => H K (by omega) hj, fun r _ => ?_⟩
      rw [topV_apply, Finset.fold_max_le]
      refine ⟨bot_le, fun g _ => ?_⟩
      have e := strip_sc arg4 arg5 arg6 arg7 v1 hw hv X4 X5 X6 X7 k r (g.val * 8 + j.val) (by omega) l (by omega) (by omega) (by omega)
      have e8 : (g.val * 8 + j.val) % 8 = j.val := by omega
      simp only [e8] at e
      refine le_of_eq_of_le e (H _ (by omega) (by omega))
  · rcases List.mem_append.1 hq with hq | hq
    · rw [tripL1_eq (hin := in5 v1 hv k)] at hq
      obtain ⟨r, -, rfl⟩ := List.mem_map.1 hq
      obtain ⟨a, l, rfl⟩ : ∃ (a : Fin 64) (l : Fin 512), x = ix2 a l := ⟨x 0, x 1, eq_ix2 x⟩
      refine (storeV_apply _ _ r a l).trans ?_
      have e := strip_sc arg4 arg5 arg6 arg7 v1 hw hv X4 X5 X6 X7 k r a.val a.isLt l (by omega) (by omega) (by omega)
      refine e.trans ?_
      have i0 := unit_idx (inb := in5 v1 hv k r) (off5_eq v1 hv k r) (ix2 a l) (ix2 ⟨1536 * k.val + 64 * r.val + a.val, by omega⟩ l) (fun b => by
        fin_cases b
        · rfl
        · exact Nat.zero_add _)
      have i0' : (Rect.unit (s := S7680x512) (k0_off5 v1 k (BitVec.ofNat 32 (64 * r.val))) ![64, 512] (in5 v1 hv k r)).emb (ix2 a l) = ix2 ⟨1536 * k.val + 64 * r.val + a.val, by omega⟩ l := i0
      show _ = (sc (arg4.view.read (Elt Ideal) X4) (arg5.view.read (Elt Ideal) X5) (arg6.view.read (Elt Ideal) X6) (arg7.view.read (Elt Ideal) X7)) ((Rect.unit (s := S7680x512) (k0_off5 v1 k (BitVec.ofNat 32 (64 * r.val))) ![64, 512] (in5 v1 hv k r)).emb (ix2 a l) 0).val ((Rect.unit (s := S7680x512) (k0_off5 v1 k (BitVec.ofNat 32 (64 * r.val))) ![64, 512] (in5 v1 hv k r)).emb (ix2 a l) 1)
      rw [i0']
      rfl
    · exact h2 q hq x
  · by_cases hlt : (y 0).val < 1536 * k.val
    · obtain ⟨q, hq, hm⟩ := h3 y hlt
      exact ⟨q, List.mem_append_right _ hq, hm⟩
    · rw [tripL1_eq (hin := in5 v1 hv k)]
      obtain ⟨r, hr⟩ : ∃ r : Fin 24, r.val = ((y 0).val - 1536 * k.val) / 64 := ⟨⟨((y 0).val - 1536 * k.val) / 64, by omega⟩, rfl⟩
      refine ⟨⟨Rect.unit (s := S7680x512) (k0_off5 v1 k (BitVec.ofNat 32 (64 * r.val))) ![64, 512] (in5 v1 hv k r), _⟩, List.mem_append_left _ (List.mem_map.2 ⟨r, List.mem_reverse.2 (mem_strips24 r), rfl⟩), ?_⟩
      refine (Rect.mem_set_unit (inb := in5 v1 hv k r)).2 fun a => ?_
      rw [off5_eq v1 hv]
      have hl : (y 1).val < 512 := (y 1).isLt
      fin_cases a
      · constructor
        · show 1536 * k.val + 64 * r.val ≤ (y 0).val; omega
        · show (y 0).val < 1536 * k.val + 64 * r.val + 64; omega
      · constructor
        · exact Nat.zero_le _
        · show (y 1).val < 0 + 512; omega

include hv in
/-- After `n` of its trips the first loop has done `n` chunks. -/
theorem done_st (n : ℕ) (hn : n ≤ (k0_t1_loop v1).trips) :
    Done arg4 arg5 arg6 arg7 X4 X5 X6 X7 n (st_k0_t1 𝒱 c bd i arg3 harg3 arg4 harg4 arg5 harg5 arg6 harg6 arg7 harg7 arg8 harg8 arg9 harg9 arg10 harg10 arg11 harg11 arg12 harg12 arg13 harg13 arg14 harg14 v1 hw X4 X5 X6 X7 k0_pay406 n) := by
  induction n with
  | zero => exact done_zero arg4 arg5 arg6 arg7 X4 X5 X6 X7
  | succ n ih =>
    rw [st_k0_t1_succ 𝒱 c bd i arg3 harg3 arg4 harg4 arg5 harg5 arg6 harg6 arg7 harg7 arg8 harg8 arg9 harg9 arg10 harg10 arg11 harg11 arg12 harg12 arg13 harg13 arg14 harg14 v1 hw X4 X5 X6 X7 k0_pay406 ⟨n, hn⟩]
    exact done_succ 𝒱 c bd i arg3 harg3 arg4 harg4 arg5 harg5 arg6 harg6 arg7 harg7 arg8 harg8 arg9 harg9 arg10 harg10 arg11 harg11 arg12 harg12 arg13 harg13 arg14 harg14 v1 hw hv X4 X5 X6 X7 ⟨n, hn⟩ _ (ih (by omega))

end Scores

end Cert.AttentionIdeal.Gen

end
-- ==== Proof.AttentionIdealWeights.lean ====
/- The second loop of the attention kernel over the extended reals: after its trips the carried sums are the weights of the keys
   seen, and the carried products those of the values with the weights cut to the eight-bit range. -/
module

public import proofs.«01_k».proof.Proof.AttentionIdealScores
public import Idealize.ShloMosaic.Lib.Pipeline.Value

@[expose] public section

set_option maxRecDepth 16384
noncomputable section

namespace Cert.AttentionIdeal.Gen

open Idealize.ShloMosaic Idealize.ShloMosaic.TcCoe Idealize.ShloMosaic.Tactic
open Idealize.SL Idealize.SL.RA Idealize.SL.BI

/-- A sum carried through a list of vectors, read at an index. -/
theorem foldl_add {S : Shape} {ι : Type} (T : ι → FVec Ideal S .f32) (x : S.Idx) (L : List ι) :
    ∀ a : FVec Ideal S .f32, (L.foldl (fun s r => addf s (T r)) a x : EReal) = (a x : EReal) + (L.map fun r => (T r x : EReal)).sum := by
  induction L with
  | nil => intro a; simp
  | cons r L ih =>
    intro a
    rw [List.foldl_cons, ih, List.map_cons, List.sum_cons, ← add_assoc]
    rfl

theorem strips48_eq : strips48 = List.finRange 48 := by decide

theorem sum_strips48 (f : Fin 48 → EReal) : (strips48.map f).sum = ∑ r, f r := by
  rw [strips48_eq, Fin.sum_univ_def]

/-- A sum over `m` runs of `b` terms each is one sum. -/
theorem sum_runs (f : ℕ → EReal) (m b : ℕ) : ∑ r : Fin m, ∑ a : Fin b, f (b * r.val + a.val) = ∑ i ∈ Finset.range (b * m), f i := by
  rw [Fin.sum_univ_eq_sum_range (fun r => ∑ a : Fin b, f (b * r + a.val)) m]
  induction m with
  | zero => simp
  | succ m ih => rw [Finset.sum_range_succ, ih, Nat.mul_succ, Finset.sum_range_add, Fin.sum_univ_eq_sum_range (fun a => f (b * m + a)) b]

/-- The values' row `c` at key `K`. -/
def val (x4 : Vec Ideal S1x64x7680 .fp8e4m3) (c : Fin 64) (K : ℕ) : EReal := x4 (ix3 0 c ⟨K % 7680, by omega⟩)

section Weights

variable (𝒱 : Variants) (c : Dev nD) (bd : Option 𝒱.V) (i : grid0.Coords) (arg3 : Memref sig .tc .smem S2 .i32) (harg3 : arg3.IsWhole) (arg4 : Memref sig .tc .vmem S1x1x7680x128 .bf16) (harg4 : arg4.IsWhole) (arg5 : Memref sig .tc .vmem S1x1x1x7680x128 .bf16) (harg5 : arg5.IsWhole) (arg6 : Memref sig .tc .vmem S1x1x960x128 .f32) (harg6 : arg6.IsWhole) (arg7 : Memref sig .tc .vmem S1x1x512x256 .bf16) (harg7 : arg7.IsWhole) (arg8 : Memref sig .tc .vmem S1x64x7680 .fp8e4m3) (harg8 : arg8.IsWhole) (arg9 : Memref sig .tc .vmem S1x1x64x1 .f32) (harg9 : arg9.IsWhole) (arg10 : Memref sig .tc .vmem S1x1x1x512 .f32) (harg10 : arg10.IsWhole) (arg11 : Memref sig .tc .vmem S1x1x512x64 .bf16) (harg11 : arg11.IsWhole) (arg12 : Memref sig .tc .vmem S1x1x512x64 .f32) (harg12 : arg12.IsWhole) (arg13 : Memref sig .tc .vmem S1x1x1x512 .f32) (harg13 : arg13.IsWhole) (arg14 : Memref sig .tc .vmem S7680x512 .f32) (harg14 : arg14.IsWhole)
  (v1 : BitVec 32) (hw : k0_chk1 v1) (hv : v1.toInt ≤ 5) (v9 : FVec Ideal S8x512 .f32) (X8 : BufTy.Contents (Elt Ideal) arg8.view.ty) (X14 : BufTy.Contents (Elt Ideal) arg14.view.ty)
  (S : ℕ → Fin 512 → EReal) (hS : ∀ y : S7680x512.Idx, (y 0).val < 1536 * (k0_t3_loop v1).trips → arg14.view.read (Elt Ideal) X14 y = S (y 0).val (y 1))

include hv hS in
theorem readV_apply (k : Fin (k0_t3_loop v1).trips) (r : Fin 48) (a : Fin 32) (l : Fin 512) :
    readV arg14 v1 k X14 (in10 v1 hv k) r (ix2 a l) = S (1536 * k.val + 32 * r.val + a.val) l := by
  have hk : k.val < 5 := trips_le v1 hv k
  have e : (Rect.unit (s := S7680x512) (k0_off10 v1 k (BitVec.ofNat 32 (32 * r.val))) S32x512.size (in10 v1 hv k r)).toLoadRect.idx (ix2 a l) = ix2 ⟨1536 * k.val + 32 * r.val + a.val, by omega⟩ l :=
    unit_idx (off10_eq v1 hv k r) _ _ fun b => by
      fin_cases b
      · rfl
      · exact Nat.zero_add _
  show arg14.view.read (Elt Ideal) X14 ((Rect.unit (s := S7680x512) (k0_off10 v1 k (BitVec.ofNat 32 (32 * r.val))) S32x512.size (in10 v1 hv k r)).toLoadRect.idx (ix2 a l)) = _
  rw [e]
  have h := k.isLt
  exact hS (ix2 _ l) (by show 1536 * k.val + 32 * r.val + a.val < _; omega)

/-- What the second loop carries after `n` trips. -/
def Summed (n : ℕ) (p : FVec Ideal S8x512 .f32 × FVec Ideal S64x512 .f32) : Prop :=
  (∀ (j : Fin 8) (l : Fin 512), (p.1 (ix2 j l) : EReal) = ∑ k ∈ Finset.range (192 * n), wgt (S (8 * k + j.val) l) (k0_pay409 v9 (ix2 0 l)))
    ∧ ∀ (d : Fin 64) (l : Fin 512), (p.2 (ix2 d l) : EReal) = ∑ K ∈ Finset.range (1536 * n), val (arg8.view.read (Elt Ideal) X8) d K * cut (wgt (S K l) (k0_pay409 v9 (ix2 0 l)))

theorem summed_zero : Summed arg8 v9 X8 S 0 (k0_pay410, k0_pay411) := by
  refine ⟨fun j l => ?_, fun d l => ?_⟩
  · show (k0_pay410 (F := Ideal) (ix2 j l) : EReal) = _
    rw [pay410_apply]; simp
  · show (k0_pay411 (F := Ideal) (ix2 d l) : EReal) = _
    rw [pay411_apply]; simp

theorem in11 (hv : v1.toInt ≤ 5) (k : Fin (k0_t3_loop v1).trips) (a : Fin 3) : k0_off11 v1 k a + S1x64x1536.size a ≤ S1x64x7680.size a := by
  have hk : k.val < 5 := trips_le v1 hv k
  rw [off11_eq v1 hv]; fin_cases a
  · show 0 + 1 ≤ 1; omega
  · show 0 + 64 ≤ 64; omega
  · show 1536 * k.val + 1536 ≤ 7680; omega

include hv hS in
theorem summed_succ (k : Fin (k0_t3_loop v1).trips) (p : FVec Ideal S8x512 .f32 × FVec Ideal S64x512 .f32) (h : Summed arg8 v9 X8 S k.val p) :
    Summed arg8 v9 X8 S (k.val + 1) (tripR_k0_t3 𝒱 c bd i arg3 harg3 arg4 harg4 arg5 harg5 arg6 harg6 arg7 harg7 arg8 harg8 arg9 harg9 arg10 harg10 arg11 harg11 arg12 harg12 arg13 harg13 arg14 harg14 v1 hw v9 X8 X14 k p) := by
  obtain ⟨h1, h2⟩ := h
  have hk : k.val < 5 := trips_le v1 hv k
  refine ⟨fun j l => ?_, fun d l => ?_⟩
  · rw [tripR3_fst (hin := in10 v1 hv k), foldl_add, sum_strips48, h1, Nat.mul_succ, Finset.sum_range_add]
    refine congrArg _ ?_
    rw [← sum_runs (fun x => wgt (S (8 * (192 * k.val + x) + j.val) l) (k0_pay409 v9 (ix2 0 l))) 48 4]
    refine Finset.sum_congr rfl fun r _ => ?_
    rw [sumV_apply]
    refine Finset.sum_congr rfl fun g _ => ?_
    rw [readV_apply arg14 v1 hv X14 S hS]
    refine congrArg (fun K => wgt (S K l) _) ?_
    show 1536 * k.val + 32 * r.val + (g.val * 8 + j.val) = 8 * (192 * k.val + (4 * r.val + g.val)) + j.val
    omega
  · rw [tripR3_snd (hin := in10 v1 hv k) (hin8 := in11 v1 hv k) (hc := concats48), pay414_apply, h2, Nat.mul_succ, Finset.sum_range_add]
    refine congrArg _ ?_
    rw [← Fin.sum_univ_eq_sum_range (fun x => val (arg8.view.read (Elt Ideal) X8) d (1536 * k.val + x) * cut (wgt (S (1536 * k.val + x) l) (k0_pay409 v9 (ix2 0 l)))) 1536]
    refine Finset.sum_congr rfl fun x _ => congrArg₂ (fun a b : EReal => a * b) ?_ ?_
    · refine congrArg (arg8.view.read (Elt Ideal) X8) (unit_idx (off11_eq v1 hv k) _ _ fun b => ?_)
      fin_cases b
      · rfl
      · exact Nat.zero_add _
      · show 1536 * k.val + x.val = (1536 * k.val + x.val) % 7680; omega
    · refine (concatenate_ofFn_apply (t := S1536x512) (s₁ := S32x512) 0 (fun r : Fin 48 => codeV (k0_pay409 v9) (readV arg14 v1 k X14 (in10 v1 hv k) r)) concats48 rfl 32 rfl (ix2 x l) ⟨x.val / 32, by omega⟩ rfl
        (ix2 ⟨x.val % 32, by omega⟩ l) rfl (fun b hb => by
          fin_cases b
          · exact absurd rfl hb
          · rfl)).trans ?_
      rw [codeV_apply, readV_apply arg14 v1 hv X14 S hS]
      refine congrArg (fun K => cut (wgt (S K l) _)) ?_
      show 1536 * k.val + 32 * (x.val / 32) + x.val % 32 = 1536 * k.val + x.val
      omega

include hv hS in
/-- After `n` of its trips the second loop has summed `n` chunks. -/
theorem summed_st (n : ℕ) (hn : n ≤ (k0_t3_loop v1).trips) :
    Summed arg8 v9 X8 S n (st_k0_t3 𝒱 c bd i arg3 harg3 arg4 harg4 arg5 harg5 arg6 harg6 arg7 harg7 arg8 harg8 arg9 harg9 arg10 harg10 arg11 harg11 arg12 harg12 arg13 harg13 arg14 harg14 v1 hw v9 X8 X14 (k0_pay410, k0_pay411) n) := by
  induction n with
  | zero => exact summed_zero arg8 v9 X8 S
  | succ n ih =>
    rw [st_k0_t3_succ 𝒱 c bd i arg3 harg3 arg4 harg4 arg5 harg5 arg6 harg6 arg7 harg7 arg8 harg8 arg9 harg9 arg10 harg10 arg11 harg11 arg12 harg12 arg13 harg13 arg14 harg14 v1 hw v9 X8 X14 (k0_pay410, k0_pay411) ⟨n, hn⟩]
    exact summed_succ 𝒱 c bd i arg3 harg3 arg4 harg4 arg5 harg5 arg6 harg6 arg7 harg7 arg8 harg8 arg9 harg9 arg10 harg10 arg11 harg11 arg12 harg12 arg13 harg13 arg14 harg14 v1 hw hv v9 X8 X14 S hS ⟨n, hn⟩ _ (ih (by omega))

end Weights

end Cert.AttentionIdeal.Gen

end
-- ==== Proof.AttentionIdealBlock.lean ====
/- What the attention kernel's body computes of a block, over the extended reals: the maximum of the scores of the keys seen, the sum
   of the weights against it, and the weighted values. -/
module

public import proofs.«01_k».proof.Proof.AttentionIdealWeights

@[expose] public section

set_option maxRecDepth 16384
noncomputable section

namespace Cert.AttentionIdeal.Gen

open Idealize.ShloMosaic Idealize.ShloMosaic.TcCoe Idealize.ShloMosaic.Tactic
open Idealize.SL Idealize.SL.RA Idealize.SL.BI

/-- What the weights at a query are taken against, of `n` keys with scores `s`: their maximum rounded up, less the logarithm of the greatest code. -/
def shift (n : ℕ) (s : ℕ → EReal) : EReal :=
  FloatOps.ceil (F := Ideal) (φ := .f32) ((Finset.range n).fold max ⊥ s) - Ideal.ofBits .f32 0x410CEAED#32

/-- The sum of the weights of `n` keys. -/
def total (n : ℕ) (s : ℕ → EReal) : EReal := ∑ K ∈ Finset.range n, wgt (s K) (shift n s)

/-- The values `v` of `n` keys by their cut weights. -/
def mixed (n : ℕ) (s v : ℕ → EReal) : EReal := ∑ K ∈ Finset.range n, v K * cut (wgt (s K) (shift n s))

/-- The logarithm of the weights' sum at a query, back in natural units, with the mean's part `k` and the sequence's length. -/
def logsum (n : ℕ) (s : ℕ → EReal) (k : EReal) : EReal :=
  Ideal.ofBits .f32 0x3F317218#32 * (shift n s + Ideal.div (Ideal.log (total n s)) (Ideal.log (Ideal.ofBits .f32 0x40000000#32)))
    + Ideal.ofBits .f32 0x3E000000#32 * k - Ideal.ofBits .f32 0x410F245A#32

/-- The attention block of `n` keys. -/
def outO (n : ℕ) (x0 : Vec Ideal S1x1x7680x128 .bf16) (x1 : Vec Ideal S1x1x1x7680x128 .bf16) (x2 : Vec Ideal S1x1x960x128 .f32) (x3 : Vec Ideal S1x1x512x256 .bf16) (x4 : Vec Ideal S1x64x7680 .fp8e4m3) (x5 : Vec Ideal S1x1x64x1 .f32)
    (l : Fin 512) (d : Fin 64) : EReal :=
  Ideal.div (mixed n (fun K => sc x0 x1 x2 x3 K l) (val x4 d) * x5 (ix4 0 0 d 0)) (total n fun K => sc x0 x1 x2 x3 K l)

/-- The logarithms' block of `n` keys. -/
def outL (n : ℕ) (x0 : Vec Ideal S1x1x7680x128 .bf16) (x1 : Vec Ideal S1x1x1x7680x128 .bf16) (x2 : Vec Ideal S1x1x960x128 .f32) (x3 : Vec Ideal S1x1x512x256 .bf16) (x6 : Vec Ideal S1x1x1x512 .f32)
    (l : Fin 512) : EReal :=
  logsum n (fun K => sc x0 x1 x2 x3 K l) (x6 (ix4 0 0 0 l))

theorem fold_max_eq {ι κ : Type} (s : Finset ι) (t : Finset κ) (f : ι → EReal) (g : κ → EReal)
    (h : ∀ b, (∀ x ∈ s, f x ≤ b) ↔ ∀ y ∈ t, g y ≤ b) : s.fold max ⊥ f = t.fold max ⊥ g :=
  eq_of_forall_ge_iff fun b => by
    rw [Finset.fold_max_le, Finset.fold_max_le]
    exact and_congr Iff.rfl (h b)

section Block

variable (c : Dev nD) (i : grid0.Coords) (arg3 : Memref sig .tc .smem S2 .i32) (harg3 : arg3.IsWhole) (arg4 : Memref sig .tc .vmem S1x1x7680x128 .bf16) (harg4 : arg4.IsWhole) (arg5 : Memref sig .tc .vmem S1x1x1x7680x128 .bf16) (harg5 : arg5.IsWhole) (arg6 : Memref sig .tc .vmem S1x1x960x128 .f32) (harg6 : arg6.IsWhole) (arg7 : Memref sig .tc .vmem S1x1x512x256 .bf16) (harg7 : arg7.IsWhole) (arg8 : Memref sig .tc .vmem S1x64x7680 .fp8e4m3) (harg8 : arg8.IsWhole) (arg9 : Memref sig .tc .vmem S1x1x64x1 .f32) (harg9 : arg9.IsWhole) (arg10 : Memref sig .tc .vmem S1x1x1x512 .f32) (harg10 : arg10.IsWhole) (arg11 : Memref sig .tc .vmem S1x1x512x64 .bf16) (harg11 : arg11.IsWhole) (arg12 : Memref sig .tc .vmem S1x1x512x64 .f32) (harg12 : arg12.IsWhole) (arg13 : Memref sig .tc .vmem S1x1x1x512 .f32) (harg13 : arg13.IsWhole) (arg14 : Memref sig .tc .vmem S7680x512 .f32) (harg14 : arg14.IsWhole)
  (w : BitVec 32) (hw : k0_chk1 w) (v7 v21 : BitVec 32) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X14 : BufTy.Contents (Elt Ideal) arg14.view.ty)

/-- The first loop's outcome. -/
abbrev T1 := st_k0_t1 Variants.none c none i arg3 harg3 arg4 harg4 arg5 harg5 arg6 harg6 arg7 harg7 arg8 harg8 arg9 harg9 arg10 harg10 arg11 harg11 arg12 harg12 arg13 harg13 arg14 harg14 w hw X4 X5 X6 X7 k0_pay406 (k0_t1_loop w).trips
/-- The first loop's remainder's. -/
abbrev T2 := st_k0_t2 Variants.none c none i arg3 harg3 arg4 harg4 arg5 harg5 arg6 harg6 arg7 harg7 arg8 harg8 arg9 harg9 arg10 harg10 arg11 harg11 arg12 harg12 arg13 harg13 arg14 harg14 w hw v7 X4 X5 X6 X7 (T1 c i arg3 harg3 arg4 harg4 arg5 harg5 arg6 harg6 arg7 harg7 arg8 harg8 arg9 harg9 arg10 harg10 arg11 harg11 arg12 harg12 arg13 harg13 arg14 harg14 w hw X4 X5 X6 X7).1 (k0_t2_loop w).trips
/-- The scratch between the loops. -/
abbrev T14 := arg14.view.writes (Elt Ideal) X14 ((T2 c i arg3 harg3 arg4 harg4 arg5 harg5 arg6 harg6 arg7 harg7 arg8 harg8 arg9 harg9 arg10 harg10 arg11 harg11 arg12 harg12 arg13 harg13 arg14 harg14 w hw v7 X4 X5 X6 X7).2 ++ (T1 c i arg3 harg3 arg4 harg4 arg5 harg5 arg6 harg6 arg7 harg7 arg8 harg8 arg9 harg9 arg10 harg10 arg11 harg11 arg12 harg12 arg13 harg13 arg14 harg14 w hw X4 X5 X6 X7).2)
/-- The second loop's outcome. -/
abbrev T3 := st_k0_t3 Variants.none c none i arg3 harg3 arg4 harg4 arg5 harg5 arg6 harg6 arg7 harg7 arg8 harg8 arg9 harg9 arg10 harg10 arg11 harg11 arg12 harg12 arg13 harg13 arg14 harg14 w hw (T2 c i arg3 harg3 arg4 harg4 arg5 harg5 arg6 harg6 arg7 harg7 arg8 harg8 arg9 harg9 arg10 harg10 arg11 harg11 arg12 harg12 arg13 harg13 arg14 harg14 w hw v7 X4 X5 X6 X7).1 X8 (T14 c i arg3 harg3 arg4 harg4 arg5 harg5 arg6 harg6 arg7 harg7 arg8 harg8 arg9 harg9 arg10 harg10 arg11 harg11 arg12 harg12 arg13 harg13 arg14 harg14 w hw v7 X4 X5 X6 X7 X14) (k0_pay410, k0_pay411) (k0_t3_loop w).trips
/-- The second loop's remainder's. -/
abbrev T4 := st_k0_t4 Variants.none c none i arg3 harg3 arg4 harg4 arg5 harg5 arg6 harg6 arg7 harg7 arg8 harg8 arg9 harg9 arg10 harg10 arg11 harg11 arg12 harg12 arg13 harg13 arg14 harg14 w hw (T2 c i arg3 harg3 arg4 harg4 arg5 harg5 arg6 harg6 arg7 harg7 arg8 harg8 arg9 harg9 arg10 harg10 arg11 harg11 arg12 harg12 arg13 harg13 arg14 harg14 w hw v7 X4 X5 X6 X7).1 v21 X8 (T14 c i arg3 harg3 arg4 harg4 arg5 harg5 arg6 harg6 arg7 harg7 arg8 harg8 arg9 harg9 arg10 harg10 arg11 harg11 arg12 harg12 arg13 harg13 arg14 harg14 w hw v7 X4 X5 X6 X7 X14)
  ((T3 c i arg3 harg3 arg4 harg4 arg5 harg5 arg6 harg6 arg7 harg7 arg8 harg8 arg9 harg9 arg10 harg10 arg11 harg11 arg12 harg12 arg13 harg13 arg14 harg14 w hw v7 X4 X5 X6 X7 X8 X14).1, (T3 c i arg3 harg3 arg4 harg4 arg5 harg5 arg6 harg6 arg7 harg7 arg8 harg8 arg9 harg9 arg10 harg10 arg11 harg11 arg12 harg12 arg13 harg13 arg14 harg14 w hw v7 X4 X5 X6 X7 X8 X14).2) (k0_t4_loop w).trips

theorem T2_eq : T2 c i arg3 harg3 arg4 harg4 arg5 harg5 arg6 harg6 arg7 harg7 arg8 harg8 arg9 harg9 arg10 harg10 arg11 harg11 arg12 harg12 arg13 harg13 arg14 harg14 w hw v7 X4 X5 X6 X7 = ((T1 c i arg3 harg3 arg4 harg4 arg5 harg5 arg6 harg6 arg7 harg7 arg8 harg8 arg9 harg9 arg10 harg10 arg11 harg11 arg12 harg12 arg13 harg13 arg14 harg14 w hw X4 X5 X6 X7).1, []) := by
  unfold T2; rw [trips_rest]; rfl
theorem T4_eq : T4 c i arg3 harg3 arg4 harg4 arg5 harg5 arg6 harg6 arg7 harg7 arg8 harg8 arg9 harg9 arg10 harg10 arg11 harg11 arg12 harg12 arg13 harg13 arg14 harg14 w hw v7 v21 X4 X5 X6 X7 X8 X14 = T3 c i arg3 harg3 arg4 harg4 arg5 harg5 arg6 harg6 arg7 harg7 arg8 harg8 arg9 harg9 arg10 harg10 arg11 harg11 arg12 harg12 arg13 harg13 arg14 harg14 w hw v7 X4 X5 X6 X7 X8 X14 := by
  unfold T4; rw [show (k0_t4_loop w).trips = 0 from trips_rest w]; rfl

variable (hv : w.toInt ≤ 5)

include hv in
/-- Between the loops the scratch holds the scores of the keys seen. -/
theorem read14 (y : S7680x512.Idx) (hy : (y 0).val < 1536 * (k0_t3_loop w).trips) :
    arg14.view.read (Elt Ideal) (T14 c i arg3 harg3 arg4 harg4 arg5 harg5 arg6 harg6 arg7 harg7 arg8 harg8 arg9 harg9 arg10 harg10 arg11 harg11 arg12 harg12 arg13 harg13 arg14 harg14 w hw v7 X4 X5 X6 X7 X14) y = (sc (arg4.view.read (Elt Ideal) X4) (arg5.view.read (Elt Ideal) X5) (arg6.view.read (Elt Ideal) X6) (arg7.view.read (Elt Ideal) X7)) (y 0).val (y 1) := by
  have h := done_st Variants.none c none i arg3 harg3 arg4 harg4 arg5 harg5 arg6 harg6 arg7 harg7 arg8 harg8 arg9 harg9 arg10 harg10 arg11 harg11 arg12 harg12 arg13 harg13 arg14 harg14 w hw hv X4 X5 X6 X7 (k0_t1_loop w).trips le_rfl
  unfold T14
  rw [T2_eq]
  exact View.read_writes_apply_of_pieces (Val := Elt Ideal) arg14.view X14 (fun y : S7680x512.Idx => (sc (arg4.view.read (Elt Ideal) X4) (arg5.view.read (Elt Ideal) X5) (arg6.view.read (Elt Ideal) X6) (arg7.view.read (Elt Ideal) X7)) (y 0).val (y 1)) _ h.2.1 y (h.2.2 y hy)

include hv in
theorem block_shift (l : Fin 512) :
    k0_pay409 (T2 c i arg3 harg3 arg4 harg4 arg5 harg5 arg6 harg6 arg7 harg7 arg8 harg8 arg9 harg9 arg10 harg10 arg11 harg11 arg12 harg12 arg13 harg13 arg14 harg14 w hw v7 X4 X5 X6 X7).1 (ix2 0 l) = shift (1536 * w.toInt.toNat) (fun K => (sc (arg4.view.read (Elt Ideal) X4) (arg5.view.read (Elt Ideal) X5) (arg6.view.read (Elt Ideal) X6) (arg7.view.read (Elt Ideal) X7)) K l) := by
  have h := (done_st Variants.none c none i arg3 harg3 arg4 harg4 arg5 harg5 arg6 harg6 arg7 harg7 arg8 harg8 arg9 harg9 arg10 harg10 arg11 harg11 arg12 harg12 arg13 harg13 arg14 harg14 w hw hv X4 X5 X6 X7 (k0_t1_loop w).trips le_rfl).1
  rw [T2_eq, pay409_apply]
  unfold shift
  rw [trips_whole w] at h
  refine congrArg (fun x => FloatOps.ceil (F := Ideal) (φ := .f32) x - Ideal.ofBits .f32 0x410CEAED#32) (fold_max_eq _ _ _ _ fun b => ?_)
  constructor
  · intro H K hK
    exact (h ⟨K % 8, by omega⟩ l b).1 (by
      have := H ⟨K % 8, by omega⟩ (Finset.mem_univ _)
      rw [← trips_whole w]; exact this) K (Finset.mem_range.1 hK) rfl
  · intro H j _
    have := (h j l b).2 fun K hK _ => H K (Finset.mem_range.2 hK)
    rw [← trips_whole w] at this; exact this

include hv in
theorem block_sums :
    Summed arg8 (T2 c i arg3 harg3 arg4 harg4 arg5 harg5 arg6 harg6 arg7 harg7 arg8 harg8 arg9 harg9 arg10 harg10 arg11 harg11 arg12 harg12 arg13 harg13 arg14 harg14 w hw v7 X4 X5 X6 X7).1 X8 (sc (arg4.view.read (Elt Ideal) X4) (arg5.view.read (Elt Ideal) X5) (arg6.view.read (Elt Ideal) X6) (arg7.view.read (Elt Ideal) X7)) (k0_t3_loop w).trips (T4 c i arg3 harg3 arg4 harg4 arg5 harg5 arg6 harg6 arg7 harg7 arg8 harg8 arg9 harg9 arg10 harg10 arg11 harg11 arg12 harg12 arg13 harg13 arg14 harg14 w hw v7 v21 X4 X5 X6 X7 X8 X14) := by
  rw [T4_eq]
  exact summed_st Variants.none c none i arg3 harg3 arg4 harg4 arg5 harg5 arg6 harg6 arg7 harg7 arg8 harg8 arg9 harg9 arg10 harg10 arg11 harg11 arg12 harg12 arg13 harg13 arg14 harg14 w hw hv _ X8 _ (sc (arg4.view.read (Elt Ideal) X4) (arg5.view.read (Elt Ideal) X5) (arg6.view.read (Elt Ideal) X6) (arg7.view.read (Elt Ideal) X7)) (fun y hy => read14 c i arg3 harg3 arg4 harg4 arg5 harg5 arg6 harg6 arg7 harg7 arg8 harg8 arg9 harg9 arg10 harg10 arg11 harg11 arg12 harg12 arg13 harg13 arg14 harg14 w hw v7 X4 X5 X6 X7 X14 hv y hy) _ le_rfl

include hv in
theorem block_total (l : Fin 512) :
    k0_pay418 (T4 c i arg3 harg3 arg4 harg4 arg5 harg5 arg6 harg6 arg7 harg7 arg8 harg8 arg9 harg9 arg10 harg10 arg11 harg11 arg12 harg12 arg13 harg13 arg14 harg14 w hw v7 v21 X4 X5 X6 X7 X8 X14).1 (ix2 0 l) = total (1536 * w.toInt.toNat) (fun K => (sc (arg4.view.read (Elt Ideal) X4) (arg5.view.read (Elt Ideal) X5) (arg6.view.read (Elt Ideal) X6) (arg7.view.read (Elt Ideal) X7)) K l) := by
  have h := (block_sums c i arg3 harg3 arg4 harg4 arg5 harg5 arg6 harg6 arg7 harg7 arg8 harg8 arg9 harg9 arg10 harg10 arg11 harg11 arg12 harg12 arg13 harg13 arg14 harg14 w hw v7 v21 X4 X5 X6 X7 X8 X14 hv).1
  rw [pay418_apply]
  unfold total
  rw [← block_shift c i arg3 harg3 arg4 harg4 arg5 harg5 arg6 harg6 arg7 harg7 arg8 harg8 arg9 harg9 arg10 harg10 arg11 harg11 arg12 harg12 arg13 harg13 arg14 harg14 w hw v7 X4 X5 X6 X7 hv l]
  rw [show 1536 * w.toInt.toNat = 8 * (192 * (k0_t3_loop w).trips) by rw [show (k0_t3_loop w).trips = _ from trips_whole w]; omega, ← sum_runs, Finset.sum_comm]
  refine Finset.sum_congr rfl fun j _ => ?_
  rw [h, ← Fin.sum_univ_eq_sum_range (fun k => wgt ((sc (arg4.view.read (Elt Ideal) X4) (arg5.view.read (Elt Ideal) X5) (arg6.view.read (Elt Ideal) X6) (arg7.view.read (Elt Ideal) X7)) (8 * k + j.val) l) _)]

include hv in
theorem block_mixed (d : Fin 64) (l : Fin 512) :
    (T4 c i arg3 harg3 arg4 harg4 arg5 harg5 arg6 harg6 arg7 harg7 arg8 harg8 arg9 harg9 arg10 harg10 arg11 harg11 arg12 harg12 arg13 harg13 arg14 harg14 w hw v7 v21 X4 X5 X6 X7 X8 X14).2 (ix2 d l) = mixed (1536 * w.toInt.toNat) (fun K => (sc (arg4.view.read (Elt Ideal) X4) (arg5.view.read (Elt Ideal) X5) (arg6.view.read (Elt Ideal) X6) (arg7.view.read (Elt Ideal) X7)) K l) (val (arg8.view.read (Elt Ideal) X8) d) := by
  have h := (block_sums c i arg3 harg3 arg4 harg4 arg5 harg5 arg6 harg6 arg7 harg7 arg8 harg8 arg9 harg9 arg10 harg10 arg11 harg11 arg12 harg12 arg13 harg13 arg14 harg14 w hw v7 v21 X4 X5 X6 X7 X8 X14 hv).2
  rw [h]
  unfold mixed
  rw [← block_shift c i arg3 harg3 arg4 harg4 arg5 harg5 arg6 harg6 arg7 harg7 arg8 harg8 arg9 harg9 arg10 harg10 arg11 harg11 arg12 harg12 arg13 harg13 arg14 harg14 w hw v7 X4 X5 X6 X7 hv l, show (k0_t3_loop w).trips = _ from trips_whole w]

variable (v5 : Vec Ideal S1x1x64x1 .f32) (v6 : Vec Ideal S1x1x1x512 .f32)

include hv in
theorem block_out (l : Fin 512) (d : Fin 64) :
    k0_pay419 (T4 c i arg3 harg3 arg4 harg4 arg5 harg5 arg6 harg6 arg7 harg7 arg8 harg8 arg9 harg9 arg10 harg10 arg11 harg11 arg12 harg12 arg13 harg13 arg14 harg14 w hw v7 v21 X4 X5 X6 X7 X8 X14).1 (T4 c i arg3 harg3 arg4 harg4 arg5 harg5 arg6 harg6 arg7 harg7 arg8 harg8 arg9 harg9 arg10 harg10 arg11 harg11 arg12 harg12 arg13 harg13 arg14 harg14 w hw v7 v21 X4 X5 X6 X7 X8 X14).2 v5 (ix2 l d)
      = outO (1536 * w.toInt.toNat) (arg4.view.read (Elt Ideal) X4) (arg5.view.read (Elt Ideal) X5) (arg6.view.read (Elt Ideal) X6) (arg7.view.read (Elt Ideal) X7) (arg8.view.read (Elt Ideal) X8) v5 l d := by
  rw [pay419_apply, block_total _ _ _ _ _ _ _ _ _ _ _ _ _ _ _ _ _ _ _ _ _ _ _ _ _ _ _ _ _ _ _ _ _ _ _ _ hv, block_mixed _ _ _ _ _ _ _ _ _ _ _ _ _ _ _ _ _ _ _ _ _ _ _ _ _ _ _ _ _ _ _ _ _ _ _ _ hv]
  rfl

include hv in
theorem block_log (l : Fin 512) :
    k0_pay3 (k0_pay409 (T2 c i arg3 harg3 arg4 harg4 arg5 harg5 arg6 harg6 arg7 harg7 arg8 harg8 arg9 harg9 arg10 harg10 arg11 harg11 arg12 harg12 arg13 harg13 arg14 harg14 w hw v7 X4 X5 X6 X7).1) (k0_pay418 (T4 c i arg3 harg3 arg4 harg4 arg5 harg5 arg6 harg6 arg7 harg7 arg8 harg8 arg9 harg9 arg10 harg10 arg11 harg11 arg12 harg12 arg13 harg13 arg14 harg14 w hw v7 v21 X4 X5 X6 X7 X8 X14).1) v6 (ix4 0 0 0 l)
      = outL (1536 * w.toInt.toNat) (arg4.view.read (Elt Ideal) X4) (arg5.view.read (Elt Ideal) X5) (arg6.view.read (Elt Ideal) X6) (arg7.view.read (Elt Ideal) X7) v6 l := by
  rw [pay3_apply, block_total _ _ _ _ _ _ _ _ _ _ _ _ _ _ _ _ _ _ _ _ _ _ _ _ _ _ _ _ _ _ _ _ _ _ _ _ hv, block_shift _ _ _ _ _ _ _ _ _ _ _ _ _ _ _ _ _ _ _ _ _ _ _ _ _ _ _ _ _ _ _ _ _ hv]
  rfl

end Block

end Cert.AttentionIdeal.Gen

end
-- ==== Proof.AttentionIdealValueBody.lean ====
/- The body of `AttentionIdeal`'s region at any grid point, its outputs named: on staged inputs it leaves in the three output blocks
   the attention of the keys seen and its logarithms, as `outO` and `outL` state them. -/
module

public import proofs.«01_k».proof.Proof.AttentionIdealBlock

@[expose] public section

set_option maxRecDepth 16384

noncomputable section

namespace Cert.AttentionIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- One store of the whole of a view. -/
theorem read_full {κ : Kind} {sp : Space} {S : Shape} {e : EltTy} (v : View sig κ sp S e) (f : v.ty.Contents (Elt Ideal)) (off : Fin S.rank → ℕ) (inb : ∀ a, off a + S.size a ≤ S.size a) (P : S.Idx → Elt Ideal e) :
    v.read (Elt Ideal) (v.writes (Elt Ideal) f [⟨Rect.unit off S.size inb, P⟩]) = P :=
  funext fun y => View.read_writes_apply_of_pieces (Val := Elt Ideal) v f P _
    (fun p hp x => by
      obtain rfl := List.mem_singleton.1 hp
      exact congrArg P (Eq.symm (unit_idx (inb := inb) (off' := fun _ => 0) (funext fun a => by have := inb a; omega) x x fun a => Nat.zero_add (x a).val)))
    y ⟨_, List.mem_singleton.2 rfl, (Rect.mem_set_unit (inb := inb)).2 fun a => by
      have h := inb a
      have h0 : off a = 0 := by omega
      have := (y a).isLt
      constructor <;> omega⟩

/-- One load of the whole of a view. -/
theorem readAt_full {κ : Kind} {sp : Space} {S : Shape} {e : EltTy} (v : View sig κ sp S e) (f : v.ty.Contents (Elt Ideal)) (off : Fin S.rank → ℕ) (inb : ∀ a, off a + S.size a ≤ S.size a) :
    View.readAt (Elt Ideal) v (Rect.unit off S.size inb).toLoadRect f = v.read (Elt Ideal) f :=
  funext fun x => congrArg (v.read (Elt Ideal) f) (unit_idx (inb := inb) (off' := fun _ => 0) (funext fun a => by have := inb a; omega) x x fun a => Nat.zero_add (x a).val)

/-- The table's word at a point is the batch's. -/
theorem word_eq (i : grid0.Coords) (arg3 : Memref sig .tc .smem S2 .i32) (f : arg3.view.ty.Contents (Elt Ideal)) (inb : ∀ a, k0_off1 i a + S1.size a ≤ S2.size a) (h : 0 < (Rect.unit (s := S2) (k0_off1 i) S1.size inb).toLoadRect.shape.numel) :
    View.readAt (Elt Ideal) arg3.view (Rect.unit (s := S2) (k0_off1 i) S1.size inb).toLoadRect f (Shape.Idx.first h) = arg3.view.read (Elt Ideal) f (ix1 (i 0)) := by
  refine congrArg (arg3.view.read (Elt Ideal) f) (unit_idx (off' := ![(i 0).val]) ?_ _ _ fun a => ?_)
  · funext a; fin_cases a
    show (BitVec.ofNat 32 (i 0).val).toNat = (i 0).val
    have := (i 0).isLt
    rw [BitVec.toNat_ofNat]; have : (i 0).val < 2 := this; omega
  · fin_cases a; rfl

/-- The keys seen at a point. -/
def keysAt (i : grid0.Coords) (f : S2.Idx → BitVec 32) : ℕ := 1536 * (f (ix1 (i 0))).toInt.toNat

theorem ix4_unit (y : S1x1x512x64.Idx) : y = ix4 (0 : Fin 1) (0 : Fin 1) (y 2) (y 3) :=
  funext fun a => by
    fin_cases a
    · exact Subsingleton.elim (α := Fin 1) _ _
    · exact Subsingleton.elim (α := Fin 1) _ _
    · rfl
    · rfl
theorem ix4_unit' (y : S1x1x1x512.Idx) : y = ix4 (0 : Fin 1) (0 : Fin 1) (0 : Fin 1) (y 3) :=
  funext fun a => by
    fin_cases a
    · exact Subsingleton.elim (α := Fin 1) _ _
    · exact Subsingleton.elim (α := Fin 1) _ _
    · exact Subsingleton.elim (α := Fin 1) _ _
    · rfl

set_option maxHeartbeats 4000000 in
/-- The kernel body on whole staging memrefs, the inputs' at read contents, outputs and scratch at anything, no word of the table
    above the sequence's five chunks: it runs to the continuation holding the inputs as they were and the outputs at their values. -/
theorem sound_kernel_v (c : Dev nD) (E : Set ℕ) (i : grid0.Coords) (arg3 : Memref sig .tc .smem S2 .i32) (harg3 : arg3.IsWhole) (arg4 : Memref sig .tc .vmem S1x1x7680x128 .bf16) (harg4 : arg4.IsWhole) (arg5 : Memref sig .tc .vmem S1x1x1x7680x128 .bf16) (harg5 : arg5.IsWhole) (arg6 : Memref sig .tc .vmem S1x1x960x128 .f32) (harg6 : arg6.IsWhole) (arg7 : Memref sig .tc .vmem S1x1x512x256 .bf16) (harg7 : arg7.IsWhole) (arg8 : Memref sig .tc .vmem S1x64x7680 .fp8e4m3) (harg8 : arg8.IsWhole) (arg9 : Memref sig .tc .vmem S1x1x64x1 .f32) (harg9 : arg9.IsWhole) (arg10 : Memref sig .tc .vmem S1x1x1x512 .f32) (harg10 : arg10.IsWhole) (arg11 : Memref sig .tc .vmem S1x1x512x64 .bf16) (harg11 : arg11.IsWhole) (arg12 : Memref sig .tc .vmem S1x1x512x64 .f32) (harg12 : arg12.IsWhole) (arg13 : Memref sig .tc .vmem S1x1x1x512 .f32) (harg13 : arg13.IsWhole) (arg14 : Memref sig .tc .vmem S7680x512 .f32) (harg14 : arg14.IsWhole)
    (f3 : TbBuf0 (F := Ideal) c arg3) (x0 : Vec Ideal S1x1x7680x128 .bf16) (x1 : Vec Ideal S1x1x1x7680x128 .bf16) (x2 : Vec Ideal S1x1x960x128 .f32) (x3 : Vec Ideal S1x1x512x256 .bf16) (x4 : Vec Ideal S1x64x7680 .fp8e4m3) (x5 : Vec Ideal S1x1x64x1 .f32) (x6 : Vec Ideal S1x1x1x512 .f32)
    (hchk : ∀ j, k0_chk1 (arg3.view.read (Elt Ideal) f3 j)) (hle : ∀ j, (arg3.view.read (Elt Ideal) f3 j).toInt ≤ 5) (K : PUnit → sProp (MT nD τ sig Unit (Elt Ideal) ℕ (UR sig nD τ) ℕ)) :
    iprop(tbPt0 c arg3 f3 ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(tbPt0 c arg3 f3 ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (fun y : S1x1x512x64.Idx => (outO (keysAt i (arg3.view.read (Elt Ideal) f3)) x0 x1 x2 x3 x4 x5 (y 2) (y 3) : EReal)) ∗ owns (c : Thread nD τ) arg12 fullShare (fun y : S1x1x512x64.Idx => (outO (keysAt i (arg3.view.read (Elt Ideal) f3)) x0 x1 x2 x3 x4 x5 (y 2) (y 3) : EReal)) ∗ owns (c : Thread nD τ) arg13 fullShare (fun y : S1x1x1x512.Idx => (outL (keysAt i (arg3.view.read (Elt Ideal) f3)) x0 x1 x2 x3 x6 (y 3) : EReal)) ∗ (∃ d, owns (c : Thread nD τ) arg14 fullShare d)) -∗ K ⟨⟩))
      ⊢ wp frame (wpE (defs₀ (F := Ideal)) Variants.none c none) E (cc0_attention i arg3 harg3 arg4 harg4 arg5 harg5 arg6 harg6 arg7 harg7 arg8 harg8 arg9 harg9 arg10 harg10 arg11 harg11 arg12 harg12 arg13 harg13 arg14 harg14) K := by
  simp only [cc0_attention_eq_skeleton]; unfold cc0_attention_skel
  simp only [k0_part51_eq_skeleton]
  unfold owns
  iintro ⟨HT, ⟨%f0, %hf0, H0⟩, ⟨%f1, %hf1, H1⟩, ⟨%f2, %hf2, H2⟩, ⟨%f3', %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec (disch := first | exact hchk _)
  sl_step
  iapply Hk
  isplitl [HT]; · iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3'; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro
    refine (read_full arg11.view _ _ _ _).trans (funext fun y => ?_)
    refine (congrArg _ (ix4_unit y)).trans ((pay2_apply _ (y 2) (y 3)).trans ?_)
    unfold keysAt
    rw [← word_eq i arg3 f3 (k0_off1_inb i) (show 0 < S1.numel by decide), ← readAt_full arg9.view f5 ![0, 0, 0, 0] inb_S1x1x64x1_S1x1x64x1_0_0_0_0]
    exact block_out c i arg3 harg3 arg4 harg4 arg5 harg5 arg6 harg6 arg7 harg7 arg8 harg8 arg9 harg9 arg10 harg10 arg11 harg11 arg12 harg12 arg13 harg13 arg14 harg14 _ (hchk _) _ _ f0 f1 f2 f3' f4 f10 (hle _) _ (y 2) (y 3)
  isplitl [H8]
  · iexists _; isplitr; swap; · iexact H8
    ipureintro
    refine (read_full arg12.view _ _ _ _).trans (funext fun y => ?_)
    refine (congrArg _ (ix4_unit y)).trans ((pay1_apply _ (y 2) (y 3)).trans ?_)
    unfold keysAt
    rw [← word_eq i arg3 f3 (k0_off1_inb i) (show 0 < S1.numel by decide), ← readAt_full arg9.view f5 ![0, 0, 0, 0] inb_S1x1x64x1_S1x1x64x1_0_0_0_0]
    exact block_out c i arg3 harg3 arg4 harg4 arg5 harg5 arg6 harg6 arg7 harg7 arg8 harg8 arg9 harg9 arg10 harg10 arg11 harg11 arg12 harg12 arg13 harg13 arg14 harg14 _ (hchk _) _ _ f0 f1 f2 f3' f4 f10 (hle _) _ (y 2) (y 3)
  isplitl [H9]
  · iexists _; isplitr; swap; · iexact H9
    ipureintro
    refine (read_full arg13.view _ _ _ _).trans (funext fun y => ?_)
    refine (congrArg _ (ix4_unit' y)).trans ?_
    unfold keysAt
    rw [← word_eq i arg3 f3 (k0_off1_inb i) (show 0 < S1.numel by decide), ← readAt_full arg10.view f6 ![0, 0, 0, 0] inb_S1x1x1x512_S1x1x1x512_0_0_0_0]
    exact block_log c i arg3 harg3 arg4 harg4 arg5 harg5 arg6 harg6 arg7 harg7 arg8 harg8 arg9 harg9 arg10 harg10 arg11 harg11 arg12 harg12 arg13 harg13 arg14 harg14 _ (hchk _) _ _ f0 f1 f2 f3' f4 f10 (hle _) _ (y 3)
  iexists _, _; isplitr; swap; · iexact H10
  ipureintro; rfl

end Cert.AttentionIdeal.Gen

end
-- ==== Proof.AttentionIdealValue.lean ====
/- The run of `AttentionIdeal` with its outputs named: what each output array holds at the end, block by block. -/
module

public import proofs.«01_k».proof.Proof.AttentionIdealFrame
public import proofs.«01_k».proof.Proof.AttentionIdealValueBody

@[expose] public section

set_option maxRecDepth 16384

noncomputable section

namespace Cert.AttentionIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- No word of the table names more than the sequence's five chunks. -/
abbrev Within : Prop := ∀ j, (tbM0_0.view.read (Elt Ideal) (tbl m 0) j).toInt ≤ 5

/-- The attention block at point `t`. -/
def blockO (hO : Ok m) (c : Dev nD) (t : Fin (cfgM m hO).N) (y : S1x1x512x64.Idx) : EReal :=
  outO (keysAt (grid0.coords t) (tbM0_0.view.read (Elt Ideal) (tbl m 0))) (iblk m hO c 0 t) (iblk m hO c 1 t) (iblk m hO c 2 t) (iblk m hO c 3 t) (iblk m hO c 4 t) (iblk m hO c 5 t) (y 2) (y 3)

/-- The logarithms' block at point `t`. -/
def blockL (hO : Ok m) (c : Dev nD) (t : Fin (cfgM m hO).N) (y : S1x1x1x512.Idx) : EReal :=
  outL (keysAt (grid0.coords t) (tbM0_0.view.read (Elt Ideal) (tbl m 0))) (iblk m hO c 0 t) (iblk m hO c 1 t) (iblk m hO c 2 t) (iblk m hO c 3 t) (iblk m hO c 6 t) (y 3)

/-- The pipeline's proof data: the arrays as launched, every input's buffer left at its block, the outputs at their values. -/
def datsV (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => blockO m hO c t
    | ⟨8, _⟩ => blockO m hO c t
    | ⟨9, _⟩ => blockL m hO c t
    | ⟨_ + 10, h⟩ => absurd h (Nat.not_lt.2 (Nat.le_add_left _ _))
  Φ _ := iprop(Pipeline.ΦA spec0 c ∗ Pipeline.ΦT pre0 (tbl m) c)
  q _ := fullShare
  owed _ := 0

theorem A_eqV (hO : Ok m) (c : Dev nD) (w : Fin (cfgM m hO).W) : (datsV m hO 0 c).A w = V m c (Pipeline.arrRef spec0 w) := by
  dsimp only [datsV]

theorem after0_0V (hO : Ok m) (c : Dev nD) (t : Fin (cfgM m hO).N) : (datsV m hO 0 c).after 0 t = iblk m hO c 0 t := by dsimp only [datsV]; try rfl
theorem after0_1V (hO : Ok m) (c : Dev nD) (t : Fin (cfgM m hO).N) : (datsV m hO 0 c).after 1 t = iblk m hO c 1 t := by dsimp only [datsV]; try rfl
theorem after0_2V (hO : Ok m) (c : Dev nD) (t : Fin (cfgM m hO).N) : (datsV m hO 0 c).after 2 t = iblk m hO c 2 t := by dsimp only [datsV]; try rfl
theorem after0_3V (hO : Ok m) (c : Dev nD) (t : Fin (cfgM m hO).N) : (datsV m hO 0 c).after 3 t = iblk m hO c 3 t := by dsimp only [datsV]; try rfl
theorem after0_4V (hO : Ok m) (c : Dev nD) (t : Fin (cfgM m hO).N) : (datsV m hO 0 c).after 4 t = iblk m hO c 4 t := by dsimp only [datsV]; try rfl
theorem after0_5V (hO : Ok m) (c : Dev nD) (t : Fin (cfgM m hO).N) : (datsV m hO 0 c).after 5 t = iblk m hO c 5 t := by dsimp only [datsV]; try rfl
theorem after0_6V (hO : Ok m) (c : Dev nD) (t : Fin (cfgM m hO).N) : (datsV m hO 0 c).after 6 t = iblk m hO c 6 t := by dsimp only [datsV]; try rfl
theorem after0_7V (hO : Ok m) (c : Dev nD) (t : Fin (cfgM m hO).N) : (datsV m hO 0 c).after 7 t = blockO m hO c t := by dsimp only [datsV]; try rfl
theorem after0_8V (hO : Ok m) (c : Dev nD) (t : Fin (cfgM m hO).N) : (datsV m hO 0 c).after 8 t = blockO m hO c t := by dsimp only [datsV]; try rfl
theorem after0_9V (hO : Ok m) (c : Dev nD) (t : Fin (cfgM m hO).N) : (datsV m hO 0 c).after 9 t = blockL m hO c t := by dsimp only [datsV]; try rfl
theorem before0_0V (hO : Ok m) (c : Dev nD) (t : Fin (cfgM m hO).N) (d) : (datsV m hO 0 c).before 0 t d = iblk m hO c 0 t :=
  before0_0_of m hO (datsV m hO 0 c) (A_eqV m hO c 0) (after0_0V m hO c) t d
theorem before0_1V (hO : Ok m) (c : Dev nD) (t : Fin (cfgM m hO).N) (d) : (datsV m hO 0 c).before 1 t d = iblk m hO c 1 t :=
  before0_1_of m hO (datsV m hO 0 c) (A_eqV m hO c 1) (after0_1V m hO c) t d
theorem before0_2V (hO : Ok m) (c : Dev nD) (t : Fin (cfgM m hO).N) (d) : (datsV m hO 0 c).before 2 t d = iblk m hO c 2 t :=
  before0_2_of m hO (datsV m hO 0 c) (A_eqV m hO c 2) (after0_2V m hO c) t d
theorem before0_3V (hO : Ok m) (c : Dev nD) (t : Fin (cfgM m hO).N) (d) : (datsV m hO 0 c).before 3 t d = iblk m hO c 3 t :=
  before0_3_of m hO (datsV m hO 0 c) (A_eqV m hO c 3) (after0_3V m hO c) t d
theorem before0_4V (hO : Ok m) (c : Dev nD) (t : Fin (cfgM m hO).N) (d) : (datsV m hO 0 c).before 4 t d = iblk m hO c 4 t :=
  before0_4_of m hO (datsV m hO 0 c) (A_eqV m hO c 4) (after0_4V m hO c) t d
theorem before0_5V (hO : Ok m) (c : Dev nD) (t : Fin (cfgM m hO).N) (d) : (datsV m hO 0 c).before 5 t d = iblk m hO c 5 t :=
  before0_5_of m hO (datsV m hO 0 c) (A_eqV m hO c 5) (after0_5V m hO c) t d
theorem before0_6V (hO : Ok m) (c : Dev nD) (t : Fin (cfgM m hO).N) (d) : (datsV m hO 0 c).before 6 t d = iblk m hO c 6 t :=
  before0_6_of m hO (datsV m hO 0 c) (A_eqV m hO c 6) (after0_6V m hO c) t d

/-- What the body is called with at point `t`, the windows one by one. -/
def bodyPreV (hO : Ok m) (c : Dev nD) (t : Fin (cfgM m hO).N) : sProp (MT nD τ sig Unit (Elt Ideal) ℕ (UR sig nD τ) ℕ) :=
  iprop((datsV m hO 0 c).Φ t.castSucc ∗ (datsV m hO 0 c).owesAt () t.castSucc
    ∗ (∃ d, owns (c : Thread nD τ) (ms0_0 m hO t) fullShare ((datsV m hO 0 c).before 0 t d))
    ∗ (∃ d, owns (c : Thread nD τ) (ms0_1 m hO t) fullShare ((datsV m hO 0 c).before 1 t d))
    ∗ (∃ d, owns (c : Thread nD τ) (ms0_2 m hO t) fullShare ((datsV m hO 0 c).before 2 t d))
    ∗ (∃ d, owns (c : Thread nD τ) (ms0_3 m hO t) fullShare ((datsV m hO 0 c).before 3 t d))
    ∗ (∃ d, owns (c : Thread nD τ) (ms0_4 m hO t) fullShare ((datsV m hO 0 c).before 4 t d))
    ∗ (∃ d, owns (c : Thread nD τ) (ms0_5 m hO t) fullShare ((datsV m hO 0 c).before 5 t d))
    ∗ (∃ d, owns (c : Thread nD τ) (ms0_6 m hO t) fullShare ((datsV m hO 0 c).before 6 t d))
    ∗ (∃ d, owns (c : Thread nD τ) (ms0_7 m hO t) fullShare ((datsV m hO 0 c).before 7 t d))
    ∗ (∃ d, owns (c : Thread nD τ) (ms0_8 m hO t) fullShare ((datsV m hO 0 c).before 8 t d))
    ∗ (∃ d, owns (c : Thread nD τ) (ms0_9 m hO t) fullShare ((datsV m hO 0 c).before 9 t d)))

/-- What the body returns at point `t`. -/
def bodyPostV (hO : Ok m) (c : Dev nD) (t : Fin (cfgM m hO).N) : sProp (MT nD τ sig Unit (Elt Ideal) ℕ (UR sig nD τ) ℕ) :=
  iprop((datsV m hO 0 c).Φ t.succ ∗ (datsV m hO 0 c).owesAt () t.succ
    ∗ owns (c : Thread nD τ) (ms0_0 m hO t) fullShare ((datsV m hO 0 c).after 0 t)
    ∗ owns (c : Thread nD τ) (ms0_1 m hO t) fullShare ((datsV m hO 0 c).after 1 t)
    ∗ owns (c : Thread nD τ) (ms0_2 m hO t) fullShare ((datsV m hO 0 c).after 2 t)
    ∗ owns (c : Thread nD τ) (ms0_3 m hO t) fullShare ((datsV m hO 0 c).after 3 t)
    ∗ owns (c : Thread nD τ) (ms0_4 m hO t) fullShare ((datsV m hO 0 c).after 4 t)
    ∗ owns (c : Thread nD τ) (ms0_5 m hO t) fullShare ((datsV m hO 0 c).after 5 t)
    ∗ owns (c : Thread nD τ) (ms0_6 m hO t) fullShare ((datsV m hO 0 c).after 6 t)
    ∗ owns (c : Thread nD τ) (ms0_7 m hO t) fullShare ((datsV m hO 0 c).after 7 t)
    ∗ owns (c : Thread nD τ) (ms0_8 m hO t) fullShare ((datsV m hO 0 c).after 8 t)
    ∗ owns (c : Thread nD τ) (ms0_9 m hO t) fullShare ((datsV m hO 0 c).after 9 t))

set_option maxHeartbeats 1000000 in
/-- The body at any point: the inputs' memrefs hold their blocks, so `sound_kernel_v` applies. -/
theorem sound_bodyV (hO : Ok m) (hW : Within m) (c : Dev nD) (t : Fin (cfgM m hO).N) :
    bodyPreV m hO c t ⊢ wp Idealize.ShloMosaic.frame (wpE (defs₀ (F := Ideal)) Variants.none c none) Set.univ (bodyAt0 (adm m hO) t) (fun _ => bodyPostV m hO c t) := by
  unfold bodyPreV bodyPostV bodyAt0
  simp only [before0_0V, before0_1V, before0_2V, before0_3V, before0_4V, before0_5V, before0_6V]
  rw [show (datsV m hO 0 c).Φ t.succ = (datsV m hO 0 c).Φ t.castSucc from rfl,
    show (datsV m hO 0 c).owesAt () t.succ = (datsV m hO 0 c).owesAt () t.castSucc from rfl,
    show (datsV m hO 0 c).Φ t.castSucc = iprop(Pipeline.ΦA spec0 c ∗ Pipeline.ΦT pre0 (tbl m) c) from rfl, PhiA0_eq, PhiT0_eq,
    after0_0V, after0_1V, after0_2V, after0_3V, after0_4V, after0_5V, after0_6V, after0_7V, after0_8V, after0_9V]
  iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel_v c Set.univ (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (Memref.whole cc0_scratch0) (Memref.isWhole_whole _) (tbl m 0) (iblk m hO c 0 t) (iblk m hO c 1 t) (iblk m hO c 2 t) (iblk m hO c 3 t) (iblk m hO c 4 t) (iblk m hO c 5 t) (iblk m hO c 6 t) (fun j => chk_of_le _ (hW j)) hW _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; iexact H7
  isplitl [H8]
  · iexists _; iexact H8
  isplitl [H9]
  · iexists _; iexact H9
  isplitl [HS]; · iexact HS
  iintro ⟨HT, H0, H1, H2, H3, H4, H5, H6, H7, H8, H9, HS⟩
  isplitl [HS Hg HT]
  · isplitl [HS Hg]
    · isplitl [HS]; · iexact HS
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligationV (hO : Ok m) (hW : Within m) (c : Dev nD) : BodyObligation (datsV m hO 0 c) (defs₀ (F := Ideal)) Variants.none () Set.univ := fun t => by
  rw [bigSep_W0, bigSep_W0, defs₀_row]
  exact triple_restated (sound_bodyV m hO hW c t) rfl .rfl fun _ => .rfl

set_option backward.isDefEq.respectTransparency.types false in
set_option maxHeartbeats 800000 in
/-- The launch: every array of the pipeline at what its blocks make of it, and every semaphore counter at zero. -/
theorem run_main_quiescentV (hO : Ok m) (hW : Within m) : θ_run defs (onTc (τ := τ) (main (F := Ideal))) (s₀ m ρ) (fun r => (Pipeline.FramePost (Pipeline.pin pcfgs fun _ => adm m hO) (datsV m hO) 0 (V m)) r ∧ r.2.sem = fun _ => 0) :=
  Pipeline.θ_run_frameP (Q' := _) pcfgs (fun _ => adm m hO) (datsV m hO) (0 : Fin 1) launch0 defs₀ Variants.none m ρ main
    (hbody := fun c => (body_obligationV m hO hW c).loose) (hshare := fun c => (datsV m hO 0 c).share_full fun _ => rfl)
    (howed := fun _ _ => rfl) (V := V m) (hmain := hmain m Variants.none) (hA := A_eqV m hO) (hpf := V_pre m) (hΦ := fun _ _ => rfl)

end Cert.AttentionIdeal.Gen

end
-- ==== Proof.AttentionIdealOut.lean ====
/- The arrays that the run of `AttentionIdeal` leaves, as functions of the arrays it is given. -/
module

public import proofs.«01_k».proof.Proof.AttentionIdealValue
public import Idealize.ShloMosaic.Lib.Pipeline.ValueKit
public import Idealize.ShloMosaic.Lib.Pipeline.Covers
public import Idealize.ShloMosaic.Lib.Pointwise

@[expose] public section

set_option maxRecDepth 16384

noncomputable section

namespace Cert.AttentionIdeal.Gen

open Idealize.ShloMosaic Idealize.ShloMosaic.TcCoe Idealize.ShloMosaic.Tactic
open Idealize.ShloMosaic.Pipeline (Dat Cfg Window)

section Whole

variable (a0 : S2.Idx → BitVec 32) (a1 : S2x24x7680x128.Idx → EReal) (a2 : S2x24x3x7680x128.Idx → EReal) (a3 : S2x24x960x128.Idx → EReal)
  (a4 : S2x24x7680x256.Idx → EReal) (a5 : S2x1536x7680.Idx → EReal) (a6 : S2x24x64x1.Idx → EReal) (a7 : S2x24x1x7680.Idx → EReal)

/-- The keys that batch `b` sees. -/
def seen (b : Fin 2) : ℕ := 1536 * (a0 (ix1 b)).toInt.toNat

/-- The score of key `K` at query `r` of head `h` of batch `b`. -/
def score (b : Fin 2) (h : Fin 24) (r : Fin 7680) (K : ℕ) : EReal :=
  (∑ x : Fin 128, a1 (ix4 b h ⟨K % 7680, by omega⟩ x) * a4 (ix4 b h r ⟨x.val, by omega⟩)
    + ∑ x : Fin 128, a2 (ix5 b h ⟨r.val / 2560, by omega⟩ ⟨K % 7680, by omega⟩ x) * a4 (ix4 b h r ⟨128 + x.val, by omega⟩))
    * a3 (ix4 b h ⟨(K / 64 * 8 + K % 8) % 960, by omega⟩ ⟨r.val % 128, by omega⟩)

/-- The attention of query `r`, lane `d`. -/
def attn (b : Fin 2) (h : Fin 24) (r : Fin 7680) (d : Fin 64) : EReal :=
  Ideal.div (mixed (seen a0 b) (score a1 a2 a3 a4 b h r) (fun K => a5 (ix3 b ⟨64 * h.val + d.val, by omega⟩ ⟨K % 7680, by omega⟩)) * a6 (ix4 b h d 0))
    (total (seen a0 b) (score a1 a2 a3 a4 b h r))

/-- The logarithm at query `r`. -/
def lse (b : Fin 2) (h : Fin 24) (r : Fin 7680) : EReal := logsum (seen a0 b) (score a1 a2 a3 a4 b h r) (a7 (ix4 b h 0 r))

end Whole

/-! ## The index maps -/

theorem map0_0 : ∀ t : Fin grid0.N, cc0_transform_0 (grid0.coords t) = ![(grid0.coords t 0).val, (grid0.coords t 1).val, 0, 0] := by decide +kernel
theorem map0_1 : ∀ t : Fin grid0.N, cc0_transform_1 (grid0.coords t) = ![(grid0.coords t 0).val, (grid0.coords t 1).val, (grid0.coords t 2).val / 5, 0, 0] := by decide +kernel
theorem map0_2 : ∀ t : Fin grid0.N, cc0_transform_2 (grid0.coords t) = ![(grid0.coords t 0).val, (grid0.coords t 1).val, 0, 0] := by decide +kernel
theorem map0_3 : ∀ t : Fin grid0.N, cc0_transform_3 (grid0.coords t) = ![(grid0.coords t 0).val, (grid0.coords t 1).val, (grid0.coords t 2).val, 0] := by decide +kernel
theorem map0_4 : ∀ t : Fin grid0.N, cc0_transform_4 (grid0.coords t) = ![(grid0.coords t 0).val, (grid0.coords t 1).val, 0] := by decide +kernel
theorem map0_5 : ∀ t : Fin grid0.N, cc0_transform_5 (grid0.coords t) = ![(grid0.coords t 0).val, (grid0.coords t 1).val, 0, 0] := by decide +kernel
theorem map0_6 : ∀ t : Fin grid0.N, cc0_transform_6 (grid0.coords t) = ![(grid0.coords t 0).val, (grid0.coords t 1).val, 0, (grid0.coords t 2).val] := by decide +kernel
theorem map0_7 : ∀ t : Fin grid0.N, cc0_transform_7 (grid0.coords t) = ![(grid0.coords t 0).val, (grid0.coords t 1).val, (grid0.coords t 2).val, 0] := by decide +kernel
theorem map0_8 : ∀ t : Fin grid0.N, cc0_transform_8 (grid0.coords t) = ![(grid0.coords t 0).val, (grid0.coords t 1).val, (grid0.coords t 2).val, 0] := by decide +kernel
theorem map0_9 : ∀ t : Fin grid0.N, cc0_transform_9 (grid0.coords t) = ![(grid0.coords t 0).val, (grid0.coords t 1).val, 0, (grid0.coords t 2).val] := by decide +kernel

variable (m : (ℓ : Loc nD τ sig) → Buf (Elt Ideal) ℓ)

theorem idx0_0 (hO : Ok m) (t : Fin (cfgM m hO).N) : ((cfgM m hO).win 0).index t = ![(grid0.coords t 0).val, (grid0.coords t 1).val, 0, 0] := map0_0 t
theorem idx0_1 (hO : Ok m) (t : Fin (cfgM m hO).N) : ((cfgM m hO).win 1).index t = ![(grid0.coords t 0).val, (grid0.coords t 1).val, (grid0.coords t 2).val / 5, 0, 0] := map0_1 t
theorem idx0_2 (hO : Ok m) (t : Fin (cfgM m hO).N) : ((cfgM m hO).win 2).index t = ![(grid0.coords t 0).val, (grid0.coords t 1).val, 0, 0] := map0_2 t
theorem idx0_3 (hO : Ok m) (t : Fin (cfgM m hO).N) : ((cfgM m hO).win 3).index t = ![(grid0.coords t 0).val, (grid0.coords t 1).val, (grid0.coords t 2).val, 0] := map0_3 t
theorem idx0_4 (hO : Ok m) (t : Fin (cfgM m hO).N) : ((cfgM m hO).win 4).index t = ![(grid0.coords t 0).val, (grid0.coords t 1).val, 0] := map0_4 t
theorem idx0_5 (hO : Ok m) (t : Fin (cfgM m hO).N) : ((cfgM m hO).win 5).index t = ![(grid0.coords t 0).val, (grid0.coords t 1).val, 0, 0] := map0_5 t
theorem idx0_6 (hO : Ok m) (t : Fin (cfgM m hO).N) : ((cfgM m hO).win 6).index t = ![(grid0.coords t 0).val, (grid0.coords t 1).val, 0, (grid0.coords t 2).val] := map0_6 t
theorem idx0_7 (hO : Ok m) (t : Fin (cfgM m hO).N) : ((cfgM m hO).win 7).index t = ![(grid0.coords t 0).val, (grid0.coords t 1).val, (grid0.coords t 2).val, 0] := map0_7 t
theorem idx0_8 (hO : Ok m) (t : Fin (cfgM m hO).N) : ((cfgM m hO).win 8).index t = ![(grid0.coords t 0).val, (grid0.coords t 1).val, (grid0.coords t 2).val, 0] := map0_8 t
theorem idx0_9 (hO : Ok m) (t : Fin (cfgM m hO).N) : ((cfgM m hO).win 9).index t = ![(grid0.coords t 0).val, (grid0.coords t 1).val, 0, (grid0.coords t 2).val] := map0_9 t

/-- The point at the coordinates `b`, `h`, `i`. -/
theorem point_at (b : Fin 2) (h : Fin 24) (i : Fin 15) :
    ∃ t : Fin grid0.N, (grid0.coords t 0).val = b.val ∧ (grid0.coords t 1).val = h.val ∧ (grid0.coords t 2).val = i.val := by
  obtain ⟨t, ht⟩ := grid0.coords_surjective (fun | ⟨0, _⟩ => b | ⟨1, _⟩ => h | ⟨2, _⟩ => i)
  exact ⟨t, by rw [ht], by rw [ht], by rw [ht]⟩

theorem covers0_7 (hO : Ok m) : ((cfgM m hO).win 7).Covers :=
  Window.covers_of_index_surj _ rfl (fun a => (by decide : ∀ a : Fin 4, 0 < S1x1x512x64.size a) a) fun β => by
    obtain ⟨t, h0, h1, h2⟩ := point_at ⟨(β (0 : Fin 4)).val, Nat.lt_of_lt_of_eq (β (0 : Fin 4)).isLt (show (S2x24x7680x64.size 0 + S1x1x512x64.size 0 - 1) / S1x1x512x64.size 0 = 2 by decide)⟩ ⟨(β (1 : Fin 4)).val, Nat.lt_of_lt_of_eq (β (1 : Fin 4)).isLt (show (S2x24x7680x64.size 1 + S1x1x512x64.size 1 - 1) / S1x1x512x64.size 1 = 24 by decide)⟩ ⟨(β (2 : Fin 4)).val, Nat.lt_of_lt_of_eq (β (2 : Fin 4)).isLt (show (S2x24x7680x64.size 2 + S1x1x512x64.size 2 - 1) / S1x1x512x64.size 2 = 15 by decide)⟩
    have hz : (β (3 : Fin 4)).val < 1 := Nat.lt_of_lt_of_eq (β (3 : Fin 4)).isLt (show (S2x24x7680x64.size 3 + S1x1x512x64.size 3 - 1) / S1x1x512x64.size 3 = 1 by decide)
    refine ⟨t, fun a => ?_⟩
    rw [idx0_7 m hO t]
    fin_cases a
    · exact h0
    · exact h1
    · exact h2
    · exact (Nat.lt_one_iff.1 hz).symm

theorem covers0_8 (hO : Ok m) : ((cfgM m hO).win 8).Covers :=
  Window.covers_of_index_surj _ rfl (fun a => (by decide : ∀ a : Fin 4, 0 < S1x1x512x64.size a) a) fun β => by
    obtain ⟨t, h0, h1, h2⟩ := point_at ⟨(β (0 : Fin 4)).val, Nat.lt_of_lt_of_eq (β (0 : Fin 4)).isLt (show (S2x24x7680x64.size 0 + S1x1x512x64.size 0 - 1) / S1x1x512x64.size 0 = 2 by decide)⟩ ⟨(β (1 : Fin 4)).val, Nat.lt_of_lt_of_eq (β (1 : Fin 4)).isLt (show (S2x24x7680x64.size 1 + S1x1x512x64.size 1 - 1) / S1x1x512x64.size 1 = 24 by decide)⟩ ⟨(β (2 : Fin 4)).val, Nat.lt_of_lt_of_eq (β (2 : Fin 4)).isLt (show (S2x24x7680x64.size 2 + S1x1x512x64.size 2 - 1) / S1x1x512x64.size 2 = 15 by decide)⟩
    have hz : (β (3 : Fin 4)).val < 1 := Nat.lt_of_lt_of_eq (β (3 : Fin 4)).isLt (show (S2x24x7680x64.size 3 + S1x1x512x64.size 3 - 1) / S1x1x512x64.size 3 = 1 by decide)
    refine ⟨t, fun a => ?_⟩
    rw [idx0_8 m hO t]
    fin_cases a
    · exact h0
    · exact h1
    · exact h2
    · exact (Nat.lt_one_iff.1 hz).symm

theorem covers0_9 (hO : Ok m) : ((cfgM m hO).win 9).Covers :=
  Window.covers_of_index_surj _ rfl (fun a => (by decide : ∀ a : Fin 4, 0 < S1x1x1x512.size a) a) fun β => by
    obtain ⟨t, h0, h1, h2⟩ := point_at ⟨(β (0 : Fin 4)).val, Nat.lt_of_lt_of_eq (β (0 : Fin 4)).isLt (show (S2x24x1x7680.size 0 + S1x1x1x512.size 0 - 1) / S1x1x1x512.size 0 = 2 by decide)⟩ ⟨(β (1 : Fin 4)).val, Nat.lt_of_lt_of_eq (β (1 : Fin 4)).isLt (show (S2x24x1x7680.size 1 + S1x1x1x512.size 1 - 1) / S1x1x1x512.size 1 = 24 by decide)⟩ ⟨(β (3 : Fin 4)).val, Nat.lt_of_lt_of_eq (β (3 : Fin 4)).isLt (show (S2x24x1x7680.size 3 + S1x1x1x512.size 3 - 1) / S1x1x1x512.size 3 = 15 by decide)⟩
    have hz : (β (2 : Fin 4)).val < 1 := Nat.lt_of_lt_of_eq (β (2 : Fin 4)).isLt (show (S2x24x1x7680.size 2 + S1x1x1x512.size 2 - 1) / S1x1x1x512.size 2 = 1 by decide)
    refine ⟨t, fun a => ?_⟩
    rw [idx0_9 m hO t]
    fin_cases a
    · exact h0
    · exact h1
    · exact (Nat.lt_one_iff.1 hz).symm
    · exact h2

/-! ## The blocks read off the arrays -/

theorem two_lt (hO : Ok m) (t : Fin (cfgM m hO).N) (l : Fin 512) : 512 * (grid0.coords t 2).val + l.val < 7680 := by
  have h : (grid0.coords t 2).val < 15 := (grid0.coords t 2).isLt
  omega

theorem score_block (hO : Ok m) (c : Dev nD) (t : Fin (cfgM m hO).N) (K : ℕ) (l : Fin 512) :
    sc (iblk m hO c 0 t) (iblk m hO c 1 t) (iblk m hO c 2 t) (iblk m hO c 3 t) K l
      = score (m ((c.tc : Thread nD τ).loc main_arg1)) (m ((c.tc : Thread nD τ).loc main_arg2)) (m ((c.tc : Thread nD τ).loc main_arg3)) (m ((c.tc : Thread nD τ).loc main_arg4)) (grid0.coords t 0) (grid0.coords t 1) ⟨512 * (grid0.coords t 2).val + l.val, two_lt m hO t l⟩ K := by
  have h2 : (grid0.coords t 2).val < 15 := (grid0.coords t 2).isLt
  unfold sc rowY score
  congr 1
  · congr 1
    · refine Finset.sum_congr rfl fun x _ => ?_
      congr 1 <;> blk_ext [iblk, V, idx0_0 m hO t, idx0_3 m hO t]
    · refine Finset.sum_congr rfl fun x _ => ?_
      congr 1 <;> blk_ext [iblk, V, idx0_1 m hO t, idx0_3 m hO t]
  · blk_ext [iblk, V, idx0_2 m hO t]

theorem val_block (hO : Ok m) (c : Dev nD) (t : Fin (cfgM m hO).N) (K : ℕ) (d : Fin 64) :
    val (iblk m hO c 4 t) d K = (m ((c.tc : Thread nD τ).loc main_arg5)) (ix3 (grid0.coords t 0) ⟨64 * (grid0.coords t 1).val + d.val, by have h : (grid0.coords t 1).val < 24 := (grid0.coords t 1).isLt; omega⟩ ⟨K % 7680, by omega⟩) := by
  have h1 : (grid0.coords t 1).val < 24 := (grid0.coords t 1).isLt
  unfold val
  blk_ext [iblk, V, idx0_4 m hO t]

theorem scale_block (hO : Ok m) (c : Dev nD) (t : Fin (cfgM m hO).N) (d : Fin 64) :
    iblk m hO c 5 t (ix4 0 0 d 0) = (m ((c.tc : Thread nD τ).loc main_arg6)) (ix4 (grid0.coords t 0) (grid0.coords t 1) d 0) := by
  blk_ext [iblk, V, idx0_5 m hO t]

theorem mean_block (hO : Ok m) (c : Dev nD) (t : Fin (cfgM m hO).N) (l : Fin 512) :
    iblk m hO c 6 t (ix4 0 0 0 l) = (m ((c.tc : Thread nD τ).loc main_arg7)) (ix4 (grid0.coords t 0) (grid0.coords t 1) 0 ⟨512 * (grid0.coords t 2).val + l.val, two_lt m hO t l⟩) := by
  blk_ext [iblk, V, idx0_6 m hO t]

theorem seen_block (c : Dev nD) (i : grid0.Coords) : keysAt i (tbM0_0.view.read (Elt Ideal) (tbl m 0)) = seen (m ((c.tc : Thread nD τ).loc main_arg0)) (i 0) := by
  obtain rfl : c = 0 := Subsingleton.elim _ _
  rfl

/-! ## The arrays -/

/-- The attention array. -/
def attnArr (c : Dev nD) (y : S2x24x7680x64.Idx) : EReal :=
  attn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (y 0) (y 1) (y 2) (y 3)

/-- The logarithms' array. -/
def lseArr (c : Dev nD) (y : S2x24x1x7680.Idx) : EReal :=
  lse (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (y 0) (y 1) (y 3)

theorem blockO_eq (hO : Ok m) (c : Dev nD) (t : Fin (cfgM m hO).N) (y : S1x1x512x64.Idx) :
    blockO m hO c t y = attn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (grid0.coords t 0) (grid0.coords t 1)
      ⟨512 * (grid0.coords t 2).val + (y 2).val, two_lt m hO t (y 2)⟩ (y 3) := by
  unfold blockO outO attn
  rw [seen_block m c, scale_block m hO c t (y 3), show (fun K => sc (iblk m hO c 0 t) (iblk m hO c 1 t) (iblk m hO c 2 t) (iblk m hO c 3 t) K (y 2)) = _ from funext fun K => score_block m hO c t K (y 2),
    show val (iblk m hO c 4 t) (y 3) = _ from funext fun K => val_block m hO c t K (y 3)]

theorem blockL_eq (hO : Ok m) (c : Dev nD) (t : Fin (cfgM m hO).N) (y : S1x1x1x512.Idx) :
    blockL m hO c t y = lse (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (grid0.coords t 0) (grid0.coords t 1)
      ⟨512 * (grid0.coords t 2).val + (y 3).val, two_lt m hO t (y 3)⟩ := by
  unfold blockL outL lse
  rw [seen_block m c, mean_block m hO c t (y 3), show (fun K => sc (iblk m hO c 0 t) (iblk m hO c 1 t) (iblk m hO c 2 t) (iblk m hO c 3 t) K (y 3)) = _ from funext fun K => score_block m hO c t K (y 3)]

theorem attn_congr (a0 : S2.Idx → BitVec 32) (a1 : S2x24x7680x128.Idx → EReal) (a2 : S2x24x3x7680x128.Idx → EReal) (a3 : S2x24x960x128.Idx → EReal)
    (a4 : S2x24x7680x256.Idx → EReal) (a5 : S2x1536x7680.Idx → EReal) (a6 : S2x24x64x1.Idx → EReal) (b b' : Fin 2) (h h' : Fin 24) (r r' : Fin 7680) (d d' : Fin 64)
    (eb : b.val = b'.val) (eh : h.val = h'.val) (er : r.val = r'.val) (ed : d.val = d'.val) : attn a0 a1 a2 a3 a4 a5 a6 b h r d = attn a0 a1 a2 a3 a4 a5 a6 b' h' r' d' := by
  obtain rfl := Fin.ext eb; obtain rfl := Fin.ext eh; obtain rfl := Fin.ext er; obtain rfl := Fin.ext ed; rfl

theorem lse_congr (a0 : S2.Idx → BitVec 32) (a1 : S2x24x7680x128.Idx → EReal) (a2 : S2x24x3x7680x128.Idx → EReal) (a3 : S2x24x960x128.Idx → EReal)
    (a4 : S2x24x7680x256.Idx → EReal) (a7 : S2x24x1x7680.Idx → EReal) (b b' : Fin 2) (h h' : Fin 24) (r r' : Fin 7680)
    (eb : b.val = b'.val) (eh : h.val = h'.val) (er : r.val = r'.val) : lse a0 a1 a2 a3 a4 a7 b h r = lse a0 a1 a2 a3 a4 a7 b' h' r' := by
  obtain rfl := Fin.ext eb; obtain rfl := Fin.ext eh; obtain rfl := Fin.ext er; rfl

theorem arr0_7 (hO : Ok m) (c : Dev nD) : (datsV m hO 0 c).arrAt 7 (cfgM m hO).N = attnArr m c := by
  refine (datsV m hO 0 c).arrAt_eq_of_covers 7 _ (covers0_7 m hO) fun t hf y => ?_
  rw [after0_7V]
  refine (blockO_eq m hO c t y).trans ?_
  unfold attnArr
  apply attn_congr <;> blk_simp [idx0_7 m hO t] <;> first | omega | (dsimp only; omega)

theorem arr0_8 (hO : Ok m) (c : Dev nD) : (datsV m hO 0 c).arrAt 8 (cfgM m hO).N = attnArr m c := by
  refine (datsV m hO 0 c).arrAt_eq_of_covers 8 _ (covers0_8 m hO) fun t hf y => ?_
  rw [after0_8V]
  refine (blockO_eq m hO c t y).trans ?_
  unfold attnArr
  apply attn_congr <;> blk_simp [idx0_8 m hO t] <;> first | omega | (dsimp only; omega)

theorem arr0_9 (hO : Ok m) (c : Dev nD) : (datsV m hO 0 c).arrAt 9 (cfgM m hO).N = lseArr m c := by
  refine (datsV m hO 0 c).arrAt_eq_of_covers 9 _ (covers0_9 m hO) fun t hf y => ?_
  rw [after0_9V]
  refine (blockL_eq m hO c t y).trans ?_
  unfold lseArr
  apply lse_congr <;> blk_simp [idx0_9 m hO t] <;> first | omega | (dsimp only; omega)

end Cert.AttentionIdeal.Gen

end

end
-- ==== Proof.AttentionRefIdealMath.lean ====
module

public import proofs.«01_k».proof.Proof.Gen.AttentionRefIdeal.Frame
public import proofs.«01_k».proof.Proof.AttentionIdealOut
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.AttentionRefIdeal.Gen

open Idealize.ShloMosaic Idealize.ShloMosaic.TcCoe Idealize.ShloMosaic.Tactic Idealize.SL.Sem
open Idealize.ShloMosaic.Pipeline (Dat Cfg Window)

open Cert.AttentionIdeal.Gen (negInf wgt cut shift total mixed logsum fold_max_eq seen score)

/-! ## Sums and maxima over the keys seen -/

theorem fold_seen (n : ℕ) (hn : n ≤ 7680) (s : ℕ → EReal) :
    Finset.univ.fold max ⊥ (fun K : Fin 7680 => if K.val < n then s K.val else ⊥) = (Finset.range n).fold max ⊥ s :=
  fold_max_eq _ _ _ _ fun b => ⟨fun H y hy => by
      have hy' := Finset.mem_range.1 hy
      have := H ⟨y, by omega⟩ (Finset.mem_univ _)
      rwa [if_pos (show (⟨y, by omega⟩ : Fin 7680).val < n from hy')] at this,
    fun H x _ => by
      split_ifs with hx
      · exact H _ (Finset.mem_range.2 hx)
      · exact bot_le⟩

theorem sum_seen (n : ℕ) (hn : n ≤ 7680) (f : Fin 7680 → EReal) (s : ℕ → EReal) (h1 : ∀ K : Fin 7680, K.val < n → f K = s K.val) (h0 : ∀ K : Fin 7680, ¬ K.val < n → f K = 0) :
    ∑ K : Fin 7680, f K = ∑ K ∈ Finset.range n, s K := by
  have e : ∀ K : Fin 7680, f K = (fun j : ℕ => if j < n then s j else 0) K.val := fun K => by
    by_cases hK : K.val < n
    · simp only [if_pos hK, h1 K hK]
    · simp only [if_neg hK, h0 K hK]
  rw [Finset.sum_congr rfl fun K _ => e K, Fin.sum_univ_eq_sum_range (fun j : ℕ => if j < n then s j else 0) 7680,
    ← Finset.sum_subset (s₁ := Finset.range n) (fun x hx => Finset.mem_range.2 (lt_of_lt_of_le (Finset.mem_range.1 hx) hn))
      (fun x _ hx => if_neg fun h => hx (Finset.mem_range.2 h))]
  exact Finset.sum_congr rfl fun K hK => if_pos (Finset.mem_range.1 hK)

theorem exp2_unseen (x : EReal) : Ideal.exp2 (⊥ - x) = 0 := by
  rw [EReal.bot_sub]
  exact Ideal.exp2_bot

theorem cut_zero : cut 0 = 0 := by
  have h1 : Ideal.ofBits .f32 0xC3E00000#32 ≤ (0 : EReal) := by
    simp [Ideal.ofBits, Ideal.ieee]
    rw [← EReal.coe_mul]
    exact EReal.coe_nonneg.2 (by positivity)
  have h2 : (0 : EReal) ≤ Ideal.ofBits .f32 0x43E00000#32 := by
    simp [Ideal.ofBits, Ideal.ieee]
    rw [← EReal.coe_mul]
    exact EReal.coe_nonneg.2 (by positivity)
  rw [cut, max_eq_right h1, min_eq_right h2]

/-! ## The scores -/

/-- The score of key `K`, or minus infinity where batch `b` does not see it. -/
def masked (a0 : S2.Idx → BitVec 32) (a1 : S2x24x7680x128.Idx → EReal) (a2 : S2x24x3x7680x128.Idx → EReal) (a3 : S2x24x960x128.Idx → EReal)
    (a4 : S2x24x7680x256.Idx → EReal) (b : Fin 2) (h : Fin 24) (r K : Fin 7680) : EReal :=
  Scalar.select (IntOp.cmpi .slt (BitVec.ofNat 32 (K.val / 1536)) (a0 (ix1 b)))
    ((∑ x : Fin 128, a4 (ix4 b h r ⟨x.val, by omega⟩) * a1 (ix4 b h K x)
      + ∑ x : Fin 128, a4 (ix4 b h ⟨r.val / 2560 * 2560 + r.val % 2560, by omega⟩ ⟨128 + x.val, by omega⟩) * a2 (ix5 b h ⟨r.val / 2560, by omega⟩ K x))
      * a3 (ix4 b h ⟨K.val / 64 * 8 + K.val % 8, by omega⟩ ⟨r.val % 128, by omega⟩))
    (Ideal.ofBits .f32 0xFF800000#32)

theorem slt_iff (w : BitVec 32) (K : Fin 7680) : (BitVec.ofNat 32 (K.val / 1536)).slt w = true ↔ K.val < 1536 * w.toInt.toNat := by
  have e : (BitVec.ofNat 32 (K.val / 1536)).toInt = ((K.val / 1536 : ℕ) : ℤ) := by
    rw [BitVec.toInt_ofNat', Int.bmod_eq_of_le] <;> omega
  rw [BitVec.slt_iff_toInt_lt, e]
  omega

theorem masked_eq (a0 : S2.Idx → BitVec 32) (a1 : S2x24x7680x128.Idx → EReal) (a2 : S2x24x3x7680x128.Idx → EReal) (a3 : S2x24x960x128.Idx → EReal)
    (a4 : S2x24x7680x256.Idx → EReal) (b : Fin 2) (h : Fin 24) (r K : Fin 7680) :
    masked a0 a1 a2 a3 a4 b h r K = if K.val < seen a0 b then score a1 a2 a3 a4 b h r K.val else ⊥ := by
  have hc := slt_iff (a0 (ix1 b)) K
  unfold masked seen
  by_cases hK : K.val < 1536 * (a0 (ix1 b)).toInt.toNat
  · rw [if_pos hK, show IntOp.cmpi .slt (BitVec.ofNat 32 (K.val / 1536)) (a0 (ix1 b)) = 1#1 by
      simp only [IntOp.cmpi, hc.2 hK]; rfl]
    unfold score
    have e1 : (⟨K.val % 7680, Nat.mod_lt _ (by omega)⟩ : Fin 7680) = K := Fin.ext (Nat.mod_eq_of_lt K.isLt)
    have e2 : (⟨(K.val / 64 * 8 + K.val % 8) % 960, Nat.mod_lt _ (by omega)⟩ : Fin 960) = ⟨K.val / 64 * 8 + K.val % 8, by omega⟩ := Fin.ext (Nat.mod_eq_of_lt (by omega))
    have e3 : (⟨r.val / 2560 * 2560 + r.val % 2560, by omega⟩ : Fin 7680) = r := Fin.ext (Nat.div_add_mod' _ _)
    rw [e1, e2, e3]
    simp only [mul_comm (a4 _)]
    rfl
  · rw [if_neg hK, show IntOp.cmpi .slt (BitVec.ofNat 32 (K.val / 1536)) (a0 (ix1 b)) = 0#1 by
      simp only [IntOp.cmpi, Bool.eq_false_iff.2 fun t => hK (hc.1 t)]; rfl]
    exact negInf

/-! ## The values of a query whose scores are masked -/

variable (n : ℕ) (hn : n ≤ 7680) (s : ℕ → EReal) (k : Fin 7680 → EReal) (hk : ∀ K : Fin 7680, k K = if K.val < n then s K.val else ⊥)

include hn hk

theorem shift_eq : Ideal.liftRound Int.ceil (Finset.univ.fold max (Ideal.ofBits .f32 0xFF800000#32) k) - Ideal.ofBits .f32 0x410CEAED#32 = shift n s := by
  rw [negInf, show k = _ from funext hk, fold_seen n hn s]
  rfl

theorem total_eq : ∑ K : Fin 7680, Ideal.exp2 (k K - shift n s) = total n s :=
  sum_seen n hn _ _ (fun K hK => by rw [hk, if_pos hK]; rfl) (fun K hK => by rw [hk, if_neg hK]; exact exp2_unseen _)

theorem mixed_eq (w : Fin 7680 → EReal) (v : ℕ → EReal) (hv : ∀ K : Fin 7680, w K = v K.val) :
    ∑ K : Fin 7680, cut (Ideal.exp2 (k K - shift n s)) * w K = mixed n s v :=
  sum_seen n hn _ _ (fun K hK => by rw [hk, if_pos hK, hv, mul_comm]; rfl) (fun K hK => by rw [hk, if_neg hK, exp2_unseen, cut_zero, zero_mul])

end Cert.AttentionRefIdeal.Gen

end

end
-- ==== Proof.AttentionRefIdealValue.lean ====
module

public import proofs.«01_k».proof.Proof.Gen.AttentionRefIdeal.Frame
public import proofs.«01_k».proof.Proof.AttentionRefIdealArrays
public import proofs.«01_k».proof.Proof.AttentionRefIdealLines
public import proofs.«01_k».proof.Proof.AttentionRefIdealMath
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.AttentionRefIdeal.Gen

open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (g : Dev nD → PrngReg)

open Cert.AttentionIdeal.Gen (cut shift total mixed logsum seen score attn lse)

/-! ## The scores, their shift and their differences -/

theorem v24_read (c : Dev nD) (b : Fin 2) (h : Fin 24) (r K : Fin 7680) :
    (StableHlo.after hostOps0_1 (StableHlo.after hostOps0 (fun b => m (c, b))) (Proc.devRef .tc main_v24) (ix4 b h r K) : EReal) = masked (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b h r K := by
  rw [v24_line, v23_line, v14_line, cst_line]
  rfl

theorem V_split (c : Dev nD) (x : Ref sig .tc) :
    V m c x = StableHlo.after (maxOps maxRed) (StableHlo.after hostOps0_1 (StableHlo.after hostOps0 (fun b => m (c, b)))) (Proc.devRef .tc x) := by
  rw [← maxOps_eq]
  show StableHlo.after (hostOps0 ++ (hostOps0_1 ++ (hostOps0_2 ++ []))) _ _ = _
  rw [StableHlo.after_append, StableHlo.after_append, List.append_nil]

section Query

variable (c : Dev nD) (b : Fin 2) (h : Fin 24) (hn : seen (m ((c.tc : Thread nD τ).loc main_arg0)) b ≤ 7680) (r : Fin 7680)

include hn

theorem v29_read : (V m c main_v29 (ix4 b h r 0) : EReal) = shift (seen (m ((c.tc : Thread nD τ).loc main_arg0)) b) (score (m ((c.tc : Thread nD τ).loc main_arg1)) (m ((c.tc : Thread nD τ).loc main_arg2)) (m ((c.tc : Thread nD τ).loc main_arg3)) (m ((c.tc : Thread nD τ).loc main_arg4)) b h r) := by
  rw [V_split, v29_line, row_max]
  exact shift_eq _ hn _ _ fun K => (v24_read m c b h r K).trans (masked_eq _ _ _ _ _ b h r K)

theorem v31_read (K : Fin 7680) : (V m c main_v31 (ix4 b h r K) : EReal)
    = masked (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b h r K - shift (seen (m ((c.tc : Thread nD τ).loc main_arg0)) b) (score (m ((c.tc : Thread nD τ).loc main_arg1)) (m ((c.tc : Thread nD τ).loc main_arg2)) (m ((c.tc : Thread nD τ).loc main_arg3)) (m ((c.tc : Thread nD τ).loc main_arg4)) b h r) := by
  rw [V_split, v31_line, row_max]
  exact congrArg₂ (fun y z : EReal => y - z) (v24_read m c b h r K) (shift_eq _ hn _ _ fun K => (v24_read m c b h r K).trans (masked_eq _ _ _ _ _ b h r K))

end Query

/-! ## The results -/

theorem arr_inj : Function.Injective (Pipeline.arrRef spec0) := by decide

/-- The references after the call. -/
abbrev Wt (c : Dev nD) : Valuation τ sig (Elt Ideal) := Pipeline.withArrays (cfgs 0).spec c (V0 m c) fun w => (dats m 0 c).arrAt w (cfgs 0).N

theorem Wt_0 (c : Dev nD) : Wt m c (Proc.devRef .tc main_v32_0) = fun j => Ideal.exp2 (V m c main_v31 j) :=
  (Pipeline.withArrays_arr spec0 arr_inj c (V0 m c) (fun w => (dats m 0 c).arrAt w (cfgs 0).N) 2).trans (arr2 m c)

theorem Wt_1 (c : Dev nD) : Wt m c (Proc.devRef .tc main_v32_1) = fun j => cut (Ideal.exp2 (V m c main_v31 j)) :=
  (Pipeline.withArrays_arr spec0 arr_inj c (V0 m c) (fun w => (dats m 0 c).arrAt w (cfgs 0).N) 3).trans (arr3 m c)

theorem Wt_2 (c : Dev nD) : Wt m c (Proc.devRef .tc main_v32_2) = fun j => ((m ((c.tc : Thread nD τ).loc main_arg5)) j : EReal) :=
  (Pipeline.withArrays_arr spec0 arr_inj c (V0 m c) (fun w => (dats m 0 c).arrAt w (cfgs 0).N) 4).trans (arr4 m c)

theorem Wt_v29 (c : Dev nD) : Wt m c (Proc.devRef .tc main_v29) = V m c main_v29 :=
  Pipeline.withArrays_of_ne _ c (V0 m c) _ main_v29 (by exact (by decide : ∀ w, Pipeline.arrRef spec0 w ≠ main_v29))

theorem Wt_arg6 (c : Dev nD) : Wt m c (Proc.devRef .tc main_arg6) = (m ((c.tc : Thread nD τ).loc main_arg6)) :=
  (Pipeline.withArrays_of_ne _ c (V0 m c) _ main_arg6 (by exact (by decide : ∀ w, Pipeline.arrRef spec0 w ≠ main_arg6))).trans (V_main_arg6 m c)

theorem Wt_arg7 (c : Dev nD) : Wt m c (Proc.devRef .tc main_arg7) = (m ((c.tc : Thread nD τ).loc main_arg7)) :=
  (Pipeline.withArrays_of_ne _ c (V0 m c) _ main_arg7 (by exact (by decide : ∀ w, Pipeline.arrRef spec0 w ≠ main_arg7))).trans (V_main_arg7 m c)

variable (hn : ∀ (c : Dev nD) (b : Fin 2), seen (m ((c.tc : Thread nD τ).loc main_arg0)) b ≤ 7680)

include hn

theorem total_read (c : Dev nD) (b : Fin 2) (h : Fin 24) (r : Fin 7680) :
    (Finset.univ.sum (M := EReal) fun x : Fin 7680 => Wt m c (Proc.devRef .tc main_v32_0) (ix4 b h r x)) = total (seen (m ((c.tc : Thread nD τ).loc main_arg0)) b) (score (m ((c.tc : Thread nD τ).loc main_arg1)) (m ((c.tc : Thread nD τ).loc main_arg2)) (m ((c.tc : Thread nD τ).loc main_arg3)) (m ((c.tc : Thread nD τ).loc main_arg4)) b h r) := by
  rw [Wt_0]
  refine (Finset.sum_congr rfl fun x _ => congrArg Ideal.exp2 (v31_read m c b h (hn c b) r x)).trans ?_
  exact total_eq _ (hn c b) _ _ fun K => masked_eq _ _ _ _ _ b h r K

theorem mixed_read (c : Dev nD) (b : Fin 2) (h : Fin 24) (r : Fin 7680) (d : Fin 64) :
    ∑ x : Fin 7680, HMul.hMul (α := EReal) (β := EReal) (Wt m c (Proc.devRef .tc main_v32_1) (ix4 b h r x)) (Wt m c (Proc.devRef .tc main_v32_2) (ix3 b ⟨h.val * 64 + d.val, by omega⟩ x))
      = mixed (seen (m ((c.tc : Thread nD τ).loc main_arg0)) b) (score (m ((c.tc : Thread nD τ).loc main_arg1)) (m ((c.tc : Thread nD τ).loc main_arg2)) (m ((c.tc : Thread nD τ).loc main_arg3)) (m ((c.tc : Thread nD τ).loc main_arg4)) b h r) (fun K => (m ((c.tc : Thread nD τ).loc main_arg5)) (ix3 b ⟨64 * h.val + d.val, by omega⟩ ⟨K % 7680, by omega⟩)) := by
  rw [Wt_1, Wt_2]
  refine (Finset.sum_congr rfl fun x _ => congrArg (fun z : EReal => cut (Ideal.exp2 z) * _) (v31_read m c b h (hn c b) r x)).trans ?_
  refine mixed_eq _ (hn c b) _ _ (fun K => masked_eq _ _ _ _ _ b h r K) _ _ fun K => ?_
  have e1 : (⟨K.val % 7680, Nat.mod_lt _ (by omega)⟩ : Fin 7680) = K := Fin.ext (Nat.mod_eq_of_lt K.isLt)
  have e2 : (⟨h.val * 64 + d.val, by omega⟩ : Fin 1536) = ⟨64 * h.val + d.val, by omega⟩ := Fin.ext (by show h.val * 64 + d.val = 64 * h.val + d.val; omega)
  show (m ((c.tc : Thread nD τ).loc main_arg5)) (ix3 b _ K) = (m ((c.tc : Thread nD τ).loc main_arg5)) (ix3 b _ _)
  rw [e1, e2]

/-- The attention the reference returns. -/
theorem attn_read (c : Dev nD) :
    Pipeline.afterTail₀ cfgs (dats m) 0 (V0 m) [hostOps1] c main_v41
      = fun y : S2x24x7680x64.Idx => attn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (y 0) (y 1) (y 2) (y 3) := by
  funext y
  obtain ⟨b, h, r, d, rfl⟩ : ∃ (b : Fin 2) (h : Fin 24) (r : Fin 7680) (d : Fin 64), y = ix4 b h r d := ⟨y 0, y 1, y 2, y 3, by funext k; fin_cases k <;> rfl⟩
  refine (v41_line (Wt m c) b h r d).trans ?_
  rw [total_read m hn, mixed_read m hn, Wt_arg6]
  rfl

/-- The same in the result's other format. -/
theorem attn16_read (c : Dev nD) :
    Pipeline.afterTail₀ cfgs (dats m) 0 (V0 m) [hostOps1] c main_v56
      = fun y : S2x24x7680x64.Idx => attn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (y 0) (y 1) (y 2) (y 3) :=
  (v56_line (Wt m c)).trans (attn_read m hn c)

/-- The logarithm the reference returns. -/
theorem lse_read (c : Dev nD) :
    Pipeline.afterTail₀ cfgs (dats m) 0 (V0 m) [hostOps1] c main_v57
      = fun y : S2x24x1x7680.Idx => lse (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (y 0) (y 1) (y 3) := by
  funext y
  obtain ⟨b, h, r, rfl⟩ : ∃ (b : Fin 2) (h : Fin 24) (r : Fin 7680), y = ix4 b h 0 r := ⟨y 0, y 1, y 3, by funext k; fin_cases k <;> first | rfl | exact Subsingleton.elim (α := Fin 1) _ _⟩
  refine (v57_line (Wt m c) b h r).trans ?_
  rw [total_read m hn, Wt_v29, v29_read m c b h (hn c b), Wt_arg7]
  rfl

end Cert.AttentionRefIdeal.Gen

end

end
-- ==== Proof.OutProjIdealSpec.lean ====
/- The output projection's results as functions of its arrays, and the integer codes read back as reals. -/
module

public import proofs.«01_k».proof.Proof.Gen.OutProjIdeal.Skeleton
public import Idealize.ShloMosaic.Lib.Pipeline.ValueKit
public import Idealize.ShloMosaic.Lib.Pointwise

@[expose] public section

set_option maxRecDepth 16384

noncomputable section

namespace Cert.OutProjIdeal.Gen

open Idealize.ShloMosaic Idealize.ShloMosaic.TcCoe Idealize.ShloMosaic.Tactic

/-! ## One row -/

/-- The greatest magnitude of a row. -/
def top (o : Fin 1536 → EReal) : EReal := Finset.univ.fold max (Ideal.ofBits .f32 0xFF800000#32) fun k => max (o k) (-(o k))

/-- The row's scale: one where the row is zero, else the greatest magnitude over 127. -/
def scaleOf (o : Fin 1536 → EReal) : EReal :=
  Scalar.select (Ideal.cmp .oeq (top o) (Ideal.ofBits .f32 0x00000000#32)) (Ideal.ofBits .f32 0x3F800000#32) (Ideal.div (top o) (Ideal.ofBits .f32 0x42FE0000#32))

/-- A quotient rounded to an integer between -127 and 127. -/
def clipped (z : EReal) : EReal := min (Ideal.ofBits .f32 0x42FE0000#32) (max (Ideal.ofBits .f32 0xC2FE0000#32) (Ideal.liftRound Ideal.roundHalfEven z))

/-- The row's codes. -/
def codeOf (o : Fin 1536 → EReal) (k : Fin 1536) : EReal := clipped (Ideal.div (o k) (scaleOf o))

theorem hi_eq : Ideal.ofBits .f32 0x42FE0000#32 = ((127 : ℝ) : EReal) := by
  simp [Ideal.ofBits, Ideal.ieee]; rw [← EReal.coe_mul]; norm_num

theorem lo_eq : Ideal.ofBits .f32 0xC2FE0000#32 = ((-127 : ℝ) : EReal) := by
  simp [Ideal.ofBits, Ideal.ieee]; rw [← EReal.coe_mul]; norm_num

/-- A clipped quotient is an integer of eight bits. -/
theorem clipped_int (z : EReal) : ∃ n : ℤ, -127 ≤ n ∧ n ≤ 127 ∧ clipped z = ((n : ℝ) : EReal) := by
  unfold clipped
  rw [hi_eq, lo_eq]
  induction z using EReal.rec with
  | bot => exact ⟨-127, by omega, by omega, by rw [Ideal.liftRound_bot, max_eq_left bot_le, ← EReal.coe_strictMono.monotone.map_min]; norm_num⟩
  | top => exact ⟨127, by omega, by omega, by rw [Ideal.liftRound_top, max_eq_right le_top, min_eq_left le_top]; norm_num⟩
  | coe r =>
    refine ⟨min 127 (max (-127) (Ideal.roundHalfEven r)), by omega, by omega, ?_⟩
    rw [Ideal.liftRound_coe, ← EReal.coe_strictMono.monotone.map_max, ← EReal.coe_strictMono.monotone.map_min]
    push_cast
    rfl

/-- The integer stored for a clipped quotient, read back, is the quotient. -/
theorem code_back (z : EReal) : (((Ideal.fptosi 8 (clipped z)).toInt : ℝ) : EReal) = clipped z := by
  obtain ⟨n, h1, h2, e⟩ := clipped_int z
  have hc : Ideal.toIntClamped (-(2 ^ (8 - 1) : Nat)) ((2 ^ (8 - 1) : Nat) - 1) ((n : ℝ) : EReal) = n := by
    rw [Ideal.toIntClamped_coe, Int.floor_intCast, Int.ceil_intCast, ite_self]
    norm_num
    omega
  rw [e, Ideal.fptosi, hc, BitVec.toInt_ofInt]
  congr 2
  rw [Int.bmod_def]
  norm_num
  omega

/-! ## The arrays -/

section Whole

variable (a0 : S2x24x7680x64.Idx → EReal) (a1 : S2x1x1536.Idx → EReal) (a2 : S2x7680x3072.Idx → EReal) (a3 : S1536x3072.Idx → EReal)
  (a4 : S1x3072.Idx → EReal) (a5 : S1x3072.Idx → EReal) (a6 : S2x1x3072.Idx → EReal) (a7 : S2x1x3072.Idx → EReal)

/-- Token `r` of batch `b`: its heads side by side, the mean added. -/
def row (b : Fin 2) (r : Fin 7680) (k : Fin 1536) : EReal := a0 (ix4 b ⟨k.val / 64, by omega⟩ r ⟨k.val % 64, by omega⟩) + a1 (ix3 b 0 k)

/-- The integer codes of a token. -/
def oCode (b : Fin 2) (r : Fin 7680) (k : Fin 1536) : BitVec 8 := Ideal.fptosi 8 (codeOf (row a0 a1 b r) k)

/-- The scale of a token. -/
def oScale (b : Fin 2) (r : Fin 7680) : EReal := scaleOf (row a0 a1 b r)

/-- The hidden state of a token. -/
def hidden (b : Fin 2) (r : Fin 7680) (d : Fin 3072) : EReal :=
  a2 (ix3 b r d) + Scalar.select (IntOp.cmpi .slt (BitVec.ofNat 32 r.val) 226#32) (a7 (ix3 b 0 d)) (a6 (ix3 b 0 d))
    * ((∑ k : Fin 1536, codeOf (row a0 a1 b r) k * a3 (ix2 k d)) * scaleOf (row a0 a1 b r) * a4 (ix2 0 d) + a5 (ix2 0 d))

theorem oCode_congr {b b' : Fin 2} {r r' : Fin 7680} {k k' : Fin 1536} (eb : b.val = b'.val) (er : r.val = r'.val) (ek : k.val = k'.val) :
    oCode a0 a1 b r k = oCode a0 a1 b' r' k' := by
  obtain rfl := Fin.ext eb; obtain rfl := Fin.ext er; obtain rfl := Fin.ext ek; rfl

theorem oScale_congr {b b' : Fin 2} {r r' : Fin 7680} (eb : b.val = b'.val) (er : r.val = r'.val) : oScale a0 a1 b r = oScale a0 a1 b' r' := by
  obtain rfl := Fin.ext eb; obtain rfl := Fin.ext er; rfl

theorem hidden_congr {b b' : Fin 2} {r r' : Fin 7680} {d d' : Fin 3072} (eb : b.val = b'.val) (er : r.val = r'.val) (ed : d.val = d'.val) :
    hidden a0 a1 a2 a3 a4 a5 a6 a7 b r d = hidden a0 a1 a2 a3 a4 a5 a6 a7 b' r' d' := by
  obtain rfl := Fin.ext eb; obtain rfl := Fin.ext er; obtain rfl := Fin.ext ed; rfl

end Whole

end Cert.OutProjIdeal.Gen

end

end
-- ==== Proof.OutProjIdealBody.lean ====
/- The body of `OutProjIdeal`: what each of its stored blocks holds, from the blocks it reads. -/
module

public import proofs.«01_k».proof.Proof.Gen.OutProjIdeal.Frame
public import proofs.«01_k».proof.Proof.OutProjIdealSpec
public import Idealize.ShloMosaic.Lib.Pipeline.ValueKit
public import Idealize.ShloMosaic.Lib.Pointwise

@[expose] public section

set_option maxRecDepth 16384

noncomputable section

namespace Cert.OutProjIdeal.Gen

open Idealize.ShloMosaic Idealize.ShloMosaic.TcCoe Idealize.ShloMosaic.Tactic

/-! ## The heads side by side -/

theorem inb_head (n : Fin 24) : ∀ a, (![0, n.val, 0, 0] : Fin 4 → Nat) a + S1x1x256x64.size a ≤ S1x24x256x64.size a := by
  revert n; decide

/-- Head `n` of the block. -/
def headAt (x0 : Vec Ideal S1x24x256x64 .f32) (n : Fin 24) : FVec Ideal S256x64 .f32 :=
  shapeCast S256x64 (View.ld x0 (Rect.unit (s := S1x24x256x64) ![0, n.val, 0, 0] S1x1x256x64.size (inb_head n))) shapeCasts_S1x1x256x64_S256x64

theorem headAt_apply (x0 : Vec Ideal S1x24x256x64 .f32) (n : Fin 24) (r : Fin 256) (d : Fin 64) : headAt x0 n (ix2 r d) = x0 (ix4 0 n r d) := by
  have e1 : ∀ X : Vec Ideal S1x1x256x64 .f32, shapeCast S256x64 X shapeCasts_S1x1x256x64_S256x64 (ix2 r d) = X (ix4 0 0 r d) := fun X => by pointwise
  unfold headAt
  rw [e1]
  refine congrArg x0 (funext fun a => Fin.ext ?_)
  fin_cases a
  · rfl
  · rfl
  · exact (Nat.zero_add _).trans (Nat.one_mul _)
  · exact (Nat.zero_add _).trans (Nat.one_mul _)

/-- The heads side by side, the mean added. -/
def rows (x0 : Vec Ideal S1x24x256x64 .f32) (x1 : Vec Ideal S1x1x1536 .f32) : FVec Ideal S256x1536 .f32 :=
  k0_pay21 (headAt x0 0) (headAt x0 1) (headAt x0 2) (headAt x0 3) (headAt x0 4) (headAt x0 5) (headAt x0 6) (headAt x0 7) (headAt x0 8) (headAt x0 9)
    (headAt x0 10) (headAt x0 11) (headAt x0 12) (headAt x0 13) (headAt x0 14) (headAt x0 15) (headAt x0 16) (headAt x0 17) (headAt x0 18)
    (View.ld x0 r0_19) (View.ld x0 r0_20) (View.ld x0 r0_21) (View.ld x0 r0_22) (View.ld x0 r0_23) (View.ld x1 r0_24)

theorem rows_apply (x0 : Vec Ideal S1x24x256x64 .f32) (x1 : Vec Ideal S1x1x1536 .f32) (r : Fin 256) (k : Fin 1536) :
    (rows x0 x1 (ix2 r k) : EReal) = HAdd.hAdd (α := EReal) (β := EReal) (x0 (ix4 0 ⟨k.val / 64, by omega⟩ r ⟨k.val % 64, by omega⟩)) (x1 (ix3 0 0 k)) := by
  have hc : Shape.Concatenates ((List.ofFn fun n : Fin 24 => (⟨S256x64, headAt x0 n⟩ : (s : Shape) × (s.Idx → Ideal .f32))).map (·.1)) S256x1536 1 :=
    (show Shape.Concatenates (List.replicate 24 S256x64) S256x1536 1 by decide)
  have e : rows x0 x1 = addf (concatenate S256x1536 1 (List.ofFn fun n : Fin 24 => ⟨S256x64, headAt x0 n⟩) hc)
      (broadcastTo S256x1536 (shapeCast S1x1536 (View.ld x1 r0_24) shapeCasts_S1x1x1536_S1x1536) broadcasts_S1x1536_S256x1536) := rfl
  have e1 : concatenate S256x1536 1 (List.ofFn fun n : Fin 24 => ⟨S256x64, headAt x0 n⟩) hc (ix2 r k) = x0 (ix4 0 ⟨k.val / 64, by omega⟩ r ⟨k.val % 64, by omega⟩) :=
    (concatenate_ofFn_apply 1 (headAt x0) hc rfl 64 rfl (ix2 r k) ⟨k.val / 64, by omega⟩ rfl (ix2 r ⟨k.val % 64, by omega⟩) rfl
      (fun b hb => by fin_cases b; · rfl
                      · exact absurd rfl hb)).trans (headAt_apply x0 _ r _)
  have e2 : broadcastTo S256x1536 (shapeCast S1x1536 (View.ld x1 r0_24) shapeCasts_S1x1x1536_S1x1536) broadcasts_S1x1536_S256x1536 (ix2 r k) = x1 (ix3 0 0 k) := by
    pointwise
  rw [e]
  exact congrArg₂ (fun y z : EReal => y + z) e1 e2

/-- The block's scales, from the rows. -/
def scales (o : FVec Ideal S256x1536 .f32) : FVec Ideal S256x1 .f32 :=
  have v55 : FVec Ideal S256x1 .f32 := shapeCast S256x1 (multiReduction .maximumf [1] S256 (absf o) 0xFF800000#32 reduces_S256x1536_S256 (.inl rfl) rfl) shapeCasts_S256_S256x1
  select (cmpf .oeq v55 (broadcast S256x1 (Scalar.ofBits .f32 0x00000000#32))) (broadcast S256x1 (Scalar.ofBits .f32 0x3F800000#32))
    (divf v55 (broadcast S256x1 (Scalar.ofBits .f32 0x42FE0000#32)))

theorem scales_apply (o : FVec Ideal S256x1536 .f32) (r : Fin 256) : (scales o (ix2 r 0) : EReal) = scaleOf fun k => o (ix2 r k) := by
  unfold scales scaleOf top
  pointwise
  rfl

/-- The block's codes, from the rows. -/
def codes (o : FVec Ideal S256x1536 .f32) : FVec Ideal S256x1536 .f32 :=
  minimumf (broadcast S256x1536 (Scalar.ofBits .f32 0x42FE0000#32)) (maximumf (broadcast S256x1536 (Scalar.ofBits .f32 0xC2FE0000#32))
    (roundeven (divf o (broadcastTo S256x1536 (scales o) broadcasts_S256x1_S256x1536))))

theorem codes_apply (o : FVec Ideal S256x1536 .f32) (r : Fin 256) (k : Fin 1536) : (codes o (ix2 r k) : EReal) = codeOf (fun k => o (ix2 r k)) k := by
  have e : (codes o (ix2 r k) : EReal) = clipped (Ideal.div (o (ix2 r k)) (scales o (ix2 r 0))) := by
    unfold codes clipped
    pointwise
  rw [e, scales_apply]
  rfl

end Cert.OutProjIdeal.Gen

end

end
-- ==== Proof.OutProjIdealOut.lean ====
/- The blocks that a grid point of `OutProjIdeal` stores, from the blocks it reads. -/
module

public import proofs.«01_k».proof.Proof.OutProjIdealBody
public import Idealize.ShloMosaic.Lib.Pipeline.ValueKit
public import Idealize.ShloMosaic.Lib.Pointwise

@[expose] public section

set_option maxRecDepth 16384

noncomputable section

namespace Cert.OutProjIdeal.Gen

open Idealize.ShloMosaic Idealize.ShloMosaic.TcCoe Idealize.ShloMosaic.Tactic

section Blocks

variable (i : grid0.Coords) (x0 : Vec Ideal S1x24x256x64 .f32) (x1 : Vec Ideal S1x1x1536 .f32) (x2 : Vec Ideal S1x256x3072 .bf16) (x3 : Vec Ideal S1536x3072 .bf16)
  (x4 : Vec Ideal S1x3072 .f32) (x5 : Vec Ideal S1x3072 .f32) (x6 : Vec Ideal S1x1x3072 .f32) (x7 : Vec Ideal S1x1x3072 .f32)

/-- Row `r` of the block: its heads side by side, the mean added. -/
def blockRow (r : Fin 256) (k : Fin 1536) : EReal :=
  HAdd.hAdd (α := EReal) (β := EReal) (x0 (ix4 0 ⟨k.val / 64, by omega⟩ r ⟨k.val % 64, by omega⟩)) (x1 (ix3 0 0 k))

theorem rows_row (r : Fin 256) : (fun k => (rows x0 x1 (ix2 r k) : EReal)) = blockRow x0 x1 r := funext fun k => rows_apply x0 x1 r k

theorem out9_apply (r : Fin 256) (k : Fin 1536) : out0_9 i x0 x1 x2 x3 x4 x5 x6 x7 (ix3 0 r k) = Ideal.fptosi 8 (codeOf (blockRow x0 x1 r) k) := by
  have e : out0_9 i x0 x1 x2 x3 x4 x5 x6 x7 = View.canon [⟨r0_25, k0_pay25 (fptosi 8 (codes (rows x0 x1)))⟩] := rfl
  rw [e]
  simp (disch := decide) only [View.canon_cons_unit_lit']
  have e1 : k0_pay25 (fptosi 8 (codes (rows x0 x1))) (ix3 0 r k) = Ideal.fptosi 8 (codes (rows x0 x1) (ix2 r k)) := by
    unfold k0_pay25
    pointwise
    rfl
  rw [e1, codes_apply, rows_row]

theorem out10_apply (r : Fin 256) : (out0_10 i x0 x1 x2 x3 x4 x5 x6 x7 (ix3 0 r 0) : EReal) = scaleOf (blockRow x0 x1 r) := by
  have e : out0_10 i x0 x1 x2 x3 x4 x5 x6 x7 = View.canon [⟨r0_26, k0_pay26 (scales (rows x0 x1))⟩] := rfl
  rw [e]
  simp (disch := decide) only [View.canon_cons_unit_lit']
  have e1 : k0_pay26 (scales (rows x0 x1)) (ix3 0 r 0) = scales (rows x0 x1) (ix2 r 0) := by
    unfold k0_pay26
    pointwise
  rw [e1, scales_apply, rows_row]

theorem projected (s : FVec Ideal S256x1 .f32) (q : FVec Ideal S256x1536 .f32) (r : Fin 256) (d : Fin 3072) :
    (k0_pay27 s q x3 x4 x5 (ix2 r d) : EReal)
      = (∑ k : Fin 1536, HMul.hMul (α := EReal) (β := EReal) (q (ix2 r k)) (x3 (ix2 k d))) * (s (ix2 r 0) : EReal) * (x4 (ix2 0 d) : EReal) + (x5 (ix2 0 d) : EReal) := by
  pointwise [k0_pay27]

theorem gated (w : BitVec 32) (r : Fin 256) (d : Fin 3072) :
    (k0_pay28 w x7 x6 (ix2 r d) : EReal) = Scalar.select (IntOp.cmpi .slt (w * 256#32 + BitVec.ofNat 32 r.val) 226#32) (x7 (ix3 0 0 d)) (x6 (ix3 0 0 d)) := by
  pointwise [k0_pay28]
  rfl

theorem tokens (r : Fin 256) (d : Fin 3072) : (k0_pay29 x2 (ix2 r d) : EReal) = x2 (ix3 0 r d) := by
  pointwise [k0_pay29]

theorem summed (y g x : FVec Ideal S256x3072 .f32) (r : Fin 256) (d : Fin 3072) :
    (k0_pay1 y g x (ix3 0 r d) : EReal) = (x (ix2 r d) : EReal) + HMul.hMul (α := EReal) (β := EReal) (g (ix2 r d)) (y (ix2 r d)) := by
  pointwise [k0_pay1]

theorem out8_apply (r : Fin 256) (d : Fin 3072) : (out0_8 i x0 x1 x2 x3 x4 x5 x6 x7 (ix3 0 r d) : EReal)
    = (x2 (ix3 0 r d) : EReal) + Scalar.select (IntOp.cmpi .slt (BitVec.ofNat 32 (i 1).val * 256#32 + BitVec.ofNat 32 r.val) 226#32) (x7 (ix3 0 0 d)) (x6 (ix3 0 0 d))
      * ((∑ k : Fin 1536, HMul.hMul (α := EReal) (β := EReal) (codeOf (blockRow x0 x1 r) k) (x3 (ix2 k d))) * scaleOf (blockRow x0 x1 r) * (x4 (ix2 0 d) : EReal) + (x5 (ix2 0 d) : EReal)) := by
  have e : out0_8 i x0 x1 x2 x3 x4 x5 x6 x7 = View.canon [⟨r0_30, k0_pay1 (k0_pay27 (scales (rows x0 x1)) (codes (rows x0 x1)) (View.ld x3 r0_27) (View.ld x4 r0_28) (View.ld x5 r0_28))
      (k0_pay28 (BitVec.ofNat 32 (i 1).val) (View.ld x7 r0_29) (View.ld x6 r0_29)) (k0_pay29 (View.ld x2 r0_30))⟩] := rfl
  rw [e]
  simp (disch := decide) only [View.canon_cons_unit_lit', View.ld_unit_lit']
  rw [summed, projected, gated, tokens, scales_apply, rows_row]
  simp only [codes_apply, rows_row]

end Blocks

end Cert.OutProjIdeal.Gen

end

end
-- ==== Proof.OutProjIdealValue.lean ====
/- The arrays that the run of `OutProjIdeal` leaves, as functions of the arrays it is given. -/
module

public import proofs.«01_k».proof.Proof.OutProjIdealOut
public import Idealize.ShloMosaic.Lib.Pipeline.ValueKit
public import Idealize.ShloMosaic.Lib.Pipeline.Covers
public import Idealize.ShloMosaic.Lib.Pointwise

@[expose] public section

set_option maxRecDepth 16384

noncomputable section

namespace Cert.OutProjIdeal.Gen

open Idealize.ShloMosaic Idealize.ShloMosaic.TcCoe Idealize.ShloMosaic.Tactic
open Idealize.ShloMosaic.Pipeline (Dat Cfg Window)

/-! ## The index maps -/

theorem idx0_0 : ∀ t : Fin cfg0.N, (cfg0.win 0).index t = ![(grid0.coords t 0).val, 0, (grid0.coords t 1).val, 0] := by decide +kernel
theorem idx0_1 : ∀ t : Fin cfg0.N, (cfg0.win 1).index t = ![(grid0.coords t 0).val, 0, 0] := by decide +kernel
theorem idx0_2 : ∀ t : Fin cfg0.N, (cfg0.win 2).index t = ![(grid0.coords t 0).val, (grid0.coords t 1).val, 0] := by decide +kernel
theorem idx0_3 : ∀ t : Fin cfg0.N, (cfg0.win 3).index t = ![0, 0] := by decide +kernel
theorem idx0_4 : ∀ t : Fin cfg0.N, (cfg0.win 4).index t = ![0, 0] := by decide +kernel
theorem idx0_5 : ∀ t : Fin cfg0.N, (cfg0.win 5).index t = ![0, 0] := by decide +kernel
theorem idx0_6 : ∀ t : Fin cfg0.N, (cfg0.win 6).index t = ![(grid0.coords t 0).val, 0, 0] := by decide +kernel
theorem idx0_7 : ∀ t : Fin cfg0.N, (cfg0.win 7).index t = ![(grid0.coords t 0).val, 0, 0] := by decide +kernel
theorem idx0_8 : ∀ t : Fin cfg0.N, (cfg0.win 8).index t = ![(grid0.coords t 0).val, (grid0.coords t 1).val, 0] := by decide +kernel
theorem idx0_9 : ∀ t : Fin cfg0.N, (cfg0.win 9).index t = ![(grid0.coords t 0).val, (grid0.coords t 1).val, 0] := by decide +kernel
theorem idx0_10 : ∀ t : Fin cfg0.N, (cfg0.win 10).index t = ![(grid0.coords t 0).val, (grid0.coords t 1).val, 0] := by decide +kernel

/-- The point at the coordinates `b`, `i`. -/
theorem point_at (b : Fin 2) (i : Fin 30) : ∃ t : Fin grid0.N, (grid0.coords t 0).val = b.val ∧ (grid0.coords t 1).val = i.val := by
  obtain ⟨t, ht⟩ := grid0.coords_surjective (fun | ⟨0, _⟩ => b | ⟨1, _⟩ => i)
  exact ⟨t, by rw [ht], by rw [ht]⟩

theorem covers0_8 : (cfg0.win 8).Covers :=
  Window.covers_of_index_surj _ rfl (fun a => (by decide : ∀ a : Fin 3, 0 < S1x256x3072.size a) a) fun β => by
    obtain ⟨t, h0, h1⟩ := point_at ⟨(β (0 : Fin 3)).val, Nat.lt_of_lt_of_eq (β (0 : Fin 3)).isLt (show (S2x7680x3072.size 0 + S1x256x3072.size 0 - 1) / S1x256x3072.size 0 = 2 by decide)⟩ ⟨(β (1 : Fin 3)).val, Nat.lt_of_lt_of_eq (β (1 : Fin 3)).isLt (show (S2x7680x3072.size 1 + S1x256x3072.size 1 - 1) / S1x256x3072.size 1 = 30 by decide)⟩
    have hz : (β (2 : Fin 3)).val < 1 := Nat.lt_of_lt_of_eq (β (2 : Fin 3)).isLt (show (S2x7680x3072.size 2 + S1x256x3072.size 2 - 1) / S1x256x3072.size 2 = 1 by decide)
    refine ⟨t, fun a => ?_⟩
    rw [idx0_8 t]
    fin_cases a
    · exact h0
    · exact h1
    · exact (Nat.lt_one_iff.1 hz).symm

theorem covers0_9 : (cfg0.win 9).Covers :=
  Window.covers_of_index_surj _ rfl (fun a => (by decide : ∀ a : Fin 3, 0 < S1x256x1536.size a) a) fun β => by
    obtain ⟨t, h0, h1⟩ := point_at ⟨(β (0 : Fin 3)).val, Nat.lt_of_lt_of_eq (β (0 : Fin 3)).isLt (show (S2x7680x1536.size 0 + S1x256x1536.size 0 - 1) / S1x256x1536.size 0 = 2 by decide)⟩ ⟨(β (1 : Fin 3)).val, Nat.lt_of_lt_of_eq (β (1 : Fin 3)).isLt (show (S2x7680x1536.size 1 + S1x256x1536.size 1 - 1) / S1x256x1536.size 1 = 30 by decide)⟩
    have hz : (β (2 : Fin 3)).val < 1 := Nat.lt_of_lt_of_eq (β (2 : Fin 3)).isLt (show (S2x7680x1536.size 2 + S1x256x1536.size 2 - 1) / S1x256x1536.size 2 = 1 by decide)
    refine ⟨t, fun a => ?_⟩
    rw [idx0_9 t]
    fin_cases a
    · exact h0
    · exact h1
    · exact (Nat.lt_one_iff.1 hz).symm

theorem covers0_10 : (cfg0.win 10).Covers :=
  Window.covers_of_index_surj _ rfl (fun a => (by decide : ∀ a : Fin 3, 0 < S1x256x1.size a) a) fun β => by
    obtain ⟨t, h0, h1⟩ := point_at ⟨(β (0 : Fin 3)).val, Nat.lt_of_lt_of_eq (β (0 : Fin 3)).isLt (show (S2x7680x1.size 0 + S1x256x1.size 0 - 1) / S1x256x1.size 0 = 2 by decide)⟩ ⟨(β (1 : Fin 3)).val, Nat.lt_of_lt_of_eq (β (1 : Fin 3)).isLt (show (S2x7680x1.size 1 + S1x256x1.size 1 - 1) / S1x256x1.size 1 = 30 by decide)⟩
    have hz : (β (2 : Fin 3)).val < 1 := Nat.lt_of_lt_of_eq (β (2 : Fin 3)).isLt (show (S2x7680x1.size 2 + S1x256x1.size 2 - 1) / S1x256x1.size 2 = 1 by decide)
    refine ⟨t, fun a => ?_⟩
    rw [idx0_10 t]
    fin_cases a
    · exact h0
    · exact h1
    · exact (Nat.lt_one_iff.1 hz).symm

/-! ## The blocks read off the arrays -/

variable (m : (ℓ : Loc nD τ sig) → Buf (Elt Ideal) ℓ)

theorem token_lt (t : Fin cfg0.N) (r : Fin 256) : 256 * (grid0.coords t 1).val + r.val < 7680 := by
  have h : (grid0.coords t 1).val < 30 := (grid0.coords t 1).isLt
  omega

theorem row_block (c : Dev nD) (t : Fin cfg0.N) (r : Fin 256) :
    blockRow (iblk m c 0 t) (iblk m c 1 t) r = row (m ((c.tc : Thread nD τ).loc main_arg0)) (m ((c.tc : Thread nD τ).loc main_arg1)) (grid0.coords t 0) ⟨256 * (grid0.coords t 1).val + r.val, token_lt t r⟩ := by
  funext k
  unfold blockRow row
  congr 1
  · blk_ext [iblk, V, idx0_0 t]
  · blk_ext [iblk, V, idx0_1 t]

/-! ## The arrays -/

/-- The hidden states' array. -/
def hiddenArr (c : Dev nD) (y : S2x7680x3072.Idx) : EReal :=
  hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (y 0) (y 1) (y 2)

/-- The codes' array. -/
def codeArr (c : Dev nD) (y : S2x7680x1536.Idx) : BitVec 8 := oCode (m ((c.tc : Thread nD τ).loc main_arg0)) (m ((c.tc : Thread nD τ).loc main_arg1)) (y 0) (y 1) (y 2)

/-- The scales' array. -/
def scaleArr (c : Dev nD) (y : S2x7680x1.Idx) : EReal := oScale (m ((c.tc : Thread nD τ).loc main_arg0)) (m ((c.tc : Thread nD τ).loc main_arg1)) (y 0) (y 1)

theorem arr0_10 (c : Dev nD) : (dats m 0 c).arrAt 10 cfg0.N = scaleArr m c := by
  refine (dats m 0 c).arrAt_eq_of_covers 10 _ covers0_10 fun t hf y => ?_
  rw [after0_10]
  obtain ⟨z, r, k, rfl⟩ : ∃ (z : Fin 1) (r : Fin 256) (k : Fin 1), y = ix3 z r k := ⟨y 0, y 1, y 2, by funext k; fin_cases k <;> rfl⟩
  obtain rfl : z = 0 := Subsingleton.elim _ _
  obtain rfl : k = 0 := Subsingleton.elim _ _
  refine (out10_apply _ _ _ _ _ _ _ _ _ r).trans ?_
  rw [row_block]
  unfold scaleArr
  refine oScale_congr _ _ ?_ ?_ <;> blk_simp [idx0_10 t] <;> first | omega | (dsimp only; omega)

theorem hidden_block (c : Dev nD) (t : Fin cfg0.N) (r : Fin 256) (d : Fin 3072) :
    (out0_8 (grid0.coords t) (iblk m c 0 t) (iblk m c 1 t) (iblk m c 2 t) (iblk m c 3 t) (iblk m c 4 t) (iblk m c 5 t) (iblk m c 6 t) (iblk m c 7 t) (ix3 0 r d) : EReal)
      = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (grid0.coords t 0) ⟨256 * (grid0.coords t 1).val + r.val, token_lt t r⟩ d := by
  have h2 : iblk m c 2 t (ix3 0 r d) = (m ((c.tc : Thread nD τ).loc main_arg2)) (ix3 (grid0.coords t 0) ⟨256 * (grid0.coords t 1).val + r.val, token_lt t r⟩ d) := by blk_ext [iblk, V, idx0_2 t]
  have h3 : ∀ k : Fin 1536, iblk m c 3 t (ix2 k d) = (m ((c.tc : Thread nD τ).loc main_arg3)) (ix2 k d) := fun k => by blk_ext [iblk, V, idx0_3 t]
  have h4 : iblk m c 4 t (ix2 0 d) = (m ((c.tc : Thread nD τ).loc main_arg4)) (ix2 0 d) := by blk_ext [iblk, V, idx0_4 t]
  have h5 : iblk m c 5 t (ix2 0 d) = (m ((c.tc : Thread nD τ).loc main_arg5)) (ix2 0 d) := by blk_ext [iblk, V, idx0_5 t]
  have h6 : iblk m c 6 t (ix3 0 0 d) = (m ((c.tc : Thread nD τ).loc main_arg6)) (ix3 (grid0.coords t 0) 0 d) := by blk_ext [iblk, V, idx0_6 t]
  have h7 : iblk m c 7 t (ix3 0 0 d) = (m ((c.tc : Thread nD τ).loc main_arg7)) (ix3 (grid0.coords t 0) 0 d) := by blk_ext [iblk, V, idx0_7 t]
  have hw : BitVec.ofNat 32 (grid0.coords t 1).val * 256#32 + BitVec.ofNat 32 r.val = BitVec.ofNat 32 (256 * (grid0.coords t 1).val + r.val) := by
    rw [Nat.mul_comm, BitVec.ofNat_add, BitVec.ofNat_mul]
  refine (out8_apply _ _ _ _ _ _ _ _ _ r d).trans ?_
  unfold hidden
  rw [row_block, hw, h2, h4, h5, h6, h7]
  simp only [h3]

theorem code_at (c : Dev nD) (t : Fin cfg0.N) (y : S1x256x1536.Idx) :
    out0_9 (grid0.coords t) (iblk m c 0 t) (iblk m c 1 t) (iblk m c 2 t) (iblk m c 3 t) (iblk m c 4 t) (iblk m c 5 t) (iblk m c 6 t) (iblk m c 7 t) y
      = oCode (m ((c.tc : Thread nD τ).loc main_arg0)) (m ((c.tc : Thread nD τ).loc main_arg1)) (grid0.coords t 0) ⟨256 * (grid0.coords t 1).val + (y 1).val, token_lt t (y 1)⟩ (y 2) := by
  obtain ⟨r, k, rfl⟩ : ∃ (r : Fin 256) (k : Fin 1536), y = ix3 0 r k :=
    ⟨y 1, y 2, by funext a; fin_cases a <;> first | rfl | exact (Subsingleton.elim (α := Fin 1) _ _)⟩
  refine (out9_apply _ _ _ _ _ _ _ _ _ r k).trans ?_
  rw [row_block]
  rfl

theorem arr0_9 (c : Dev nD) : (dats m 0 c).arrAt 9 cfg0.N = codeArr m c := by
  refine (dats m 0 c).arrAt_eq_of_covers 9 _ covers0_9 fun t hf y => ?_
  refine ((congrFun (after0_9 m c t) y).trans (code_at m c t y)).trans ?_
  unfold codeArr
  apply oCode_congr <;> blk_simp [idx0_9 t] <;> first | done | omega | (dsimp only; omega)

theorem hidden_at (c : Dev nD) (t : Fin cfg0.N) (y : S1x256x3072.Idx) :
    (out0_8 (grid0.coords t) (iblk m c 0 t) (iblk m c 1 t) (iblk m c 2 t) (iblk m c 3 t) (iblk m c 4 t) (iblk m c 5 t) (iblk m c 6 t) (iblk m c 7 t) y : EReal)
      = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (grid0.coords t 0) ⟨256 * (grid0.coords t 1).val + (y 1).val, token_lt t (y 1)⟩ (y 2) := by
  obtain ⟨r, d, rfl⟩ : ∃ (r : Fin 256) (d : Fin 3072), y = ix3 0 r d :=
    ⟨y 1, y 2, by funext a; fin_cases a <;> first | rfl | exact (Subsingleton.elim (α := Fin 1) _ _)⟩
  exact hidden_block m c t r d

theorem arr0_8 (c : Dev nD) : (dats m 0 c).arrAt 8 cfg0.N = hiddenArr m c := by
  refine (dats m 0 c).arrAt_eq_of_covers 8 _ covers0_8 fun t hf y => ?_
  refine ((congrFun (after0_8 m c t) y).trans (hidden_at m c t y)).trans ?_
  unfold hiddenArr
  apply hidden_congr <;> blk_simp [idx0_8 t] <;> first | done | omega | (dsimp only; omega)

end Cert.OutProjIdeal.Gen

end

end
-- ==== Proof.OutProjRefIdealLines.lean ====
/- The lines of the output projection's reference, read at an index. -/
module

public import proofs.«01_k».proof.Proof.Gen.OutProjRefIdeal.Frame
public import proofs.«01_k».proof.Proof.OutProjIdealSpec
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.OutProjRefIdeal.Gen

open Idealize.ShloMosaic Idealize.ShloMosaic.TcCoe Idealize.ShloMosaic.Tactic Idealize.SL.Sem
open Idealize.ShloMosaic.Pipeline (Dat Cfg Window)

/-- The rows and their magnitudes. -/
abbrev rowOps : List (HloOp τ sig (Elt Ideal)) :=
  [ StableHlo.unary main_arg0 main_v0 ((transpose S2x7680x24x64 [0, 2, 1, 3] · transposes_S2x24x7680x64_S2x7680x24x64_0_2_1_3) : (⟨S2x24x7680x64, .f32⟩ : BufTy).Contents (Elt Ideal) → (⟨S2x7680x24x64, .f32⟩ : BufTy).Contents (Elt Ideal)),
    StableHlo.reshape main_v0 main_v1 (rfl : (.f32 : EltTy) = .f32) shapeCasts_S2x7680x24x64_S2x7680x1536,
    StableHlo.unary main_arg1 main_v2 (broadcastInDim S2x7680x1536 ![0, 1, 2] bcast_S2x1x1536_S2x7680x1536_0_1_2 : (⟨S2x1x1536, .f32⟩ : BufTy).Contents (Elt Ideal) → (⟨S2x7680x1536, .f32⟩ : BufTy).Contents (Elt Ideal)),
    StableHlo.binary main_v1 main_v2 main_v3 (addf (F := Ideal) (φ := .f32) : (⟨S2x7680x1536, .f32⟩ : BufTy).Contents (Elt Ideal) → (⟨S2x7680x1536, .f32⟩ : BufTy).Contents (Elt Ideal) → (⟨S2x7680x1536, .f32⟩ : BufTy).Contents (Elt Ideal)),
    StableHlo.unary main_v3 main_v4 (Host.absf (F := Ideal) (φ := .f32) : (⟨S2x7680x1536, .f32⟩ : BufTy).Contents (Elt Ideal) → (⟨S2x7680x1536, .f32⟩ : BufTy).Contents (Elt Ideal)) ]

/-- The lines of the scale, over the reduction `f`. -/
abbrev topOps (f : (⟨S2x7680x1536, .f32⟩ : BufTy).Contents (Elt Ideal) → (⟨S_, .f32⟩ : BufTy).Contents (Elt Ideal) → (⟨S2x7680, .f32⟩ : BufTy).Contents (Elt Ideal)) : List (HloOp τ sig (Elt Ideal)) :=
  [ StableHlo.nullary main_cst (constant (F := Ideal) S_ .f32 0xFF800000#32),
    StableHlo.binary main_v4 main_cst main_v5 f,
    StableHlo.unary main_v5 main_v6 (broadcastInDim S2x7680x1 ![0, 1] bcast_S2x7680_S2x7680x1_0_1 : (⟨S2x7680, .f32⟩ : BufTy).Contents (Elt Ideal) → (⟨S2x7680x1, .f32⟩ : BufTy).Contents (Elt Ideal)),
    StableHlo.nullary main_cst_0 (constant (F := Ideal) S_ .f32 0x00000000#32),
    StableHlo.unary main_cst_0 main_v7 (broadcastInDim S2x7680x1 ![] bcast_S_S2x7680x1 : (⟨S_, .f32⟩ : BufTy).Contents (Elt Ideal) → (⟨S2x7680x1, .f32⟩ : BufTy).Contents (Elt Ideal)),
    StableHlo.binary main_v6 main_v7 main_v8 (cmpf (F := Ideal) (φ := .f32) .oeq : (⟨S2x7680x1, .f32⟩ : BufTy).Contents (Elt Ideal) → (⟨S2x7680x1, .f32⟩ : BufTy).Contents (Elt Ideal) → (⟨S2x7680x1, .i1⟩ : BufTy).Contents (Elt Ideal)),
    StableHlo.nullary main_cst_1 (constant (F := Ideal) S_ .f32 0x42FE0000#32),
    StableHlo.unary main_cst_1 main_v9 (broadcastInDim S2x7680x1 ![] bcast_S_S2x7680x1 : (⟨S_, .f32⟩ : BufTy).Contents (Elt Ideal) → (⟨S2x7680x1, .f32⟩ : BufTy).Contents (Elt Ideal)),
    StableHlo.binary main_v6 main_v9 main_v10 (Host.divf (F := Ideal) (φ := .f32) : (⟨S2x7680x1, .f32⟩ : BufTy).Contents (Elt Ideal) → (⟨S2x7680x1, .f32⟩ : BufTy).Contents (Elt Ideal) → (⟨S2x7680x1, .f32⟩ : BufTy).Contents (Elt Ideal)),
    StableHlo.nullary main_cst_2 (constant (F := Ideal) S_ .f32 0x3F800000#32) ]

/-- The reduction that the reference prints. -/
abbrev topRed : (⟨S2x7680x1536, .f32⟩ : BufTy).Contents (Elt Ideal) → (⟨S_, .f32⟩ : BufTy).Contents (Elt Ideal) → (⟨S2x7680, .f32⟩ : BufTy).Contents (Elt Ideal) :=
  fun x v => Host.reduce (FloatOps.maximumf (F := Ideal) (φ := .f32)) x v reducesTo_S2x7680x1536_S2x7680_d2 h_S_

theorem ops_eq : hostOps0 (F := Ideal) = rowOps ++ topOps topRed := rfl

theorem top_row (x : S2x7680x1536.Idx → EReal) (b : Fin 2) (r : Fin 7680) :
    topRed x (constant (F := Ideal) S_ .f32 0xFF800000#32) (ix2 b r) = Finset.univ.fold max (Ideal.ofBits .f32 0xFF800000#32) fun k => x (ix3 b r k) := by
  unfold topRed
  pointwise

variable (W : Valuation τ sig (Elt Ideal))

theorem v3_line (b : Fin 2) (r : Fin 7680) (k : Fin 1536) :
    (StableHlo.after rowOps W (Proc.devRef .tc main_v3) (ix3 b r k) : EReal)
      = HAdd.hAdd (α := EReal) (β := EReal) (W (Proc.devRef .tc main_arg0) (ix4 b ⟨k.val / 64, by omega⟩ r ⟨k.val % 64, by omega⟩)) (W (Proc.devRef .tc main_arg1) (ix3 b 0 k)) := by
  after_reads_at

theorem v4_line (b : Fin 2) (r : Fin 7680) (k : Fin 1536) :
    (StableHlo.after rowOps W (Proc.devRef .tc main_v4) (ix3 b r k) : EReal)
      = Max.max (α := EReal) (StableHlo.after rowOps W (Proc.devRef .tc main_v3) (ix3 b r k)) (Neg.neg (α := EReal) (StableHlo.after rowOps W (Proc.devRef .tc main_v3) (ix3 b r k))) := by
  after_reads_at
  rfl

variable (f : (⟨S2x7680x1536, .f32⟩ : BufTy).Contents (Elt Ideal) → (⟨S_, .f32⟩ : BufTy).Contents (Elt Ideal) → (⟨S2x7680, .f32⟩ : BufTy).Contents (Elt Ideal))

theorem v8_line (b : Fin 2) (r : Fin 7680) :
    StableHlo.after (topOps f) W (Proc.devRef .tc main_v8) (ix3 b r 0)
      = Ideal.cmp .oeq (f (W (Proc.devRef .tc main_v4)) (constant (F := Ideal) S_ .f32 0xFF800000#32) (ix2 b r)) (Ideal.ofBits .f32 0x00000000#32) := by
  after_reads_at

theorem v10_line (b : Fin 2) (r : Fin 7680) :
    (StableHlo.after (topOps f) W (Proc.devRef .tc main_v10) (ix3 b r 0) : EReal)
      = Ideal.div (f (W (Proc.devRef .tc main_v4)) (constant (F := Ideal) S_ .f32 0xFF800000#32) (ix2 b r)) (Ideal.ofBits .f32 0x42FE0000#32) := by
  after_reads_at

theorem cst_2_line : StableHlo.after (topOps f) W (Proc.devRef .tc main_cst_2) = constant (F := Ideal) S_ .f32 0x3F800000#32 := by
  after_reads_simp

theorem v3_kept : StableHlo.after (topOps f) W (Proc.devRef .tc main_v3) = W (Proc.devRef .tc main_v3) := by
  after_reads_simp

theorem v11_line (b : Fin 2) (r : Fin 7680) :
    (StableHlo.after hostOps0_1 W (Proc.devRef .tc main_v11) (ix3 b r 0) : EReal)
      = Scalar.select (W (Proc.devRef .tc main_v8) (ix3 b r 0)) (id (W (Proc.devRef .tc main_cst_2)) ix0) (W (Proc.devRef .tc main_v10) (ix3 b r 0)) := by
  after_reads_at

theorem v3_kept' : StableHlo.after hostOps0_1 W (Proc.devRef .tc main_v3) = W (Proc.devRef .tc main_v3) := by
  after_reads_simp

theorem v21_line (b : Fin 2) (r : Fin 7680) (d : Fin 3072) :
    (StableHlo.after hostOps1 W (Proc.devRef .tc main_v21) (ix3 b r d) : EReal)
      = (∑ k : Fin 1536, HMul.hMul (α := EReal) (β := EReal) (W (Proc.devRef .tc main_v12_1) (ix3 b r k)) (W (Proc.devRef .tc main_arg3) (ix2 k d))) * (W (Proc.devRef .tc main_v11) (ix3 b r 0) : EReal)
        * (W (Proc.devRef .tc main_arg4) (ix2 0 d) : EReal) + (W (Proc.devRef .tc main_arg5) (ix2 0 d) : EReal) := by
  after_reads_at

theorem v25_line (r : Fin 7680) :
    StableHlo.after hostOps1 W (Proc.devRef .tc main_v25) (ix3 0 r 0) = IntOp.cmpi .slt (BitVec.ofNat 32 r.val) 226#32 := by
  after_reads_at

theorem v26_line (b : Fin 2) (r : Fin 7680) (d : Fin 3072) :
    (StableHlo.after hostOps1_1 W (Proc.devRef .tc main_v26) (ix3 b r d) : EReal)
      = Scalar.select (W (Proc.devRef .tc main_v25) (ix3 0 r 0)) (W (Proc.devRef .tc main_arg7) (ix3 b 0 d)) (W (Proc.devRef .tc main_arg6) (ix3 b 0 d)) := by
  after_reads_at

theorem v30_line (b : Fin 2) (r : Fin 7680) (d : Fin 3072) :
    (StableHlo.after hostOps1_2 W (Proc.devRef .tc main_v30) (ix3 b r d) : EReal)
      = HAdd.hAdd (α := EReal) (β := EReal) (W (Proc.devRef .tc main_arg2) (ix3 b r d)) (HMul.hMul (α := EReal) (β := EReal) (W (Proc.devRef .tc main_v26) (ix3 b r d)) (W (Proc.devRef .tc main_v21) (ix3 b r d))) := by
  after_reads_at

theorem v21_kept : StableHlo.after hostOps1_1 W (Proc.devRef .tc main_v21) = W (Proc.devRef .tc main_v21) := by
  after_reads_simp

theorem arg2_kept : StableHlo.after hostOps1_1 (StableHlo.after hostOps1 W) (Proc.devRef .tc main_arg2) = W (Proc.devRef .tc main_arg2) := by
  after_reads_simp

theorem arg6_kept : StableHlo.after hostOps1 W (Proc.devRef .tc main_arg6) = W (Proc.devRef .tc main_arg6) := by
  after_reads_simp

theorem arg7_kept : StableHlo.after hostOps1 W (Proc.devRef .tc main_arg7) = W (Proc.devRef .tc main_arg7) := by
  after_reads_simp

end Cert.OutProjRefIdeal.Gen

end

end
-- ==== Proof.OutProjRefIdealValue.lean ====
/- The results of the output projection's reference, as functions of its arrays. -/
module

public import proofs.«01_k».proof.Proof.Gen.OutProjRefIdeal.Frame
public import proofs.«01_k».proof.Proof.OutProjIdealSpec
public import proofs.«01_k».proof.Proof.OutProjRefIdealLines
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.OutProjRefIdeal.Gen

open Idealize.ShloMosaic Idealize.ShloMosaic.TcCoe Idealize.ShloMosaic.Tactic Idealize.SL.Sem
open Idealize.ShloMosaic.Pipeline (Dat Cfg Window)

open Cert.OutProjIdeal.Gen (top scaleOf clipped codeOf code_back row oCode oScale hidden)

variable (m : (ℓ : Loc nD τ sig) → Buf (Elt Ideal) ℓ) (g : Dev nD → PrngReg)

/-! ## The rows and the scales -/

/-- The references after the rows. -/
abbrev Wr (c : Dev nD) : Valuation τ sig (Elt Ideal) := StableHlo.after rowOps (fun b => m (c, b))

theorem V_split (c : Dev nD) (x : Ref sig .tc) :
    V m c x = StableHlo.after hostOps0_1 (StableHlo.after (topOps topRed) (Wr m c)) (Proc.devRef .tc x) := by
  show StableHlo.after (hostOps0 ++ (hostOps0_1 ++ [])) _ _ = _
  rw [StableHlo.after_append, List.append_nil, ops_eq, StableHlo.after_append]

theorem v3_read (c : Dev nD) (b : Fin 2) (r : Fin 7680) (k : Fin 1536) : (V m c main_v3 (ix3 b r k) : EReal) = row (m ((c.tc : Thread nD τ).loc main_arg0)) (m ((c.tc : Thread nD τ).loc main_arg1)) b r k := by
  rw [V_split, v3_kept', v3_kept]
  exact v3_line _ b r k

theorem top_read (c : Dev nD) (b : Fin 2) (r : Fin 7680) :
    topRed (Wr m c (Proc.devRef .tc main_v4)) (constant (F := Ideal) S_ .f32 0xFF800000#32) (ix2 b r) = top (row (m ((c.tc : Thread nD τ).loc main_arg0)) (m ((c.tc : Thread nD τ).loc main_arg1)) b r) := by
  refine (top_row _ b r).trans ?_
  unfold top
  refine congrArg (fun h => Finset.univ.fold max (Ideal.ofBits .f32 0xFF800000#32) h) (funext fun k => ?_)
  refine (v4_line _ b r k).trans ?_
  exact congrArg (fun z : EReal => max z (-z)) (v3_line _ b r k)

theorem v11_read (c : Dev nD) (b : Fin 2) (r : Fin 7680) : (V m c main_v11 (ix3 b r 0) : EReal) = scaleOf (row (m ((c.tc : Thread nD τ).loc main_arg0)) (m ((c.tc : Thread nD τ).loc main_arg1)) b r) := by
  rw [V_split]
  refine (v11_line _ b r).trans ?_
  rw [v8_line, v10_line, cst_2_line, top_read]
  rfl

/-! ## The codes -/

theorem ix0' (t : Fin cfg0.N) : win0_0.index t = fun _ => 0 := rfl
theorem ix1' (t : Fin cfg0.N) : win0_1.index t = fun _ => 0 := rfl
theorem ix2' (t : Fin cfg0.N) : win0_2.index t = fun _ => 0 := rfl
theorem ix3' (t : Fin cfg0.N) : win0_3.index t = fun _ => 0 := rfl

/-- The clipped quotient at an index, from the rows and the scales. -/
def quot (x : S2x7680x1536.Idx → EReal) (s : S2x7680x1.Idx → EReal) (j : S2x7680x1536.Idx) : EReal := clipped (Ideal.div (x j) (s (ix3 (j 0) (j 1) 0)))

theorem pay1_apply (x : S2x7680x1536.Idx → EReal) (s : S2x7680x1.Idx → EReal) (j : S2x7680x1536.Idx) :
    k0_pay1 (F := Ideal) x s j = Ideal.fptosi 8 (quot x s j) := by
  obtain ⟨b, r, k, rfl⟩ : ∃ (b : Fin 2) (r : Fin 7680) (k : Fin 1536), j = ix3 b r k := ⟨j 0, j 1, j 2, by funext a; fin_cases a <;> rfl⟩
  unfold k0_pay1 quot clipped
  pointwise
  rfl

theorem pay2_apply (x : S2x7680x1536.Idx → EReal) (s : S2x7680x1.Idx → EReal) (j : S2x7680x1536.Idx) :
    (k0_pay2 (F := Ideal) x s j : EReal) = quot x s j := by
  have e : (k0_pay2 (F := Ideal) x s j : EReal) = (((k0_pay1 (F := Ideal) x s j).toInt : ℝ) : EReal) := rfl
  rw [e, pay1_apply]
  exact code_back _

theorem blk0 (c : Dev nD) (t : Fin cfg0.N) : iblk m c 0 t = V m c main_v3 := by
  funext j
  blk_ext [iblk, ix0' t]

theorem read1 (t : Fin cfg0.N) (X : (⟨S2x7680x1, .f32⟩ : BufTy).Contents (Elt Ideal)) : ((cfg0.win 1).blk t).view.read (Elt Ideal) X = X := by
  funext j
  exact congrArg X (funext fun a => Fin.ext (Window.rect_emb_val_of_index_zero (cfg0.win 1) t a (congrFun (ix1' t) a) j))

theorem blk1 (c : Dev nD) (t : Fin cfg0.N) : iblk m c 1 t = V m c main_v11 := by
  unfold iblk
  exact read1 t (V m c main_v11)

theorem out2_apply (x : Vec Ideal S2x7680x1536 .f32) (s : Vec Ideal S2x7680x1 .f32) : out0_2 x s = k0_pay1 x s := by
  frame_out

theorem out3_apply (x : Vec Ideal S2x7680x1536 .f32) (s : Vec Ideal S2x7680x1 .f32) : out0_3 x s = k0_pay2 x s := by
  frame_out

/-- The quotients that the call finds. -/
abbrev quots (c : Dev nD) : S2x7680x1536.Idx → EReal := quot (V m c main_v3) (V m c main_v11)

theorem after2 (c : Dev nD) (t : Fin cfg0.N) : (dats m 0 c).after 2 t = fun j : S2x7680x1536.Idx => Ideal.fptosi 8 (quots m c j) := by
  rw [after0_2, blk0, blk1, out2_apply]
  exact funext fun j => pay1_apply _ _ j

theorem arr2 (c : Dev nD) : (dats m 0 c).arrAt 2 cfg0.N = fun j => Ideal.fptosi 8 (quots m c j) := by
  refine (dats m 0 c).arrAt_eq_of_covers 2 _ (by decide +kernel) fun t hf y => ?_
  refine (congrFun (after2 m c t) y).trans ?_
  refine congrArg (fun j => Ideal.fptosi 8 (quots m c j)) ?_
  refine funext fun a => Fin.ext ?_
  blk_simp [ix2' t]

theorem after3 (c : Dev nD) (t : Fin cfg0.N) : (dats m 0 c).after 3 t = fun j : S2x7680x1536.Idx => quots m c j := by
  rw [after0_3, blk0, blk1, out3_apply]
  exact funext fun j => pay2_apply _ _ j

theorem arr3 (c : Dev nD) : (dats m 0 c).arrAt 3 cfg0.N = fun j => quots m c j := by
  refine (dats m 0 c).arrAt_eq_of_covers 3 _ (by decide +kernel) fun t hf y => ?_
  refine (congrFun (after3 m c t) y).trans ?_
  refine congrArg (fun j => quots m c j) ?_
  refine funext fun a => Fin.ext ?_
  blk_simp [ix3' t]

theorem quots_read (c : Dev nD) (b : Fin 2) (r : Fin 7680) (k : Fin 1536) : quots m c (ix3 b r k) = codeOf (row (m ((c.tc : Thread nD τ).loc main_arg0)) (m ((c.tc : Thread nD τ).loc main_arg1)) b r) k := by
  show clipped (Ideal.div (V m c main_v3 (ix3 b r k)) (V m c main_v11 (ix3 b r 0))) = _
  rw [v3_read, v11_read]
  rfl

/-! ## The results -/

theorem arr_inj : Function.Injective (Pipeline.arrRef spec0) := by decide

/-- The references after the call. -/
abbrev Wt (c : Dev nD) : Valuation τ sig (Elt Ideal) := Pipeline.withArrays (cfgs 0).spec c (V0 m c) fun w => (dats m 0 c).arrAt w (cfgs 0).N

theorem Wt_codes (c : Dev nD) : Wt m c (Proc.devRef .tc main_v12_1) = fun j => quots m c j :=
  (Pipeline.withArrays_arr spec0 arr_inj c (V0 m c) (fun w => (dats m 0 c).arrAt w (cfgs 0).N) 3).trans (arr3 m c)

theorem scale_arr (c : Dev nD) : (dats m 0 c).arrAt 1 cfg0.N = V m c main_v11 :=
  ((dats m 0 c).arrAt_in 1 rfl _).trans (A_eq m c 1)

theorem Wt_scale (c : Dev nD) : Wt m c (Proc.devRef .tc main_v11) = V m c main_v11 :=
  (Pipeline.withArrays_arr spec0 arr_inj c (V0 m c) (fun w => (dats m 0 c).arrAt w (cfgs 0).N) 1).trans (scale_arr m c)

theorem Wt_arg2 (c : Dev nD) : Wt m c (Proc.devRef .tc main_arg2) = (m ((c.tc : Thread nD τ).loc main_arg2)) :=
  (Pipeline.withArrays_of_ne _ c (V0 m c) _ main_arg2 (by exact (by decide : ∀ w, Pipeline.arrRef spec0 w ≠ main_arg2))).trans (V_main_arg2 m c)

theorem Wt_arg3 (c : Dev nD) : Wt m c (Proc.devRef .tc main_arg3) = (m ((c.tc : Thread nD τ).loc main_arg3)) :=
  (Pipeline.withArrays_of_ne _ c (V0 m c) _ main_arg3 (by exact (by decide : ∀ w, Pipeline.arrRef spec0 w ≠ main_arg3))).trans (V_main_arg3 m c)

theorem Wt_arg4 (c : Dev nD) : Wt m c (Proc.devRef .tc main_arg4) = (m ((c.tc : Thread nD τ).loc main_arg4)) :=
  (Pipeline.withArrays_of_ne _ c (V0 m c) _ main_arg4 (by exact (by decide : ∀ w, Pipeline.arrRef spec0 w ≠ main_arg4))).trans (V_main_arg4 m c)

theorem Wt_arg5 (c : Dev nD) : Wt m c (Proc.devRef .tc main_arg5) = (m ((c.tc : Thread nD τ).loc main_arg5)) :=
  (Pipeline.withArrays_of_ne _ c (V0 m c) _ main_arg5 (by exact (by decide : ∀ w, Pipeline.arrRef spec0 w ≠ main_arg5))).trans (V_main_arg5 m c)

theorem Wt_arg6 (c : Dev nD) : Wt m c (Proc.devRef .tc main_arg6) = (m ((c.tc : Thread nD τ).loc main_arg6)) :=
  (Pipeline.withArrays_of_ne _ c (V0 m c) _ main_arg6 (by exact (by decide : ∀ w, Pipeline.arrRef spec0 w ≠ main_arg6))).trans (V_main_arg6 m c)

theorem Wt_arg7 (c : Dev nD) : Wt m c (Proc.devRef .tc main_arg7) = (m ((c.tc : Thread nD τ).loc main_arg7)) :=
  (Pipeline.withArrays_of_ne _ c (V0 m c) _ main_arg7 (by exact (by decide : ∀ w, Pipeline.arrRef spec0 w ≠ main_arg7))).trans (V_main_arg7 m c)

/-- The codes the reference returns. -/
theorem code_arr (c : Dev nD) : (dats m 0 c).arrAt 2 cfg0.N = fun y : S2x7680x1536.Idx => oCode (m ((c.tc : Thread nD τ).loc main_arg0)) (m ((c.tc : Thread nD τ).loc main_arg1)) (y 0) (y 1) (y 2) := by
  refine (arr2 m c).trans (funext fun y => ?_)
  obtain ⟨b, r, k, rfl⟩ : ∃ (b : Fin 2) (r : Fin 7680) (k : Fin 1536), y = ix3 b r k := ⟨y 0, y 1, y 2, by funext a; fin_cases a <;> rfl⟩
  rw [quots_read]
  rfl

/-- The scales the reference returns. -/
theorem scale_read (c : Dev nD) : (dats m 0 c).arrAt 1 cfg0.N = fun y : S2x7680x1.Idx => oScale (m ((c.tc : Thread nD τ).loc main_arg0)) (m ((c.tc : Thread nD τ).loc main_arg1)) (y 0) (y 1) := by
  refine (scale_arr m c).trans (funext fun y => ?_)
  obtain ⟨b, r, rfl⟩ : ∃ (b : Fin 2) (r : Fin 7680), y = ix3 b r 0 := ⟨y 0, y 1, by funext a; fin_cases a <;> first | rfl | exact (Subsingleton.elim (α := Fin 1) _ _)⟩
  exact v11_read m c b r

theorem tail_eq (c : Dev nD) (x : Ref sig .tc) : Pipeline.afterTail₀ cfgs (dats m) 0 (V0 m) [hostOps1, hostOps1_1, hostOps1_2] c x
    = StableHlo.after hostOps1_2 (StableHlo.after hostOps1_1 (StableHlo.after hostOps1 (Wt m c))) (Proc.devRef .tc x) := by
  show StableHlo.after (hostOps1 ++ (hostOps1_1 ++ (hostOps1_2 ++ []))) (Wt m c) _ = _
  rw [StableHlo.after_append, StableHlo.after_append, List.append_nil]

/-- The hidden states the reference returns. -/
theorem hidden_read (c : Dev nD) :
    Pipeline.afterTail₀ cfgs (dats m) 0 (V0 m) [hostOps1, hostOps1_1, hostOps1_2] c main_v30
      = fun y : S2x7680x3072.Idx => hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (y 0) (y 1) (y 2) := by
  funext y
  obtain ⟨b, r, d, rfl⟩ : ∃ (b : Fin 2) (r : Fin 7680) (d : Fin 3072), y = ix3 b r d := ⟨y 0, y 1, y 2, by funext a; fin_cases a <;> rfl⟩
  refine (congrFun (tail_eq m c main_v30) _).trans ?_
  refine (v30_line _ b r d).trans ?_
  rw [arg2_kept, v26_line, v21_kept, v25_line, arg6_kept, arg7_kept, v21_line, Wt_codes, Wt_scale, Wt_arg2, Wt_arg3, Wt_arg4, Wt_arg5, Wt_arg6, Wt_arg7, v11_read]
  have e : ∀ k : Fin 1536, quots m c (ix3 b r k) = codeOf (row (m ((c.tc : Thread nD τ).loc main_arg0)) (m ((c.tc : Thread nD τ).loc main_arg1)) b r) k := fun k => quots_read m c b r k
  simp only [e]
  rfl

end Cert.OutProjRefIdeal.Gen

end

end
-- ==== Proof.OutProjAgree.lean ====
/- The output projection of the kernel and its reference leave the same results. -/
module

public import proofs.«01_k».proof.Defs
public import proofs.«01_k».proof.Proof.Gen.OutProjIdeal
public import proofs.«01_k».proof.Proof.Gen.OutProjRefIdeal
public import proofs.«01_k».proof.Proof.OutProjIdealValue
public import proofs.«01_k».proof.Proof.OutProjRefIdealValue
public import Idealize.ShloMosaic.Lib.Claim

@[expose] public section

set_option maxRecDepth 16384

noncomputable section

namespace Cert.OutProjAgree

open Idealize.ShloMosaic Idealize.ShloMosaic.TcCoe Idealize.SL.Sem

section Kernel

open Cert.OutProjIdeal Cert.OutProjIdeal.Gen

theorem run_kernel (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread Cert.OutProjIdeal.nD Cert.OutProjIdeal.τ).loc Cert.OutProjIdeal.main_v0_0) = hiddenArr m c
      ∧ r.2.mem ((c.tc : Thread Cert.OutProjIdeal.nD Cert.OutProjIdeal.τ).loc Cert.OutProjIdeal.main_v0_1) = codeArr m c
      ∧ r.2.mem ((c.tc : Thread Cert.OutProjIdeal.nD Cert.OutProjIdeal.τ).loc Cert.OutProjIdeal.main_v0_2) = scaleArr m c
      ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)) :=
  (θ_run defs _ _).mono (fun _ h c => ⟨((h.1 c).1 8).trans (arr0_8 m c), ((h.1 c).1 9).trans (arr0_9 m c), ((h.1 c).1 10).trans (arr0_10 m c), h.2 c⟩)
    (θ_run_and (run_main m g) (frame_of m g (dats m) (A_eq m) (run_main m g)))

end Kernel

section Reference

open Cert.OutProjRefIdeal Cert.OutProjRefIdeal.Gen
open Cert.OutProjIdeal.Gen (oCode oScale hidden)

theorem run_reference (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread Cert.OutProjRefIdeal.nD Cert.OutProjRefIdeal.τ).loc Cert.OutProjRefIdeal.main_v30) = (fun y : S2x7680x3072.Idx => hidden (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (y 0) (y 1) (y 2))
      ∧ r.2.mem ((c.tc : Thread Cert.OutProjRefIdeal.nD Cert.OutProjRefIdeal.τ).loc Cert.OutProjRefIdeal.main_v12_0) = (fun y : S2x7680x1536.Idx => oCode (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (y 0) (y 1) (y 2))
      ∧ r.2.mem ((c.tc : Thread Cert.OutProjRefIdeal.nD Cert.OutProjRefIdeal.τ).loc Cert.OutProjRefIdeal.main_v11) = (fun y : S2x7680x1.Idx => oScale (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (y 0) (y 1))
      ∧ r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)) :=
  (θ_run defs _ _).mono (fun _ h c => ⟨((h.1 c).2 main_v30 (Pipeline.mem_restRefs_of main_v30 (by decide) (by decide))).trans (hidden_read m c),
      ((h.1 c).1 2).trans (code_arr m c), ((h.1 c).1 1).trans (scale_read m c), h.2 c⟩)
    (θ_run_and (run_main m g) (frame_of m g (dats m) (A_eq m) (run_main m g)))

end Reference

section Both

open Cert.OutProjIdeal Cert.OutProjIdeal.Gen

theorem hidden_same {a0 b0 : S2x24x7680x64.Idx → EReal} {a1 b1 : S2x1x1536.Idx → EReal} {a2 b2 : S2x7680x3072.Idx → EReal} {a3 b3 : S1536x3072.Idx → EReal} {a4 b4 : S1x3072.Idx → EReal} {a5 b5 : S1x3072.Idx → EReal} {a6 b6 : S2x1x3072.Idx → EReal} {a7 b7 : S2x1x3072.Idx → EReal} (e0 : a0 = b0) (e1 : a1 = b1) (e2 : a2 = b2) (e3 : a3 = b3) (e4 : a4 = b4) (e5 : a5 = b5) (e6 : a6 = b6) (e7 : a7 = b7) :
    (fun y : S2x7680x3072.Idx => hidden a0 a1 a2 a3 a4 a5 a6 a7 (y 0) (y 1) (y 2)) = fun y => hidden b0 b1 b2 b3 b4 b5 b6 b7 (y 0) (y 1) (y 2) := by
  subst e0 e1 e2 e3 e4 e5 e6 e7; rfl

theorem code_same {a0 b0 : S2x24x7680x64.Idx → EReal} {a1 b1 : S2x1x1536.Idx → EReal} (e0 : a0 = b0) (e1 : a1 = b1) :
    (fun y : S2x7680x1536.Idx => oCode a0 a1 (y 0) (y 1) (y 2)) = fun y => oCode b0 b1 (y 0) (y 1) (y 2) := by
  subst e0 e1; rfl

theorem scale_same {a0 b0 : S2x24x7680x64.Idx → EReal} {a1 b1 : S2x1x1536.Idx → EReal} (e0 : a0 = b0) (e1 : a1 = b1) :
    (fun y : S2x7680x1.Idx => oScale a0 a1 (y 0) (y 1)) = fun y => oScale b0 b1 (y 0) (y 1) := by
  subst e0 e1; rfl

end Both

theorem agree : @Cert.algebraic_OutProjIdeal_OutProjRefIdeal Cert.OutProjIdeal.Gen.facts Cert.OutProjRefIdeal.Gen.facts := by
  intro m g m' g' hpre hagree
  refine ⟨fun c => Cert.OutProjIdeal.Gen.hiddenArr m c, fun c => Cert.OutProjIdeal.Gen.codeArr m c, fun c => Cert.OutProjIdeal.Gen.scaleArr m c, run_kernel m g, ?_⟩
  refine (θ_run Cert.OutProjRefIdeal.defs _ _).mono (fun _ h c => ?_) (run_reference m' g')
  obtain ⟨e0, e1, e2, e3, e4, e5, e6, e7⟩ := hagree c
  obtain ⟨h0, h1, h2, ha⟩ := h c
  exact ⟨h0.trans (hidden_same e0 e1 e2 e3 e4 e5 e6 e7), h1.trans (code_same e0 e1), h2.trans (scale_same e0 e1), ha⟩

end Cert.OutProjAgree

end

end
-- ==== Proof.lean ====
module

public import proofs.«01_k».proof.Defs
public import proofs.«01_k».proof.Proof.AttentionFrame
public import proofs.«01_k».proof.Proof.AttentionIdealFrame
public import proofs.«01_k».proof.Proof.AttentionChk
public import proofs.«01_k».proof.Proof.AttentionRefIdealValue
public import proofs.«01_k».proof.Proof.Gen.Pre_chunks_in_range
public import Idealize.ShloMosaic.Lib.StableHlo.Predicate
public import Idealize.ShloMosaic.Adequacy
public import Idealize.ShloMosaic.Init
public import proofs.«01_k».proof.Proof.Gen.OutProj.Frame
public import proofs.«01_k».proof.Proof.Gen.OutProjIdeal.Frame
public import proofs.«01_k».proof.Proof.Gen.OutProjRefIdeal.Frame
public import proofs.«01_k».proof.Proof.OutProjAgree

@[expose] public section

noncomputable section

namespace Cert.Proof

open Idealize.ShloMosaic Idealize.ShloMosaic.TcCoe Idealize.SL.Sem

section Attention
open Cert.Attention Cert.Attention.Gen

/-- The precondition decoded: every word of the table names at most five chunks. -/
theorem words_Attention (m : (ℓ : Loc nD τ sig) → Buf (Elt Bits) ℓ) (h : Cert.Pre_Attention m) (x : S2.Idx) : BitVec.toInt (tbl m 0 x) ≤ 5 := by
  have e := congrFun (h 0) x
  simp only [Pre_chunks_in_range.fn, cmpi, constantI, broadcastInDim] at e
  have e' := (StableHlo.Predicate.ofBool_eq_one_iff _).1 e
  simp only [BitVec.sle, decide_eq_true_eq] at e'
  exact e'

/-- So the body's side condition holds of whichever word it reads. -/
theorem tblOk_Attention (m : (ℓ : Loc nD τ sig) → Buf (Elt Bits) ℓ) (h : Cert.Pre_Attention m) : TblOk (F := Bits) m := fun j =>
  Cert.Attention.Gen.chk_of_le _ (words_Attention m h _)

end Attention

section AttentionIdeal
open Cert.AttentionIdeal Cert.AttentionIdeal.Gen

/-- The precondition decoded: every word of the table names at most five chunks. -/
theorem words_AttentionIdeal (m : (ℓ : Loc nD τ sig) → Buf (Elt Ideal) ℓ) (h : Cert.Pre_AttentionIdeal m) (x : S2.Idx) : BitVec.toInt (tbl m 0 x) ≤ 5 := by
  have e := congrFun (h 0) x
  simp only [Pre_chunks_in_range.fn, cmpi, constantI, broadcastInDim] at e
  have e' := (StableHlo.Predicate.ofBool_eq_one_iff _).1 e
  simp only [BitVec.sle, decide_eq_true_eq] at e'
  exact e'

/-- So the body's side condition holds of whichever word it reads. -/
theorem tblOk_AttentionIdeal (m : (ℓ : Loc nD τ sig) → Buf (Elt Ideal) ℓ) (h : Cert.Pre_AttentionIdeal m) : TblOk (F := Ideal) m := fun j =>
  Cert.AttentionIdeal.Gen.chk_of_le _ (words_AttentionIdeal m h _)

end AttentionIdeal

/-! ## The kernel's results -/

section Kernel
open Cert.AttentionIdeal Cert.AttentionIdeal.Gen

theorem run_kernel (m : (ℓ : Loc nD τ sig) → Buf (Elt Ideal) ℓ) (g : Dev nD → PrngReg) (h : Cert.Pre_AttentionIdeal m) :
    θ_run (defs (F := Ideal)) (onTc (τ := τ) (main (F := Ideal))) ⟨m, fun _ => 0, g⟩ (fun r => ∀ c : Dev nD,
      r.2.mem ((c.tc : Thread Cert.AttentionIdeal.nD Cert.AttentionIdeal.τ).loc Cert.AttentionIdeal.main_v0_0) = attnArr m c
      ∧ r.2.mem ((c.tc : Thread Cert.AttentionIdeal.nD Cert.AttentionIdeal.τ).loc Cert.AttentionIdeal.main_v0_1) = attnArr m c
      ∧ r.2.mem ((c.tc : Thread Cert.AttentionIdeal.nD Cert.AttentionIdeal.τ).loc Cert.AttentionIdeal.main_v0_2) = lseArr m c
      ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7)) :=
  have h0 := (θ_run defs _ _).mono (fun _ h => h.1) (run_main_quiescentV m g trivial fun j => words_AttentionIdeal m h _)
  (θ_run defs _ _).mono (fun _ h c => ⟨((h.1 c).1 7).trans (arr0_7 m trivial c), ((h.1 c).1 8).trans (arr0_8 m trivial c), ((h.1 c).1 9).trans (arr0_9 m trivial c), h.2 c⟩)
    (θ_run_and h0 (frame_of m g trivial (datsV m trivial) (A_eqV m trivial) h0))

/-- No batch sees more keys than there are. -/
theorem seen_le (m : (ℓ : Loc nD τ sig) → Buf (Elt Ideal) ℓ) (h : Cert.Pre_AttentionIdeal m) (c : Dev nD) (b : Fin 2) :
    seen (m ((c.tc : Thread nD τ).loc main_arg0)) b ≤ 7680 := by
  obtain rfl : c = 0 := Subsingleton.elim _ _
  have e : BitVec.toInt (m (((0 : Dev nD).tc : Thread nD τ).loc main_arg0) (ix1 b)) ≤ 5 := words_AttentionIdeal m h (ix1 b)
  unfold seen
  omega

end Kernel

/-! ## The reference's results -/

section Reference
open Cert.AttentionRefIdeal Cert.AttentionRefIdeal.Gen
open Cert.AttentionIdeal.Gen (seen attn lse)

theorem run_reference (m : (ℓ : Loc nD τ sig) → Buf (Elt Ideal) ℓ) (g : Dev nD → PrngReg)
    (hn : ∀ (c : Dev nD) (b : Fin 2), seen (m ((c.tc : Thread Cert.AttentionRefIdeal.nD Cert.AttentionRefIdeal.τ).loc Cert.AttentionRefIdeal.main_arg0)) b ≤ 7680) :
    θ_run (defs (F := Ideal)) (onTc (τ := τ) (main (F := Ideal))) ⟨m, fun _ => 0, g⟩ (fun r => ∀ c : Dev nD,
      r.2.mem ((c.tc : Thread Cert.AttentionRefIdeal.nD Cert.AttentionRefIdeal.τ).loc Cert.AttentionRefIdeal.main_v56) = (fun y : S2x24x7680x64.Idx => attn (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2)) (m ((c.tc : Thread Cert.AttentionRefIdeal.nD Cert.AttentionRefIdeal.τ).loc Cert.AttentionRefIdeal.main_arg3)) (m ((c.tc : Thread Cert.AttentionRefIdeal.nD Cert.AttentionRefIdeal.τ).loc Cert.AttentionRefIdeal.main_arg4)) (m ((c.tc : Thread Cert.AttentionRefIdeal.nD Cert.AttentionRefIdeal.τ).loc Cert.AttentionRefIdeal.main_arg5)) (m ((c.tc : Thread Cert.AttentionRefIdeal.nD Cert.AttentionRefIdeal.τ).loc Cert.AttentionRefIdeal.main_arg6)) (y 0) (y 1) (y 2) (y 3))
      ∧ r.2.mem ((c.tc : Thread Cert.AttentionRefIdeal.nD Cert.AttentionRefIdeal.τ).loc Cert.AttentionRefIdeal.main_v41) = (fun y : S2x24x7680x64.Idx => attn (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2)) (m ((c.tc : Thread Cert.AttentionRefIdeal.nD Cert.AttentionRefIdeal.τ).loc Cert.AttentionRefIdeal.main_arg3)) (m ((c.tc : Thread Cert.AttentionRefIdeal.nD Cert.AttentionRefIdeal.τ).loc Cert.AttentionRefIdeal.main_arg4)) (m ((c.tc : Thread Cert.AttentionRefIdeal.nD Cert.AttentionRefIdeal.τ).loc Cert.AttentionRefIdeal.main_arg5)) (m ((c.tc : Thread Cert.AttentionRefIdeal.nD Cert.AttentionRefIdeal.τ).loc Cert.AttentionRefIdeal.main_arg6)) (y 0) (y 1) (y 2) (y 3))
      ∧ r.2.mem ((c.tc : Thread Cert.AttentionRefIdeal.nD Cert.AttentionRefIdeal.τ).loc Cert.AttentionRefIdeal.main_v57) = (fun y : S2x24x1x7680.Idx => lse (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2)) (m ((c.tc : Thread Cert.AttentionRefIdeal.nD Cert.AttentionRefIdeal.τ).loc Cert.AttentionRefIdeal.main_arg3)) (m ((c.tc : Thread Cert.AttentionRefIdeal.nD Cert.AttentionRefIdeal.τ).loc Cert.AttentionRefIdeal.main_arg4)) (m ((c.tc : Thread Cert.AttentionRefIdeal.nD Cert.AttentionRefIdeal.τ).loc Cert.AttentionRefIdeal.main_arg7)) (y 0) (y 1) (y 3))
      ∧ r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3)
      ∧ r.2.mem ((c.tc : Thread Cert.AttentionRefIdeal.nD Cert.AttentionRefIdeal.τ).loc Cert.AttentionRefIdeal.main_arg4) = m ((c.tc : Thread Cert.AttentionRefIdeal.nD Cert.AttentionRefIdeal.τ).loc Cert.AttentionRefIdeal.main_arg4)
      ∧ r.2.mem ((c.tc : Thread Cert.AttentionRefIdeal.nD Cert.AttentionRefIdeal.τ).loc Cert.AttentionRefIdeal.main_arg5) = m ((c.tc : Thread Cert.AttentionRefIdeal.nD Cert.AttentionRefIdeal.τ).loc Cert.AttentionRefIdeal.main_arg5)
      ∧ r.2.mem ((c.tc : Thread Cert.AttentionRefIdeal.nD Cert.AttentionRefIdeal.τ).loc Cert.AttentionRefIdeal.main_arg6) = m ((c.tc : Thread Cert.AttentionRefIdeal.nD Cert.AttentionRefIdeal.τ).loc Cert.AttentionRefIdeal.main_arg6)
      ∧ r.2.mem ((c.tc : Thread Cert.AttentionRefIdeal.nD Cert.AttentionRefIdeal.τ).loc Cert.AttentionRefIdeal.main_arg7) = m ((c.tc : Thread Cert.AttentionRefIdeal.nD Cert.AttentionRefIdeal.τ).loc Cert.AttentionRefIdeal.main_arg7)) :=
  (θ_run defs _ _).mono (fun _ h c => ⟨((h.1 c).2 main_v56 (Pipeline.mem_restRefs_of main_v56 (by decide) (by decide))).trans (attn16_read m hn c),
      ((h.1 c).2 main_v41 (Pipeline.mem_restRefs_of main_v41 (by decide) (by decide))).trans (attn_read m hn c),
      ((h.1 c).2 main_v57 (Pipeline.mem_restRefs_of main_v57 (by decide) (by decide))).trans (lse_read m hn c), h.2 c⟩)
    (θ_run_and (run_main m g) (frame_of m g (dats m) (A_eq m) (run_main m g)))

end Reference

/-! ## Their agreement -/

section Both
open Cert.AttentionIdeal
open Cert.AttentionIdeal.Gen (attn lse)

theorem attn_same {a0 b0 : S2.Idx → BitVec 32} {a1 b1 : S2x24x7680x128.Idx → EReal} {a2 b2 : S2x24x3x7680x128.Idx → EReal} {a3 b3 : S2x24x960x128.Idx → EReal}
    {a4 b4 : S2x24x7680x256.Idx → EReal} {a5 b5 : S2x1536x7680.Idx → EReal} {a6 b6 : S2x24x64x1.Idx → EReal}
    (e0 : a0 = b0) (e1 : a1 = b1) (e2 : a2 = b2) (e3 : a3 = b3) (e4 : a4 = b4) (e5 : a5 = b5) (e6 : a6 = b6) :
    (fun y : S2x24x7680x64.Idx => attn a0 a1 a2 a3 a4 a5 a6 (y 0) (y 1) (y 2) (y 3)) = fun y => attn b0 b1 b2 b3 b4 b5 b6 (y 0) (y 1) (y 2) (y 3) := by
  subst e0 e1 e2 e3 e4 e5 e6; rfl

theorem lse_same {a0 b0 : S2.Idx → BitVec 32} {a1 b1 : S2x24x7680x128.Idx → EReal} {a2 b2 : S2x24x3x7680x128.Idx → EReal} {a3 b3 : S2x24x960x128.Idx → EReal}
    {a4 b4 : S2x24x7680x256.Idx → EReal} {a7 b7 : S2x24x1x7680.Idx → EReal}
    (e0 : a0 = b0) (e1 : a1 = b1) (e2 : a2 = b2) (e3 : a3 = b3) (e4 : a4 = b4) (e7 : a7 = b7) :
    (fun y : S2x24x1x7680.Idx => lse a0 a1 a2 a3 a4 a7 (y 0) (y 1) (y 3)) = fun y => lse b0 b1 b2 b3 b4 b7 (y 0) (y 1) (y 3) := by
  subst e0 e1 e2 e3 e4 e7; rfl

end Both

theorem algebraic_claim : @Cert.algebraic_AttentionIdeal_AttentionRefIdeal Cert.AttentionIdeal.Gen.facts Cert.AttentionRefIdeal.Gen.facts Cert.Pre_chunks_in_range.Gen.facts := by
  intro m g m' g' hpre hagree
  have hn : ∀ (c : Dev Cert.AttentionRefIdeal.nD) (b : Fin 2), Cert.AttentionIdeal.Gen.seen (m' ((c.tc : Thread Cert.AttentionRefIdeal.nD Cert.AttentionRefIdeal.τ).loc Cert.AttentionRefIdeal.main_arg0)) b ≤ 7680 := fun c b => by
    have e := seen_le m hpre c b
    rw [← (hagree c).1] at e
    exact e
  refine ⟨fun c => Cert.AttentionIdeal.Gen.attnArr m c, fun c => Cert.AttentionIdeal.Gen.attnArr m c, fun c => Cert.AttentionIdeal.Gen.lseArr m c, run_kernel m g hpre, ?_⟩
  refine (θ_run Cert.AttentionRefIdeal.defs _ _).mono (fun _ h c => ?_) (run_reference m' g' hn)
  obtain ⟨e0, e1, e2, e3, e4, e5, e6, e7⟩ := hagree c
  obtain ⟨h0, h1, h2, ha⟩ := h c
  exact ⟨h0.trans (attn_same e0 e1 e2 e3 e4 e5 e6), h1.trans (attn_same e0 e1 e2 e3 e4 e5 e6), h2.trans (lse_same e0 e1 e2 e3 e4 e7), ha⟩

theorem claim : Cert.Claim :=
  ⟨Cert.Attention.Gen.facts, Cert.AttentionIdeal.Gen.facts, Cert.AttentionRefIdeal.Gen.facts, Cert.OutProj.Gen.facts, Cert.OutProjIdeal.Gen.facts, Cert.OutProjRefIdeal.Gen.facts, Cert.Pre_chunks_in_range.Gen.facts,
    fun m ρ h => Cert.Attention.Gen.frame m ρ trivial (tblOk_Attention m h),
    fun m ρ h => Cert.AttentionIdeal.Gen.frame m ρ trivial (tblOk_AttentionIdeal m h),
    fun m ρ _ => Cert.AttentionRefIdeal.Gen.frame m ρ,
    fun m ρ _ => Cert.AttentionRefIdeal.Gen.frame m ρ,
    fun m ρ _ => Cert.OutProj.Gen.frame m ρ,
    fun m ρ _ => Cert.OutProjIdeal.Gen.frame m ρ,
    fun m ρ _ => Cert.OutProjRefIdeal.Gen.frame m ρ,
    trivial,
    algebraic_claim,
    trivial,
    Cert.OutProjAgree.agree⟩

end Cert.Proof

end
